-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg3" .f32 0xBB80402B#32 ((Real.log (255 / 256) : ℝ) : EReal)
  ∧ IdealRules.named_const.Statement Cert.KernelIdeal.κ "lg4" .f32 0xBB00200B#32 ((Real.log (511 / 512) : ℝ) : EReal)
  ∧ IdealRules.named_const.Statement Cert.KernelIdeal.κ "lg5" .f32 0xBA801003#32 ((Real.log (1023 / 1024) : ℝ) : EReal)
  ∧ IdealRules.named_const.Statement Cert.KernelIdeal.κ "lg6" .f32 0xBA000801#32 ((Real.log (2047 / 2048) : ℝ) : EReal)
  ∧ IdealRules.named_const.Statement Cert.KernelIdeal.κ "lg7" .f32 0xB9800400#32 ((Real.log (4095 / 4096) : ℝ) : EReal)
  ∧ IdealRules.named_const.Statement Cert.KernelIdeal.κ "sd0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "sd1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "sd2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "sd3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  ∧ IdealRules.named_const.Statement Cert.KernelIdeal.κ "sd4" .f32 0x3F1B322A#32 ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.KernelIdeal.κ "sd5" .f32 0x3F475941#32 ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelIdeal.κ "sd6" .f32 0x3F61E98D#32 ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  ∧ IdealRules.named_const.Statement Cert.KernelIdeal.κ "sd7" .f32 0x3F707CE8#32 ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "qs" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v22_6)) (v7 : (c : Dev Cert.Kernel2Ideal.nD) → Buf (Elt Ideal) ((c.tc : Thread Cert.Kernel2Ideal.nD Cert.Kernel2Ideal.τ).loc Cert.Kernel2Ideal.main_v22_7)) (v8 : (c : Dev Cert.Kernel2Ideal.nD) → Buf (Elt Ideal) ((c.tc : Thread Cert.Kernel2Ideal.nD Cert.Kernel2Ideal.τ).loc Cert.Kernel2Ideal.main_v22_8)) (v9 : (c : Dev Cert.Kernel2Ideal.nD) → Buf (Elt Ideal) ((c.tc : Thread Cert.Kernel2Ideal.nD Cert.Kernel2Ideal.τ).loc Cert.Kernel2Ideal.main_v22_9)) (v10 : (c : Dev Cert.Kernel2Ideal.nD) → Buf (Elt Ideal) ((c.tc : Thread Cert.Kernel2Ideal.nD Cert.Kernel2Ideal.τ).loc Cert.Kernel2Ideal.main_v22_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v22_6) = v6 c
          ∧ r.2.mem ((c.tc : Thread Cert.Kernel2Ideal.nD Cert.Kernel2Ideal.τ).loc Cert.Kernel2Ideal.main_v22_7) = v7 c
          ∧ r.2.mem ((c.tc : Thread Cert.Kernel2Ideal.nD Cert.Kernel2Ideal.τ).loc Cert.Kernel2Ideal.main_v22_8) = v8 c
          ∧ r.2.mem ((c.tc : Thread Cert.Kernel2Ideal.nD Cert.Kernel2Ideal.τ).loc Cert.Kernel2Ideal.main_v22_9) = v9 c
          ∧ r.2.mem ((c.tc : Thread Cert.Kernel2Ideal.nD Cert.Kernel2Ideal.τ).loc Cert.Kernel2Ideal.main_v22_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_v105) = v1 c
          ∧ r.2.mem ((c.tc : Thread Cert.Reference2Ideal.nD Cert.Reference2Ideal.τ).loc Cert.Reference2Ideal.main_v107) = v2 c
          ∧ r.2.mem ((c.tc : Thread Cert.Reference2Ideal.nD Cert.Reference2Ideal.τ).loc Cert.Reference2Ideal.main_v109) = v3 c
          ∧ r.2.mem ((c.tc : Thread Cert.Reference2Ideal.nD Cert.Reference2Ideal.τ).loc Cert.Reference2Ideal.main_v111) = v4 c
          ∧ r.2.mem ((c.tc : Thread Cert.Reference2Ideal.nD Cert.Reference2Ideal.τ).loc Cert.Reference2Ideal.main_v113) = v5 c
          ∧ r.2.mem ((c.tc : Thread Cert.Reference2Ideal.nD Cert.Reference2Ideal.τ).loc Cert.Reference2Ideal.main_v116) = v6 c
          ∧ r.2.mem ((c.tc : Thread Cert.Reference2Ideal.nD Cert.Reference2Ideal.τ).loc Cert.Reference2Ideal.main_v124) = v7 c
          ∧ r.2.mem ((c.tc : Thread Cert.Reference2Ideal.nD Cert.Reference2Ideal.τ).loc Cert.Reference2Ideal.main_v132) = v8 c
          ∧ r.2.mem ((c.tc : Thread Cert.Reference2Ideal.nD Cert.Reference2Ideal.τ).loc Cert.Reference2Ideal.main_v134) = v9 c
          ∧ r.2.mem ((c.tc : Thread Cert.Reference2Ideal.nD Cert.Reference2Ideal.τ).loc Cert.Reference2Ideal.main_v136) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "qs" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)) (v3 : (c : Dev Cert.Kernel3Ideal.nD) → Buf (Elt Ideal) ((c.tc : Thread Cert.Kernel3Ideal.nD Cert.Kernel3Ideal.τ).loc Cert.Kernel3Ideal.main_v34_3)) (v4 : (c : Dev Cert.Kernel3Ideal.nD) → Buf (Elt Ideal) ((c.tc : Thread Cert.Kernel3Ideal.nD Cert.Kernel3Ideal.τ).loc Cert.Kernel3Ideal.main_v34_4)) (v5 : (c : Dev Cert.Kernel3Ideal.nD) → Buf (Elt Ideal) ((c.tc : Thread Cert.Kernel3Ideal.nD Cert.Kernel3Ideal.τ).loc Cert.Kernel3Ideal.main_v34_5)) (v6 : (c : Dev Cert.Kernel3Ideal.nD) → Buf (Elt Ideal) ((c.tc : Thread Cert.Kernel3Ideal.nD Cert.Kernel3Ideal.τ).loc Cert.Kernel3Ideal.main_v34_6)) (v7 : (c : Dev Cert.Kernel3Ideal.nD) → Buf (Elt Ideal) ((c.tc : Thread Cert.Kernel3Ideal.nD Cert.Kernel3Ideal.τ).loc Cert.Kernel3Ideal.main_v34_7)) (v8 : (c : Dev Cert.Kernel3Ideal.nD) → Buf (Elt Ideal) ((c.tc : Thread Cert.Kernel3Ideal.nD Cert.Kernel3Ideal.τ).loc Cert.Kernel3Ideal.main_v34_8)) (v9 : (c : Dev Cert.Kernel3Ideal.nD) → Buf (Elt Ideal) ((c.tc : Thread Cert.Kernel3Ideal.nD Cert.Kernel3Ideal.τ).loc Cert.Kernel3Ideal.main_v34_9)) (v10 : (c : Dev Cert.Kernel3Ideal.nD) → Buf (Elt Ideal) ((c.tc : Thread Cert.Kernel3Ideal.nD Cert.Kernel3Ideal.τ).loc Cert.Kernel3Ideal.main_v34_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_v34_3) = v3 c
          ∧ r.2.mem ((c.tc : Thread Cert.Kernel3Ideal.nD Cert.Kernel3Ideal.τ).loc Cert.Kernel3Ideal.main_v34_4) = v4 c
          ∧ r.2.mem ((c.tc : Thread Cert.Kernel3Ideal.nD Cert.Kernel3Ideal.τ).loc Cert.Kernel3Ideal.main_v34_5) = v5 c
          ∧ r.2.mem ((c.tc : Thread Cert.Kernel3Ideal.nD Cert.Kernel3Ideal.τ).loc Cert.Kernel3Ideal.main_v34_6) = v6 c
          ∧ r.2.mem ((c.tc : Thread Cert.Kernel3Ideal.nD Cert.Kernel3Ideal.τ).loc Cert.Kernel3Ideal.main_v34_7) = v7 c
          ∧ r.2.mem ((c.tc : Thread Cert.Kernel3Ideal.nD Cert.Kernel3Ideal.τ).loc Cert.Kernel3Ideal.main_v34_8) = v8 c
          ∧ r.2.mem ((c.tc : Thread Cert.Kernel3Ideal.nD Cert.Kernel3Ideal.τ).loc Cert.Kernel3Ideal.main_v34_9) = v9 c
          ∧ r.2.mem ((c.tc : Thread Cert.Kernel3Ideal.nD Cert.Kernel3Ideal.τ).loc Cert.Kernel3Ideal.main_v34_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v109) = v2 c
          ∧ r.2.mem ((c.tc : Thread Cert.Reference3Ideal.nD Cert.Reference3Ideal.τ).loc Cert.Reference3Ideal.main_v111) = v3 c
          ∧ r.2.mem ((c.tc : Thread Cert.Reference3Ideal.nD Cert.Reference3Ideal.τ).loc Cert.Reference3Ideal.main_v113) = v4 c
          ∧ r.2.mem ((c.tc : Thread Cert.Reference3Ideal.nD Cert.Reference3Ideal.τ).loc Cert.Reference3Ideal.main_v115) = v5 c
          ∧ r.2.mem ((c.tc : Thread Cert.Reference3Ideal.nD Cert.Reference3Ideal.τ).loc Cert.Reference3Ideal.main_v118) = v6 c
          ∧ r.2.mem ((c.tc : Thread Cert.Reference3Ideal.nD Cert.Reference3Ideal.τ).loc Cert.Reference3Ideal.main_v126) = v7 c
          ∧ r.2.mem ((c.tc : Thread Cert.Reference3Ideal.nD Cert.Reference3Ideal.τ).loc Cert.Reference3Ideal.main_v134) = v8 c
          ∧ r.2.mem ((c.tc : Thread Cert.Reference3Ideal.nD Cert.Reference3Ideal.τ).loc Cert.Reference3Ideal.main_v135) = v9 c
          ∧ r.2.mem ((c.tc : Thread Cert.Reference3Ideal.nD Cert.Reference3Ideal.τ).loc Cert.Reference3Ideal.main_v136) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16384x512 : Shape := ⟨2, ![16384, 512]⟩
abbrev S16384x1024 : Shape := ⟨2, ![16384, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x512 .bf16) (main_arg1 : FVec F S16384x512 .bf16) (main_arg2 : FVec F S16384x1024 .bf16) (main_arg3 : FVec F S16384x1024 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x1024 .f32 := (extf .f32 · bitsLt_bf16_f32) main_arg2
  let main_v12 : FVec F S16384x1024 .f32 := Host.absf main_v11
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_c_3 : IVec S_ 1 := constantI S_ 1 1#1
  let main_v15 : IVec S_ 1 := (fun x v => Host.reduce IntOp.andi x v reducesTo_S16384x1024_S_d0_1 h_S_) main_v14 main_c_3
  let main_v16 : IVec S_ 1 := andi main_v10 main_v15
  main_v16
-- ==== Kernel.lean ====
abbrev S16384x512 : Shape := ⟨2, ![16384, 512]⟩
abbrev S16384x1024 : Shape := ⟨2, ![16384, 1024]⟩
abbrev S_ : Shape := ⟨0, ![]⟩
abbrev S2x4x128x128 : Shape := ⟨4, ![2, 4, 128, 128]⟩
abbrev S256x512 : Shape := ⟨2, ![256, 512]⟩
abbrev S256x1024 : Shape := ⟨2, ![256, 1024]⟩
abbrev S1x4x128x128 : Shape := ⟨4, ![1, 4, 128, 128]⟩
abbrev S8x256x256 : Shape := ⟨3, ![8, 256, 256]⟩
abbrev S4x2x256x128 : Shape := ⟨4, ![4, 2, 256, 128]⟩
abbrev S256x128 : Shape := ⟨2, ![256, 128]⟩
abbrev S256x256 : Shape := ⟨2, ![256, 256]⟩
abbrev S1x256x256 : Shape := ⟨3, ![1, 256, 256]⟩
abbrev S1x1x256x128 : Shape := ⟨4, ![1, 1, 256, 128]⟩
abbrev S128x128 : Shape := ⟨2, ![128, 128]⟩
abbrev S1x1x128x128 : Shape := ⟨4, ![1, 1, 128, 128]⟩
abbrev S256 : Shape := ⟨1, ![256]⟩
abbrev S256x1 : Shape := ⟨2, ![256, 1]⟩

abbrev nBuf : Space → Nat
  | .hbm => 8
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S_, .f32⟩
  | .hbm, ⟨5, _⟩ => ⟨S2x4x128x128, .f32⟩
  | .hbm, ⟨6, _⟩ => ⟨S16384x1024, .bf16⟩
  | .hbm, ⟨7, _⟩ => ⟨S2x4x128x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x4x128x128, .f32⟩
  | .local _ .vmem, ⟨9, _⟩ => ⟨S1x4x128x128, .f32⟩
  | .local _ .vmem, ⟨10, _⟩ => ⟨S256x1024, .bf16⟩
  | .local _ .vmem, ⟨11, _⟩ => ⟨S256x1024, .bf16⟩
  | .local _ .vmem, ⟨12, _⟩ => ⟨S1x4x128x128, .f32⟩
  | .local _ .vmem, ⟨13, _⟩ => ⟨S1x4x128x128, .f32⟩
  | .local _ .vmem, ⟨14, _⟩ => ⟨S1x4x128x128, .f32⟩
  | .local _ .vmem, ⟨15, _⟩ => ⟨S8x256x256, .f32⟩
  | .local _ .vmem, ⟨16, _⟩ => ⟨S4x2x256x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v355 : BitVec 1 := Scalar.cmpi .eq arg1 c31_i32
  let v356 : BitVec 32 := Scalar.extui v355
  let c0_i32_251 : BitVec 32 := 0#32
  let v357 : BitVec 1 := Scalar.cmpi .ne v356 c0_i32_251
  v357

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lg4" => some ((Real.log (511 / 512) : ℝ) : EReal)
  | "lg5" => some ((Real.log (1023 / 1024) : ℝ) : EReal)
  | "lg6" => some ((Real.log (2047 / 2048) : ℝ) : EReal)
  | "lg7" => some ((Real.log (4095 / 4096) : ℝ) : EReal)
  | "sd0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "sd1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "sd2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "sd3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "sd4" => some ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "sd5" => some ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "sd6" => some ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  | "sd7" => some ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | _ => none
-- ==== ReferenceIdeal.lean ====
abbrev S16384x512 : Shape := ⟨2, ![16384, 512]⟩
abbrev S16384x1024 : Shape := ⟨2, ![16384, 1024]⟩
abbrev S2x8192x8x64 : Shape := ⟨4, ![2, 8192, 8, 64]⟩
abbrev S2x8192x8x128 : Shape := ⟨4, ![2, 8192, 8, 128]⟩
abbrev S8 : Shape := ⟨1, ![8]⟩
abbrev S_ : Shape := ⟨0, ![]⟩
abbrev S2x8x64x128 : Shape := ⟨4, ![2, 8, 64, 128]⟩
abbrev S2x128x64x8x64 : Shape := ⟨5, ![2, 128, 64, 8, 64]⟩
abbrev S128x2x8x64x64 : Shape := ⟨5, ![128, 2, 8, 64, 64]⟩
abbrev S2x128x64x8x128 : Shape := ⟨5, ![2, 128, 64, 8, 128]⟩
abbrev S128x2x8x64x128 : Shape := ⟨5, ![128, 2, 8, 64, 128]⟩
abbrev S1x2x8x64x64 : Shape := ⟨5, ![1, 2, 8, 64, 64]⟩
abbrev S2x8x64x64 : Shape := ⟨4, ![2, 8, 64, 64]⟩
abbrev S1x2x8x64x128 : Shape := ⟨5, ![1, 2, 8, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S1x8x64x64 : Shape := ⟨4, ![1, 8, 64, 64]⟩
abbrev S1x8x64x1 : Shape := ⟨4, ![1, 8, 64, 1]⟩
abbrev S1x8x1x1 : Shape := ⟨4, ![1, 8, 1, 1]⟩
abbrev S2x8192x8 : Shape := ⟨3, ![2, 8192, 8]⟩
abbrev S2x8192x8x1 : Shape := ⟨4, ![2, 8192, 8, 1]⟩
abbrev S2x4x128x128 : Shape := ⟨4, ![2, 4, 128, 128]⟩

abbrev nBuf : Space → Nat
  | .hbm => 153
  | .vmem => 0
  | .smem => 0
  | _ => 0

abbrev hbmTy0_0 (i : Nat) : BufTy := match i % 128 with
  | 0 => ⟨S16384x512, .bf16⟩
  | 1 => ⟨S16384x512, .bf16⟩
  | 2 => ⟨S16384x1024, .bf16⟩
  | 3 => ⟨S16384x1024, .bf16⟩
  | 4 => ⟨S16384x512, .f32⟩
  | 5 => ⟨S2x8192x8x64, .f32⟩
  | 6 => ⟨S16384x512, .f32⟩
  | 7 => ⟨S2x8192x8x64, .f32⟩
  | 8 => ⟨S16384x1024, .f32⟩
  | 9 => ⟨S2x8192x8x128, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S2x8x64x128, .f32⟩
  | 23 => ⟨S2x128x64x8x64, .f32⟩
  | 24 => ⟨S128x2x8x64x64, .f32⟩
  | 25 => ⟨S2x128x64x8x64, .f32⟩
  | 26 => ⟨S128x2x8x64x64, .f32⟩
  | 27 => ⟨S2x128x64x8x128, .f32⟩
  | 28 => ⟨S128x2x8x64x128, .f32⟩
  | 29 => ⟨S_, .f32⟩
  | 30 => ⟨S128x2x8x64x128, .f32⟩
  | 31 => ⟨S_, .i32⟩
  | 32 => ⟨S128x2x8x64x64, .f32⟩
  | 33 => ⟨S128x2x8x64x64, .f32⟩
  | 34 => ⟨S128x2x8x64x128, .f32⟩
  | 35 => ⟨S8, .f32⟩
  | 36 => ⟨S_, .i32⟩
  | 37 => ⟨S2x8x64x128, .f32⟩
  | 38 => ⟨S128x2x8x64x128, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x2x8x64x64, .f32⟩
  | 46 => ⟨S2x8x64x64, .f32⟩
  | 47 => ⟨S_, .i32⟩
  | 48 => ⟨S_, .i32⟩
  | 49 => ⟨S_, .i32⟩
  | 50 => ⟨S_, .i32⟩
  | 51 => ⟨S1x2x8x64x64, .f32⟩
  | 52 => ⟨S2x8x64x64, .f32⟩
  | 53 => ⟨S_, .i32⟩
  | 54 => ⟨S_, .i32⟩
  | 55 => ⟨S_, .i32⟩
  | 56 => ⟨S_, .i32⟩
  | 57 => ⟨S1x2x8x64x128, .f32⟩
  | 58 => ⟨S2x8x64x128, .f32⟩
  | 59 => ⟨S64, .f32⟩
  | 60 => ⟨S64x1, .f32⟩
  | 61 => ⟨S1x64, .f32⟩
  | 62 => ⟨S64x64, .f32⟩
  | 63 => ⟨S64x64, .f32⟩
  | 64 => ⟨S64x64, .f32⟩
  | 65 => ⟨S_, .f32⟩
  | 66 => ⟨S64x64, .f32⟩
  | 67 => ⟨S64x64, .i1⟩
  | 68 => ⟨S8x1x1, .f32⟩
  | 69 => ⟨S_, .f32⟩
  | 70 => ⟨S64x64, .f32⟩
  | 71 => ⟨S64x64, .f32⟩
  | 72 => ⟨S1x64x64, .f32⟩
  | 73 => ⟨S8x64x64, .f32⟩
  | 74 => ⟨S8x64x64, .f32⟩
  | 75 => ⟨S8x64x64, .f32⟩
  | 76 => ⟨S8x64x64, .f32⟩
  | 77 => ⟨S_, .f32⟩
  | 78 => ⟨S_, .f32⟩
  | 79 => ⟨S8x64x64, .i1⟩
  | 80 => ⟨S8x64x64, .f32⟩
  | 81 => ⟨S8x64x64, .f32⟩
  | 82 => ⟨S8x1, .f32⟩
  | 83 => ⟨S_, .f32⟩
  | 84 => ⟨S64, .f32⟩
  | 85 => ⟨S64, .f32⟩
  | 86 => ⟨S1x64, .f32⟩
  | 87 => ⟨S8x64, .f32⟩
  | 88 => ⟨S8x64, .f32⟩
  | 89 => ⟨S8x64, .f32⟩
  | 90 => ⟨S8x64, .f32⟩
  | 91 => ⟨S8x64x1, .f32⟩
  | 92 => ⟨S8x1, .f32⟩
  | 93 => ⟨S_, .f32⟩
  | 94 => ⟨S64, .f32⟩
  | 95 => ⟨S64, .f32⟩
  | 96 => ⟨S1x64, .f32⟩
  | 97 => ⟨S8x64, .f32⟩
  | 98 => ⟨S8x64, .f32⟩
  | 99 => ⟨S8x64, .f32⟩
  | 100 => ⟨S8x64, .f32⟩
  | 101 => ⟨S8x64x1, .f32⟩
  | 102 => ⟨S_, .f32⟩
  | 103 => ⟨S8, .f32⟩
  | 104 => ⟨S8, .f32⟩
  | 105 => ⟨S8, .f32⟩
  | 106 => ⟨S8x1x1, .f32⟩
  | 107 => ⟨S2x8x64x64, .f32⟩
  | 108 => ⟨S1x8x64x64, .f32⟩
  | 109 => ⟨S2x8x64x64, .f32⟩
  | 110 => ⟨S2x8x64x64, .f32⟩
  | 111 => ⟨S2x8x64x128, .f32⟩
  | 112 => ⟨S1x8x64x1, .f32⟩
  | 113 => ⟨S2x8x64x64, .f32⟩
  | 114 => ⟨S2x8x64x64, .f32⟩
  | 115 => ⟨S2x8x64x128, .f32⟩
  | 116 => ⟨S1x8x1x1, .f32⟩
  | 117 => ⟨S2x8x64x128, .f32⟩
  | 118 => ⟨S2x8x64x128, .f32⟩
  | 119 => ⟨S1x8x64x1, .f32⟩
  | 120 => ⟨S2x8x64x64, .f32⟩
  | 121 => ⟨S2x8x64x64, .f32⟩
  | 122 => ⟨S2x8x64x128, .f32⟩
  | 123 => ⟨S2x8x64x128, .f32⟩
  | 124 => ⟨S2x8x64x128, .f32⟩
  | 125 => ⟨S1x2x8x64x128, .f32⟩
  | 126 => ⟨S_, .i32⟩
  | 127 => ⟨S_, .i32⟩
  | _ => ⟨S16384x512, .bf16⟩

abbrev hbmTy0_1 (i : Nat) : BufTy := match i % 128 with
  | 0 => ⟨S_, .i32⟩
  | 1 => ⟨S_, .i32⟩
  | 2 => ⟨S128x2x8x64x128, .f32⟩
  | 3 => ⟨S_, .i32⟩
  | 4 => ⟨S_, .i32⟩
  | 5 => ⟨S2x128x64x8x128, .f32⟩
  | 6 => ⟨S2x8192x8x128, .f32⟩
  | 7 => ⟨S2x8192x8x128, .f32⟩
  | 8 => ⟨S_, .f32⟩
  | 9 => ⟨S2x8192x8, .f32⟩
  | 10 => ⟨S2x8192x8x1, .f32⟩
  | 11 => ⟨S_, .f32⟩
  | 12 => ⟨S2x8192x8x1, .f32⟩
  | 13 => ⟨S2x8192x8x1, .f32⟩
  | 14 => ⟨S_, .f32⟩
  | 15 => ⟨S2x8192x8x1, .f32⟩
  | 16 => ⟨S2x8192x8x1, .f32⟩
  | 17 => ⟨S2x8192x8x1, .f32⟩
  | 18 => ⟨S2x8192x8x128, .f32⟩
  | 19 => ⟨S2x8192x8x128, .f32⟩
  | 20 => ⟨S16384x1024, .f32⟩
  | 21 => ⟨S16384x1024, .f32⟩
  | 22 => ⟨S16384x1024, .f32⟩
  | 23 => ⟨S16384x1024, .bf16⟩
  | 24 => ⟨S2x4x128x128, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_c : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_v22_6 : Ref sig .tc := ⟨.hbm, 38, rfl⟩
abbrev main_while0c_c_13 : Ref sig .tc := ⟨.hbm, 39, rfl⟩
abbrev main_while0c_v40 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v40 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v41 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_cst_13 : Ref sig .tc := ⟨.hbm, 65, rfl⟩
abbrev main_while0b_v49 : Ref sig .tc := ⟨.hbm, 66, rfl⟩
abbrev main_while0b_v50 : Ref sig .tc := ⟨.hbm, 67, rfl⟩
abbrev main_while0b_v51 : Ref sig .tc := ⟨.hbm, 68, rfl⟩
abbrev main_while0b_cst_14 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_cst_15 : Ref sig .tc := ⟨.hbm, 77, rfl⟩
abbrev main_while0b_call3_v0 : Ref sig .tc := ⟨.hbm, 78, rfl⟩
abbrev main_while0b_call3_v1 : Ref sig .tc := ⟨.hbm, 79, rfl⟩
abbrev main_while0b_call3_v2 : Ref sig .tc := ⟨.hbm, 80, rfl⟩
abbrev main_while0b_v59 : Ref sig .tc := ⟨.hbm, 81, rfl⟩
abbrev main_while0b_v60 : Ref sig .tc := ⟨.hbm, 82, rfl⟩
abbrev main_while0b_cst_16 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_v64 : Ref sig .tc := ⟨.hbm, 87, rfl⟩
abbrev main_while0b_v65 : Ref sig .tc := ⟨.hbm, 88, rfl⟩
abbrev main_while0b_v66 : Ref sig .tc := ⟨.hbm, 89, rfl⟩
abbrev main_while0b_v67 : Ref sig .tc := ⟨.hbm, 90, rfl⟩
abbrev main_while0b_v68 : Ref sig .tc := ⟨.hbm, 91, rfl⟩
abbrev main_while0b_v69 : Ref sig .tc := ⟨.hbm, 92, rfl⟩
abbrev main_while0b_cst_17 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_v75 : Ref sig .tc := ⟨.hbm, 99, rfl⟩
abbrev main_while0b_v76 : Ref sig .tc := ⟨.hbm, 100, rfl⟩
abbrev main_while0b_v77 : Ref sig .tc := ⟨.hbm, 101, rfl⟩
abbrev main_while0b_cst_18 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_v91 : Ref sig .tc := ⟨.hbm, 116, rfl⟩
abbrev main_while0b_v92 : Ref sig .tc := ⟨.hbm, 117, rfl⟩
abbrev main_while0b_v93 : Ref sig .tc := ⟨.hbm, 118, rfl⟩
abbrev main_while0b_v94 : Ref sig .tc := ⟨.hbm, 119, rfl⟩
abbrev main_while0b_v95 : Ref sig .tc := ⟨.hbm, 120, rfl⟩
abbrev main_while0b_v96 : Ref sig .tc := ⟨.hbm, 121, rfl⟩
abbrev main_while0b_v97 : Ref sig .tc := ⟨.hbm, 122, rfl⟩
abbrev main_while0b_v98 : Ref sig .tc := ⟨.hbm, 123, rfl⟩
abbrev main_while0b_v99 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v100 : Ref sig .tc := ⟨.hbm, 130, rfl⟩
abbrev main_while0b_c_19 : Ref sig .tc := ⟨.hbm, 131, rfl⟩
abbrev main_while0b_v101 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_cst_4 : Ref sig .tc := ⟨.hbm, 136, rfl⟩
abbrev main_v26 : Ref sig .tc := ⟨.hbm, 137, rfl⟩
abbrev main_v27 : Ref sig .tc := ⟨.hbm, 138, rfl⟩
abbrev main_cst_5 : Ref sig .tc := ⟨.hbm, 139, rfl⟩
abbrev main_v28 : Ref sig .tc := ⟨.hbm, 140, rfl⟩
abbrev main_v29 : Ref sig .tc := ⟨.hbm, 141, rfl⟩
abbrev main_cst_6 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S2x6144 : Shape := ⟨2, ![2, 6144]⟩
abbrev S1024 : Shape := ⟨1, ![1024]⟩
abbrev S1024x6656 : Shape := ⟨2, ![1024, 6656]⟩
abbrev S2x6x1x1024 : Shape := ⟨4, ![2, 6, 1, 1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x1024 : Shape := ⟨2, ![16384, 1024]⟩
abbrev S1x1024 : Shape := ⟨2, ![1, 1024]⟩
abbrev S16384x512 : Shape := ⟨2, ![16384, 512]⟩
abbrev S1536x512 : Shape := ⟨2, ![1536, 512]⟩
abbrev S256x1024 : Shape := ⟨2, ![256, 1024]⟩
abbrev S1x6x1x1024 : Shape := ⟨4, ![1, 6, 1, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1x1x1x1024 : Shape := ⟨4, ![1, 1, 1, 1024]⟩
abbrev S1024x512 : Shape := ⟨2, ![1024, 512]⟩
abbrev S1024x1024 : Shape := ⟨2, ![1024, 1024]⟩

abbrev nBuf : Space → Nat
  | .hbm => 39
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x6656, .f32⟩
  | .hbm, ⟨4, _⟩ => ⟨S2x6x1x1024, .f32⟩
  | .hbm, ⟨5, _⟩ => ⟨S8192, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x128, .f32⟩
  | .hbm, ⟨22, _⟩ => ⟨S8192x32, .f32⟩
  | .hbm, ⟨23, _⟩ => ⟨S8192x32, .f32⟩
  | .hbm, ⟨24, _⟩ => ⟨S8192x128, .f32⟩
  | .hbm, ⟨25, _⟩ => ⟨S16384x1024, .f32⟩
  | .hbm, ⟨26, _⟩ => ⟨S1x1024, .f32⟩
  | .hbm, ⟨27, _⟩ => ⟨S1024x6656, .bf16⟩
  | .hbm, ⟨28, _⟩ => ⟨S16384x512, .bf16⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S16384x512, .bf16⟩
  | .hbm, ⟨33, _⟩ => ⟨S16384x1024, .bf16⟩
  | .hbm, ⟨34, _⟩ => ⟨S16384x1024, .bf16⟩
  | .hbm, ⟨35, _⟩ => ⟨S16384x1024, .bf16⟩
  | .hbm, ⟨36, _⟩ => ⟨S16384x1024, .bf16⟩
  | .hbm, ⟨37, _⟩ => ⟨S1536x512, .f32⟩
  | .hbm, ⟨38, _⟩ => ⟨S1536x512, .f32⟩
  | .local _ .vmem, ⟨0, _⟩ => ⟨S256x1024, .f32⟩
  | .local _ .vmem, ⟨1, _⟩ => ⟨S256x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1024x6656, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v22_2 : Ref sig .tc := ⟨.hbm, 30, rfl⟩
abbrev main_v22_3 : Ref sig .tc := ⟨.hbm, 31, rfl⟩
abbrev main_v22_4 : Ref sig .tc := ⟨.hbm, 32, rfl⟩
abbrev main_v22_5 : Ref sig .tc := ⟨.hbm, 33, rfl⟩
abbrev main_v22_6 : Ref sig .tc := ⟨.hbm, 34, rfl⟩
abbrev main_v22_7 : Ref sig .tc := ⟨.hbm, 35, rfl⟩
abbrev main_v22_8 : Ref sig .tc := ⟨.hbm, 36, rfl⟩
abbrev main_v22_9 : Ref sig .tc := ⟨.hbm, 37, rfl⟩
abbrev main_v22_10 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v16 c3_i32
  let c30_i32 : BitVec 32 := 30#32
  let v28 : BitVec 32 := Scalar.subi v26 c30_i32
  let c1_i32_10 : BitVec 32 := 1#32
  let v29 : BitVec 32 := Scalar.addi v28 c1_i32_10
  let c0_i32_11 : BitVec 32 := 0#32
  let v30 : BitVec 32 := Scalar.maxsi v29 c0_i32_11
  let v31 : BitVec 32 := Scalar.addi v27 v30
  let c0_i32_12 : BitVec 32 := 0#32
  let c0_i32_13 : BitVec 32 := 0#32
  ![v31.toNat, c0_i32_12.toNat]

def cc0_transform_16 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.muli v16 c3_i32
  let c30_i32 : BitVec 32 := 30#32
  let v28 : BitVec 32 := Scalar.subi v26 c30_i32
  let c1_i32_10 : BitVec 32 := 1#32
  let v29 : BitVec 32 := Scalar.addi v28 c1_i32_10
  let c0_i32_11 : BitVec 32 := 0#32
  let v30 : BitVec 32 := Scalar.maxsi v29 c0_i32_11
  let v31 : BitVec 32 := Scalar.addi v27 v30
  let c0_i32_12 : BitVec 32 := 0#32
  let c0_i32_13 : BitVec 32 := 0#32
  ![v31.toNat, c0_i32_12.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2Ideal.lean ====
variable {F : FTy → Type} [FloatOps F] [Named F]
def κ : String → Option EReal := fun
  | "qs" => some (((1 / 8) * (Real.log 2)⁻¹ : ℝ) : EReal)
  | _ => none
-- ==== Reference2Ideal.lean ====
abbrev S2x8192x1024 : Shape := ⟨3, ![2, 8192, 1024]⟩
abbrev S2x6144 : Shape := ⟨2, ![2, 6144]⟩
abbrev S1024 : Shape := ⟨1, ![1024]⟩
abbrev S1024x6656 : Shape := ⟨2, ![1024, 6656]⟩
abbrev S8192 : Shape := ⟨1, ![8192]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6656 : Shape := ⟨3, ![2, 8192, 6656]⟩
abbrev S2x8192x512 : Shape := ⟨3, ![2, 8192, 512]⟩
abbrev S2x8192x8x64 : Shape := ⟨4, ![2, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S16384x512 : Shape := ⟨2, ![16384, 512]⟩
abbrev S16384x1024 : Shape := ⟨2, ![16384, 1024]⟩
abbrev S2x768x512 : Shape := ⟨3, ![2, 768, 512]⟩
abbrev S1536x512 : Shape := ⟨2, ![1536, 512]⟩

abbrev nBuf : Space → Nat
  | .hbm => 164
  | .vmem => 0
  | .smem => 0
  | _ => 0

abbrev hbmTy0_0 (i : Nat) : BufTy := match i % 128 with
  | 0 => ⟨S2x8192x1024, .f32⟩
  | 1 => ⟨S2x6144, .f32⟩
  | 2 => ⟨S1024, .f32⟩
  | 3 => ⟨S1024x6656, .f32⟩
  | 4 => ⟨S8192, .f32⟩
  | 5 => ⟨S2x1x6144, .f32⟩
  | 6 => ⟨S2x1x1024, .f32⟩
  | 7 => ⟨S2x1x1024, .f32⟩
  | 8 => ⟨S2x1x1024, .f32⟩
  | 9 => ⟨S2x1x1024, .f32⟩
  | 10 => ⟨S2x1x1024, .f32⟩
  | 11 => ⟨S2x1x1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S_, .f32⟩
  | 29 => ⟨S2x1x1024, .f32⟩
  | 30 => ⟨S2x1x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S2x8192x6656, .f32⟩
  | 36 => ⟨S2x8192x512, .f32⟩
  | 37 => ⟨S2x8192x512, .f32⟩
  | 38 => ⟨S2x8192x512, .f32⟩
  | 39 => ⟨S2x8192x512, .f32⟩
  | 40 => ⟨S2x8192x512, .f32⟩
  | 41 => ⟨S2x8192x1024, .f32⟩
  | 42 => ⟨S2x8192x1024, .f32⟩
  | 43 => ⟨S2x8192x1024, .f32⟩
  | 44 => ⟨S2x8192x1024, .f32⟩
  | 45 => ⟨S2x8192x8x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S8192x1, .f32⟩
  | 55 => ⟨S1x32, .f32⟩
  | 56 => ⟨S8192x32, .f32⟩
  | 57 => ⟨S8192x32, .f32⟩
  | 58 => ⟨S8192x32, .f32⟩
  | 59 => ⟨S8192x32, .f32⟩
  | 60 => ⟨S1x8192x1x32, .f32⟩
  | 61 => ⟨S8192x32, .f32⟩
  | 62 => ⟨S1x8192x1x32, .f32⟩
  | 63 => ⟨S2x8192x8x32, .f32⟩
  | 64 => ⟨S2x8192x8x32, .f32⟩
  | 65 => ⟨S2x8192x8x32, .f32⟩
  | 66 => ⟨S2x8192x8x32, .f32⟩
  | 67 => ⟨S2x8192x8x32, .f32⟩
  | 68 => ⟨S2x8192x8x32, .f32⟩
  | 69 => ⟨S2x8192x8x32, .f32⟩
  | 70 => ⟨S2x8192x8x32, .f32⟩
  | 71 => ⟨S2x8192x8x32, .f32⟩
  | 72 => ⟨S2x8192x8x32, .f32⟩
  | 73 => ⟨S2x8192x8x32, .f32⟩
  | 74 => ⟨S2x8192x8x32, .f32⟩
  | 75 => ⟨S2x8192x8x64, .f32⟩
  | 76 => ⟨S2x8192x8x64, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S8192x1, .f32⟩
  | 86 => ⟨S1x32, .f32⟩
  | 87 => ⟨S8192x32, .f32⟩
  | 88 => ⟨S8192x32, .f32⟩
  | 89 => ⟨S8192x32, .f32⟩
  | 90 => ⟨S8192x32, .f32⟩
  | 91 => ⟨S1x8192x1x32, .f32⟩
  | 92 => ⟨S8192x32, .f32⟩
  | 93 => ⟨S1x8192x1x32, .f32⟩
  | 94 => ⟨S2x8192x8x32, .f32⟩
  | 95 => ⟨S2x8192x8x32, .f32⟩
  | 96 => ⟨S2x8192x8x32, .f32⟩
  | 97 => ⟨S2x8192x8x32, .f32⟩
  | 98 => ⟨S2x8192x8x32, .f32⟩
  | 99 => ⟨S2x8192x8x32, .f32⟩
  | 100 => ⟨S2x8192x8x32, .f32⟩
  | 101 => ⟨S2x8192x8x32, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x64, .f32⟩
  | 107 => ⟨S_, .f32⟩
  | 108 => ⟨S2x8192x8x64, .f32⟩
  | 109 => ⟨S2x8192x8x64, .f32⟩
  | 110 => ⟨S_, .f32⟩
  | 111 => ⟨S_, .f32⟩
  | 112 => ⟨S_, .f32⟩
  | 113 => ⟨S_, .f32⟩
  | 114 => ⟨S_, .f32⟩
  | 115 => ⟨S2x8192x512, .f32⟩
  | 116 => ⟨S2x8192x512, .f32⟩
  | 117 => ⟨S16384x512, .f32⟩
  | 118 => ⟨S16384x512, .bf16⟩
  | 119 => ⟨S16384x512, .f32⟩
  | 120 => ⟨S16384x512, .bf16⟩
  | 121 => ⟨S16384x512, .f32⟩
  | 122 => ⟨S16384x512, .bf16⟩
  | 123 => ⟨S16384x512, .f32⟩
  | 124 => ⟨S16384x512, .bf16⟩
  | 125 => ⟨S16384x512, .f32⟩
  | 126 => ⟨S16384x512, .bf16⟩
  | 127 => ⟨S16384x1024, .f32⟩
  | _ => ⟨S2x8192x1024, .f32⟩

abbrev hbmTy0_1 (i : Nat) : BufTy := match i % 128 with
  | 0 => ⟨S16384x1024, .bf16⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | 10 => ⟨S16384x1024, .f32⟩
  | 11 => ⟨S16384x1024, .bf16⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S_, .f32⟩
  | 18 => ⟨S2x8192x1024, .f32⟩
  | 19 => ⟨S2x8192x1024, .f32⟩
  | 20 => ⟨S16384x1024, .f32⟩
  | 21 => ⟨S16384x1024, .bf16⟩
  | 22 => ⟨S2x8192x1024, .f32⟩
  | 23 => ⟨S2x8192x1024, .f32⟩
  | 24 => ⟨S_, .f32⟩
  | 25 => ⟨S2x8192x1024, .f32⟩
  | 26 => ⟨S2x8192x1024, .f32⟩
  | 27 => ⟨S_, .f32⟩
  | 28 => ⟨S2x8192x1024, .f32⟩
  | 29 => ⟨S2x8192x1024, .f32⟩
  | 30 => ⟨S16384x1024, .f32⟩
  | 31 => ⟨S16384x1024, .bf16⟩
  | 32 => ⟨S2x768x512, .f32⟩
  | 33 => ⟨S1536x512, .f32⟩
  | 34 => ⟨S2x768x512, .f32⟩
  | 35 => ⟨S1536x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_cst_6 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_cst_7 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_v97 : Ref sig .tc := ⟨.hbm, 111, rfl⟩
abbrev main_cst_9 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_call0_v5 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_10 : Ref sig .tc := ⟨.hbm, 142, rfl⟩
abbrev main_v119 : Ref sig .tc := ⟨.hbm, 143, rfl⟩
abbrev main_v120 : Ref sig .tc := ⟨.hbm, 144, rfl⟩
abbrev main_cst_11 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_12 : Ref sig .tc := ⟨.hbm, 152, rfl⟩
abbrev main_v127 : Ref sig .tc := ⟨.hbm, 153, rfl⟩
abbrev main_v128 : Ref sig .tc := ⟨.hbm, 154, rfl⟩
abbrev main_cst_13 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩

abbrev nD : Nat := 1
abbrev τ : Topo := Topo.v7x

variable {F : FTy → Type} [FloatOps F]
-- ==== Kernel3.lean ====
abbrev S32x16x1024 : Shape := ⟨3, ![32, 16, 1024]⟩
abbrev S32x6144 : Shape := ⟨2, ![32, 6144]⟩
abbrev S1024 : Shape := ⟨1, ![1024]⟩
abbrev S1024x6656 : Shape := ⟨2, ![1024, 6656]⟩
abbrev S32x6x1024 : Shape := ⟨3, ![32, 6, 1024]⟩
abbrev S32x16x6x1024 : Shape := ⟨4, ![32, 16, 6, 1024]⟩
abbrev S512x6x1024 : Shape := ⟨3, ![512, 6, 1024]⟩
abbrev S6x512x1024 : Shape := ⟨3, ![6, 512, 1024]⟩
abbrev S1x6x512x1024 : Shape := ⟨4, ![1, 6, 512, 1024]⟩
abbrev S16 : Shape := ⟨1, ![16]⟩
abbrev S_ : Shape := ⟨0, ![]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S16x128 : Shape := ⟨2, ![16, 128]⟩
abbrev S1x16x1x128 : Shape := ⟨4, ![1, 16, 1, 128]⟩
abbrev S16x16x1x128 : Shape := ⟨4, ![16, 16, 1, 128]⟩
abbrev S256x128 : Shape := ⟨2, ![256, 128]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S1x6x256x1024 : Shape := ⟨4, ![1, 6, 256, 1024]⟩
abbrev S256x512 : Shape := ⟨2, ![256, 512]⟩
abbrev S256 : Shape := ⟨1, ![256]⟩
abbrev S256x1 : Shape := ⟨2, ![256, 1]⟩
abbrev S1x1x256x1024 : Shape := ⟨4, ![1, 1, 256, 1024]⟩
abbrev S1024x512 : Shape := ⟨2, ![1024, 512]⟩
abbrev S1024x1024 : Shape := ⟨2, ![1024, 1024]⟩

abbrev nBuf : Space → Nat
  | .hbm => 52
  | .vmem => 30
  | .smem => 0
  | _ => 0

abbrev bufTy : (tb : Table) → Fin (tcTables nBuf tb) → BufTy
  | .hbm, ⟨0, _⟩ => ⟨S32x16x1024, .f32⟩
  | .hbm, ⟨1, _⟩ => ⟨S32x6144, .f32⟩
  | .hbm, ⟨2, _⟩ => ⟨S1024, .f32⟩
  | .hbm, ⟨3, _⟩ => ⟨S1024x6656, .f32⟩
  | .hbm, ⟨4, _⟩ => ⟨S32x6x1024, .f32⟩
  | .hbm, ⟨5, _⟩ => ⟨S32x16x6x1024, .f32⟩
  | .hbm, ⟨6, _⟩ => ⟨S512x6x1024, .f32⟩
  | .hbm, ⟨7, _⟩ => ⟨S6x512x1024, .f32⟩
  | .hbm, ⟨8, _⟩ => ⟨S1x6x512x1024, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16x1, .f32⟩
  | .hbm, ⟨22, _⟩ => ⟨S1x32, .f32⟩
  | .hbm, ⟨23, _⟩ => ⟨S16x32, .f32⟩
  | .hbm, ⟨24, _⟩ => ⟨S16x32, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S16x128, .f32⟩
  | .hbm, ⟨29, _⟩ => ⟨S16x32, .f32⟩
  | .hbm, ⟨30, _⟩ => ⟨S16x32, .f32⟩
  | .hbm, ⟨31, _⟩ => ⟨S16x128, .f32⟩
  | .hbm, ⟨32, _⟩ => ⟨S1x16x1x128, .f32⟩
  | .hbm, ⟨33, _⟩ => ⟨S16x16x1x128, .f32⟩
  | .hbm, ⟨34, _⟩ => ⟨S256x128, .f32⟩
  | .hbm, ⟨35, _⟩ => ⟨S1x16x1x128, .f32⟩
  | .hbm, ⟨36, _⟩ => ⟨S16x16x1x128, .f32⟩
  | .hbm, ⟨37, _⟩ => ⟨S256x128, .f32⟩
  | .hbm, ⟨38, _⟩ => ⟨S512x1024, .f32⟩
  | .hbm, ⟨39, _⟩ => ⟨S1x1024, .f32⟩
  | .hbm, ⟨40, _⟩ => ⟨S1024x6656, .bf16⟩
  | .hbm, ⟨41, _⟩ => ⟨S512x512, .bf16⟩
  | .hbm, ⟨42, _⟩ => ⟨S512x512, .bf16⟩
  | .hbm, ⟨43, _⟩ => ⟨S512x512, .bf16⟩
  | .hbm, ⟨44, _⟩ => ⟨S512x512, .bf16⟩
  | .hbm, ⟨45, _⟩ => ⟨S512x512, .bf16⟩
  | .hbm, ⟨46, _⟩ => ⟨S512x1024, .bf16⟩
  | .hbm, ⟨47, _⟩ => ⟨S512x1024, .bf16⟩
  | .hbm, ⟨48, _⟩ => ⟨S512x1024, .bf16⟩
  | .hbm, ⟨49, _⟩ => ⟨S512x1024, .bf16⟩
  | .hbm, ⟨50, _⟩ => ⟨S512x512, .f32⟩
  | .hbm, ⟨51, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x6x256x1024, .f32⟩
  | .local _ .vmem, ⟨3, _⟩ => ⟨S1x6x256x1024, .f32⟩
  | .local _ .vmem, ⟨4, _⟩ => ⟨S1x1024, .f32⟩
  | .local _ .vmem, ⟨5, _⟩ => ⟨S256x128, .f32⟩
  | .local _ .vmem, ⟨6, _⟩ => ⟨S256x128, .f32⟩
  | .local _ .vmem, ⟨7, _⟩ => ⟨S1024x6656, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev main_v34_3 : Ref sig .tc := ⟨.hbm, 44, rfl⟩
abbrev main_v34_4 : Ref sig .tc := ⟨.hbm, 45, rfl⟩
abbrev main_v34_5 : Ref sig .tc := ⟨.hbm, 46, rfl⟩
abbrev main_v34_6 : Ref sig .tc := ⟨.hbm, 47, rfl⟩
abbrev main_v34_7 : Ref sig .tc := ⟨.hbm, 48, rfl⟩
abbrev main_v34_8 : Ref sig .tc := ⟨.hbm, 49, rfl⟩
abbrev main_v34_9 : Ref sig .tc := ⟨.hbm, 50, rfl⟩
abbrev main_v34_10 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel3Ideal.lean ====
variable {F : FTy → Type} [FloatOps F] [Named F]
def κ : String → Option EReal := fun
  | "qs" => some (((1 / 8) * (Real.log 2)⁻¹ : ℝ) : EReal)
  | _ => none
-- ==== Reference3Ideal.lean ====
abbrev S32x16x1024 : Shape := ⟨3, ![32, 16, 1024]⟩
abbrev S32x6144 : Shape := ⟨2, ![32, 6144]⟩
abbrev S1024 : Shape := ⟨1, ![1024]⟩
abbrev S1024x6656 : Shape := ⟨2, ![1024, 6656]⟩
abbrev S16 : Shape := ⟨1, ![16]⟩
abbrev S_ : Shape := ⟨0, ![]⟩
abbrev S32x1x6144 : Shape := ⟨3, ![32, 1, 6144]⟩
abbrev S32x1x1024 : Shape := ⟨3, ![32, 1, 1024]⟩
abbrev S32x16 : Shape := ⟨2, ![32, 16]⟩
abbrev S32x16x1 : Shape := ⟨3, ![32, 16, 1]⟩
abbrev S1x1x1024 : Shape := ⟨3, ![1, 1, 1024]⟩
abbrev S32x16x6656 : Shape := ⟨3, ![32, 16, 6656]⟩
abbrev S32x16x512 : Shape := ⟨3, ![32, 16, 512]⟩
abbrev S32x16x8x64 : Shape := ⟨4, ![32, 16, 8, 64]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S1x16x1x32 : Shape := ⟨4, ![1, 16, 1, 32]⟩
abbrev S32x16x8x32 : Shape := ⟨4, ![32, 16, 8, 32]⟩
abbrev S512x512 : Shape := ⟨2, ![512, 512]⟩
abbrev S512x1024 : Shape := ⟨2, ![512, 1024]⟩

abbrev nBuf : Space → Nat
  | .hbm => 165
  | .vmem => 0
  | .smem => 0
  | _ => 0

abbrev hbmTy0_0 (i : Nat) : BufTy := match i % 128 with
  | 0 => ⟨S32x16x1024, .f32⟩
  | 1 => ⟨S32x6144, .f32⟩
  | 2 => ⟨S1024, .f32⟩
  | 3 => ⟨S1024x6656, .f32⟩
  | 4 => ⟨S16, .f32⟩
  | 5 => ⟨S_, .f32⟩
  | 6 => ⟨S16, .f32⟩
  | 7 => ⟨S16, .f32⟩
  | 8 => ⟨S32x1x6144, .f32⟩
  | 9 => ⟨S32x1x1024, .f32⟩
  | 10 => ⟨S32x1x1024, .f32⟩
  | 11 => ⟨S32x1x1024, .f32⟩
  | 12 => ⟨S32x1x1024, .f32⟩
  | 13 => ⟨S32x1x1024, .f32⟩
  | 14 => ⟨S32x1x1024, .f32⟩
  | 15 => ⟨S32x16x1024, .f32⟩
  | 16 => ⟨S_, .f32⟩
  | 17 => ⟨S32x16, .f32⟩
  | 18 => ⟨S32x16x1, .f32⟩
  | 19 => ⟨S_, .f32⟩
  | 20 => ⟨S32x16x1, .f32⟩
  | 21 => ⟨S32x16x1, .f32⟩
  | 22 => ⟨S_, .f32⟩
  | 23 => ⟨S32x16x1, .f32⟩
  | 24 => ⟨S32x16x1, .f32⟩
  | 25 => ⟨S32x16x1, .f32⟩
  | 26 => ⟨S32x16x1024, .f32⟩
  | 27 => ⟨S32x16x1024, .f32⟩
  | 28 => ⟨S1x1x1024, .f32⟩
  | 29 => ⟨S32x16x1024, .f32⟩
  | 30 => ⟨S32x16x1024, .f32⟩
  | 31 => ⟨S_, .f32⟩
  | 32 => ⟨S32x1x1024, .f32⟩
  | 33 => ⟨S32x1x1024, .f32⟩
  | 34 => ⟨S32x16x1024, .f32⟩
  | 35 => ⟨S32x16x1024, .f32⟩
  | 36 => ⟨S32x16x1024, .f32⟩
  | 37 => ⟨S32x16x1024, .f32⟩
  | 38 => ⟨S32x16x6656, .f32⟩
  | 39 => ⟨S32x16x512, .f32⟩
  | 40 => ⟨S32x16x512, .f32⟩
  | 41 => ⟨S32x16x512, .f32⟩
  | 42 => ⟨S32x16x512, .f32⟩
  | 43 => ⟨S32x16x512, .f32⟩
  | 44 => ⟨S32x16x1024, .f32⟩
  | 45 => ⟨S32x16x1024, .f32⟩
  | 46 => ⟨S32x16x1024, .f32⟩
  | 47 => ⟨S32x16x1024, .f32⟩
  | 48 => ⟨S32x16x8x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S16x1, .f32⟩
  | 58 => ⟨S1x32, .f32⟩
  | 59 => ⟨S16x32, .f32⟩
  | 60 => ⟨S16x32, .f32⟩
  | 61 => ⟨S16x32, .f32⟩
  | 62 => ⟨S16x32, .f32⟩
  | 63 => ⟨S1x16x1x32, .f32⟩
  | 64 => ⟨S16x32, .f32⟩
  | 65 => ⟨S1x16x1x32, .f32⟩
  | 66 => ⟨S32x16x8x32, .f32⟩
  | 67 => ⟨S32x16x8x32, .f32⟩
  | 68 => ⟨S32x16x8x32, .f32⟩
  | 69 => ⟨S32x16x8x32, .f32⟩
  | 70 => ⟨S32x16x8x32, .f32⟩
  | 71 => ⟨S32x16x8x32, .f32⟩
  | 72 => ⟨S32x16x8x32, .f32⟩
  | 73 => ⟨S32x16x8x32, .f32⟩
  | 74 => ⟨S32x16x8x32, .f32⟩
  | 75 => ⟨S32x16x8x32, .f32⟩
  | 76 => ⟨S32x16x8x32, .f32⟩
  | 77 => ⟨S32x16x8x32, .f32⟩
  | 78 => ⟨S32x16x8x64, .f32⟩
  | 79 => ⟨S32x16x8x64, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S16x1, .f32⟩
  | 89 => ⟨S1x32, .f32⟩
  | 90 => ⟨S16x32, .f32⟩
  | 91 => ⟨S16x32, .f32⟩
  | 92 => ⟨S16x32, .f32⟩
  | 93 => ⟨S16x32, .f32⟩
  | 94 => ⟨S1x16x1x32, .f32⟩
  | 95 => ⟨S16x32, .f32⟩
  | 96 => ⟨S1x16x1x32, .f32⟩
  | 97 => ⟨S32x16x8x32, .f32⟩
  | 98 => ⟨S32x16x8x32, .f32⟩
  | 99 => ⟨S32x16x8x32, .f32⟩
  | 100 => ⟨S32x16x8x32, .f32⟩
  | 101 => ⟨S32x16x8x32, .f32⟩
  | 102 => ⟨S32x16x8x32, .f32⟩
  | 103 => ⟨S32x16x8x32, .f32⟩
  | 104 => ⟨S32x16x8x32, .f32⟩
  | 105 => ⟨S32x16x8x32, .f32⟩
  | 106 => ⟨S32x16x8x32, .f32⟩
  | 107 => ⟨S32x16x8x32, .f32⟩
  | 108 => ⟨S32x16x8x32, .f32⟩
  | 109 => ⟨S32x16x8x64, .f32⟩
  | 110 => ⟨S_, .f32⟩
  | 111 => ⟨S32x16x8x64, .f32⟩
  | 112 => ⟨S32x16x8x64, .f32⟩
  | 113 => ⟨S_, .f32⟩
  | 114 => ⟨S_, .f32⟩
  | 115 => ⟨S_, .f32⟩
  | 116 => ⟨S_, .f32⟩
  | 117 => ⟨S_, .f32⟩
  | 118 => ⟨S32x16x512, .f32⟩
  | 119 => ⟨S32x16x512, .f32⟩
  | 120 => ⟨S512x512, .f32⟩
  | 121 => ⟨S512x512, .bf16⟩
  | 122 => ⟨S512x512, .f32⟩
  | 123 => ⟨S512x512, .bf16⟩
  | 124 => ⟨S512x512, .f32⟩
  | 125 => ⟨S512x512, .bf16⟩
  | 126 => ⟨S512x512, .f32⟩
  | 127 => ⟨S512x512, .bf16⟩
  | _ => ⟨S32x16x1024, .f32⟩

abbrev hbmTy0_1 (i : Nat) : BufTy := match i % 128 with
  | 0 => ⟨S512x512, .f32⟩
  | 1 => ⟨S512x512, .bf16⟩
  | 2 => ⟨S512x1024, .f32⟩
  | 3 => ⟨S512x1024, .bf16⟩
  | 4 => ⟨S32x16x1024, .f32⟩
  | 5 => ⟨S32x16x1024, .f32⟩
  | 6 => ⟨S_, .f32⟩
  | 7 => ⟨S32x16x1024, .f32⟩
  | 8 => ⟨S32x16x1024, .f32⟩
  | 9 => ⟨S_, .f32⟩
  | 10 => ⟨S32x16x1024, .f32⟩
  | 11 => ⟨S32x16x1024, .f32⟩
  | 12 => ⟨S32x16x1024, .f32⟩
  | 13 => ⟨S512x1024, .f32⟩
  | 14 => ⟨S512x1024, .bf16⟩
  | 15 => ⟨S32x16x1024, .f32⟩
  | 16 => ⟨S32x16x1024, .f32⟩
  | 17 => ⟨S_, .f32⟩
  | 18 => ⟨S32x16x1024, .f32⟩
  | 19 => ⟨S32x16x1024, .f32⟩
  | 20 => ⟨S_, .f32⟩
  | 21 => ⟨S32x16x1024, .f32⟩
  | 22 => ⟨S32x16x1024, .f32⟩
  | 23 => ⟨S512x1024, .f32⟩
  | 24 => ⟨S512x1024, .bf16⟩
  | 25 => ⟨S32x16x1024, .f32⟩
  | 26 => ⟨S32x16x1024, .f32⟩
  | 27 => ⟨S_, .f32⟩
  | 28 => ⟨S32x16x1024, .f32⟩
  | 29 => ⟨S32x16x1024, .f32⟩
  | 30 => ⟨S_, .f32⟩
  | 31 => ⟨S32x16x1024, .f32⟩
  | 32 => ⟨S32x16x1024, .f32⟩
  | 33 => ⟨S512x1024, .f32⟩
  | 34 => ⟨S512x1024, .bf16⟩
  | 35 => ⟨S512x512, .f32⟩
  | 36 => ⟨S512x512, .f32⟩
  | _ => ⟨S32x16x1024, .f32⟩

abbrev hbmTy (i : Nat) : BufTy := match i / 128 with
  | 0 => hbmTy0_0 i
  | 1 => hbmTy0_1 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_6 : Ref sig .tc := ⟨.hbm, 82, rfl⟩
abbrev main_v71 : Ref sig .tc := ⟨.hbm, 83, rfl⟩
abbrev main_v72 : Ref sig .tc := ⟨.hbm, 84, rfl⟩
abbrev main_cst_7 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_v97 : Ref sig .tc := ⟨.hbm, 111, rfl⟩
abbrev main_v98 : Ref sig .tc := ⟨.hbm, 112, rfl⟩
abbrev main_cst_9 : Ref sig .tc := ⟨.hbm, 113, rfl⟩
abbrev main_v99 : Ref sig .tc := ⟨.hbm, 114, rfl⟩
abbrev main_cst_10 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_call0_v0 : Ref sig .tc := ⟨.hbm, 132, rfl⟩
abbrev main_call0_v1 : Ref sig .tc := ⟨.hbm, 133, rfl⟩
abbrev main_call0_cst : Ref sig .tc := ⟨.hbm, 134, rfl⟩
abbrev main_call0_v2 : Ref sig .tc := ⟨.hbm, 135, rfl⟩
abbrev main_call0_v3 : Ref sig .tc := ⟨.hbm, 136, rfl⟩
abbrev main_call0_cst_0 : Ref sig .tc := ⟨.hbm, 137, rfl⟩
abbrev main_call0_v4 : Ref sig .tc := ⟨.hbm, 138, rfl⟩
abbrev main_call0_v5 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_11 : Ref sig .tc := ⟨.hbm, 145, rfl⟩
abbrev main_v121 : Ref sig .tc := ⟨.hbm, 146, rfl⟩
abbrev main_v122 : Ref sig .tc := ⟨.hbm, 147, rfl⟩
abbrev main_cst_12 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_cst_13 : Ref sig .tc := ⟨.hbm, 155, rfl⟩
abbrev main_v129 : Ref sig .tc := ⟨.hbm, 156, rfl⟩
abbrev main_v130 : Ref sig .tc := ⟨.hbm, 157, rfl⟩
abbrev main_cst_14 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩

abbrev nD : Nat := 1
abbrev τ : Topo := Topo.v7x

variable {F : FTy → Type} [FloatOps F]
-- ==== Kernel4.lean ====
abbrev S16384x512 : Shape := ⟨2, ![16384, 512]⟩
abbrev S16384x1024 : Shape := ⟨2, ![16384, 1024]⟩
abbrev S2x8192x1024 : Shape := ⟨3, ![2, 8192, 1024]⟩
abbrev S2x6144 : Shape := ⟨2, ![2, 6144]⟩
abbrev S1024 : Shape := ⟨1, ![1024]⟩
abbrev S512x1024 : Shape := ⟨2, ![512, 1024]⟩
abbrev S1024x1024 : Shape := ⟨2, ![1024, 1024]⟩
abbrev S1024x256 : Shape := ⟨2, ![1024, 256]⟩
abbrev S256 : Shape := ⟨1, ![256]⟩
abbrev S256x1024 : Shape := ⟨2, ![256, 1024]⟩
abbrev S2x6x1x1024 : Shape := ⟨4, ![2, 6, 1, 1024]⟩
abbrev S1x1024 : Shape := ⟨2, ![1, 1024]⟩
abbrev S256x1 : Shape := ⟨2, ![256, 1]⟩
abbrev S16896x1024 : Shape := ⟨2, ![16896, 1024]⟩
abbrev S8x16384 : Shape := ⟨2, ![8, 16384]⟩
abbrev S512x512 : Shape := ⟨2, ![512, 512]⟩
abbrev S1x6x1x1024 : Shape := ⟨4, ![1, 6, 1, 1024]⟩
abbrev S8x512 : Shape := ⟨2, ![8, 512]⟩
abbrev S1x1x1x1024 : Shape := ⟨4, ![1, 1, 1, 1024]⟩
abbrev S512 : Shape := ⟨1, ![512]⟩
abbrev S512x1 : Shape := ⟨2, ![512, 1]⟩
abbrev S512x256 : Shape := ⟨2, ![512, 256]⟩
abbrev S256x512 : Shape := ⟨2, ![256, 512]⟩
abbrev S32x512 : Shape := ⟨2, ![32, 512]⟩
abbrev S1x512 : Shape := ⟨2, ![1, 512]⟩

abbrev nBuf : Space → Nat
  | .hbm => 33
  | .vmem => 33
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x8192x1024, .f32⟩
  | .hbm, ⟨5, _⟩ => ⟨S2x6144, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x256, .f32⟩
  | .hbm, ⟨11, _⟩ => ⟨S256, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S16384x1024, .f32⟩
  | .hbm, ⟨16, _⟩ => ⟨S2x6x1x1024, .f32⟩
  | .hbm, ⟨17, _⟩ => ⟨S1x1024, .f32⟩
  | .hbm, ⟨18, _⟩ => ⟨S512x1024, .bf16⟩
  | .hbm, ⟨19, _⟩ => ⟨S1024x1024, .bf16⟩
  | .hbm, ⟨20, _⟩ => ⟨S1024x1024, .bf16⟩
  | .hbm, ⟨21, _⟩ => ⟨S256x1024, .f32⟩
  | .hbm, ⟨22, _⟩ => ⟨S256x1024, .bf16⟩
  | .hbm, ⟨23, _⟩ => ⟨S256x1, .f32⟩
  | .hbm, ⟨24, _⟩ => ⟨S1024x256, .bf16⟩
  | .hbm, ⟨25, _⟩ => ⟨S1024x256, .bf16⟩
  | .hbm, ⟨26, _⟩ => ⟨S256x1024, .bf16⟩
  | .hbm, ⟨27, _⟩ => ⟨S16896x1024, .bf16⟩
  | .hbm, ⟨28, _⟩ => ⟨S16384x1024, .f32⟩
  | .hbm, ⟨29, _⟩ => ⟨S8x16384, .i32⟩
  | .hbm, ⟨30, _⟩ => ⟨S8x16384, .f32⟩
  | .hbm, ⟨31, _⟩ => ⟨S8x16384, .i32⟩
  | .hbm, ⟨32, _⟩ => ⟨S256x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1x1024, .f32⟩
  | .local _ .vmem, ⟨11, _⟩ => ⟨S1x6x1x1024, .f32⟩
  | .local _ .vmem, ⟨12, _⟩ => ⟨S1x1024, .f32⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S256x1, .f32⟩
  | .local _ .vmem, ⟨18, _⟩ => ⟨S1024x256, .bf16⟩
  | .local _ .vmem, ⟨19, _⟩ => ⟨S1024x256, .bf16⟩
  | .local _ .vmem, ⟨20, _⟩ => ⟨S256x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S8x512, .i32⟩
  | .local _ .vmem, ⟨26, _⟩ => ⟨S8x512, .i32⟩
  | .local _ .vmem, ⟨27, _⟩ => ⟨S8x512, .f32⟩
  | .local _ .vmem, ⟨28, _⟩ => ⟨S8x512, .f32⟩
  | .local _ .vmem, ⟨29, _⟩ => ⟨S8x512, .i32⟩
  | .local _ .vmem, ⟨30, _⟩ => ⟨S8x512, .i32⟩
  | .local _ .vmem, ⟨31, _⟩ => ⟨S256x1, .f32⟩
  | .local _ .vmem, ⟨32, _⟩ => ⟨S256x1, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev main_v12_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S256x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S16384x512 : Shape := ⟨2, ![16384, 512]⟩
abbrev S16384x1024 : Shape := ⟨2, ![16384, 1024]⟩
abbrev S2x8192x1024 : Shape := ⟨3, ![2, 8192, 1024]⟩
abbrev S2x6144 : Shape := ⟨2, ![2, 6144]⟩
abbrev S1024 : Shape := ⟨1, ![1024]⟩
abbrev S512x1024 : Shape := ⟨2, ![512, 1024]⟩
abbrev S1024x1024 : Shape := ⟨2, ![1024, 1024]⟩
abbrev S1024x256 : Shape := ⟨2, ![1024, 256]⟩
abbrev S256 : Shape := ⟨1, ![256]⟩
abbrev S256x1024 : Shape := ⟨2, ![256, 1024]⟩
abbrev S2x1x6144 : Shape := ⟨3, ![2, 1, 6144]⟩
abbrev S2x1x1024 : Shape := ⟨3, ![2, 1, 1024]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x256 : Shape := ⟨3, ![2, 8192, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x8192x1024, .f32⟩
  | .hbm, ⟨5, _⟩ => ⟨S2x6144, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x256, .f32⟩
  | .hbm, ⟨11, _⟩ => ⟨S256, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S2x1x6144, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x8192x1024, .bf16⟩
  | .hbm, ⟨23, _⟩ => ⟨S2x8192x1024, .f32⟩
  | .hbm, ⟨24, _⟩ => ⟨S2x8192x512, .bf16⟩
  | .hbm, ⟨25, _⟩ => ⟨S2x8192x512, .f32⟩
  | .hbm, ⟨26, _⟩ => ⟨S2x8192x1024, .f32⟩
  | .hbm, ⟨27, _⟩ => ⟨S2x8192x1024, .f32⟩
  | .hbm, ⟨28, _⟩ => ⟨S2x8192x1024, .bf16⟩
  | .hbm, ⟨29, _⟩ => ⟨S2x8192x1024, .f32⟩
  | .hbm, ⟨30, _⟩ => ⟨S2x8192x1024, .bf16⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x1x1024, .f32⟩
  | .hbm, ⟨57, _⟩ => ⟨S2x1x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S16384x1024, .f32⟩
  | .hbm, ⟨63, _⟩ => ⟨S2x8192x256, .f32⟩
  | .hbm, ⟨64, _⟩ => ⟨S2x8192x256, .f32⟩
  | .hbm, ⟨65, _⟩ => ⟨S2x8192x256, .f32⟩
  | .hbm, ⟨66, _⟩ => ⟨S_, .f32⟩
  | .hbm, ⟨67, _⟩ => ⟨S2x8192x256, .f32⟩
  | .hbm, ⟨68, _⟩ => ⟨S2x8192x256, .f32⟩
  | .hbm, ⟨69, _⟩ => ⟨S_, .f32⟩
  | .hbm, ⟨70, _⟩ => ⟨S2x8192x256, .f32⟩
  | .hbm, ⟨71, _⟩ => ⟨S2x8192x256, .f32⟩
  | .hbm, ⟨72, _⟩ => ⟨S2x8192x256, .f32⟩
  | .hbm, ⟨73, _⟩ => ⟨S2x8192x256, .f32⟩
  | .hbm, ⟨74, _⟩ => ⟨S2x8192x256, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Kernel5.lean ====
abbrev S512x512 : Shape := ⟨2, ![512, 512]⟩
abbrev S512x1024 : Shape := ⟨2, ![512, 1024]⟩
abbrev S32x16x1024 : Shape := ⟨3, ![32, 16, 1024]⟩
abbrev S32x6144 : Shape := ⟨2, ![32, 6144]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S256x1024 : Shape := ⟨2, ![256, 1024]⟩
abbrev S16896x1024 : Shape := ⟨2, ![16896, 1024]⟩
abbrev S32x6x1024 : Shape := ⟨3, ![32, 6, 1024]⟩
abbrev S32x16x6x1024 : Shape := ⟨4, ![32, 16, 6, 1024]⟩
abbrev S512x6x1024 : Shape := ⟨3, ![512, 6, 1024]⟩
abbrev S6x512x1024 : Shape := ⟨3, ![6, 512, 1024]⟩
abbrev S1x6x512x1024 : Shape := ⟨4, ![1, 6, 512, 1024]⟩
abbrev S1x1024 : Shape := ⟨2, ![1, 1024]⟩
abbrev S256x1 : Shape := ⟨2, ![256, 1]⟩
abbrev S8x512 : Shape := ⟨2, ![8, 512]⟩
abbrev S1x1x512x1024 : Shape := ⟨4, ![1, 1, 512, 1024]⟩
abbrev S512 : Shape := ⟨1, ![512]⟩
abbrev S512x1 : Shape := ⟨2, ![512, 1]⟩
abbrev S512x256 : Shape := ⟨2, ![512, 256]⟩
abbrev S256x512 : Shape := ⟨2, ![256, 512]⟩
abbrev S32x512 : Shape := ⟨2, ![32, 512]⟩
abbrev S1x512 : Shape := ⟨2, ![1, 512]⟩

abbrev nBuf : Space → Nat
  | .hbm => 38
  | .vmem => 22
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S32x16x1024, .f32⟩
  | .hbm, ⟨5, _⟩ => ⟨S32x6144, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x256, .f32⟩
  | .hbm, ⟨11, _⟩ => ⟨S256, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S16896x1024, .bf16⟩
  | .hbm, ⟨16, _⟩ => ⟨S32x6x1024, .f32⟩
  | .hbm, ⟨17, _⟩ => ⟨S32x16x6x1024, .f32⟩
  | .hbm, ⟨18, _⟩ => ⟨S512x6x1024, .f32⟩
  | .hbm, ⟨19, _⟩ => ⟨S6x512x1024, .f32⟩
  | .hbm, ⟨20, _⟩ => ⟨S1x6x512x1024, .f32⟩
  | .hbm, ⟨21, _⟩ => ⟨S512x1024, .f32⟩
  | .hbm, ⟨22, _⟩ => ⟨S1x1024, .f32⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S256x1024, .f32⟩
  | .hbm, ⟨27, _⟩ => ⟨S256x1024, .bf16⟩
  | .hbm, ⟨28, _⟩ => ⟨S256x1, .f32⟩
  | .hbm, ⟨29, _⟩ => ⟨S1024x256, .bf16⟩
  | .hbm, ⟨30, _⟩ => ⟨S1024x256, .bf16⟩
  | .hbm, ⟨31, _⟩ => ⟨S256x1024, .bf16⟩
  | .hbm, ⟨32, _⟩ => ⟨S16896x1024, .bf16⟩
  | .hbm, ⟨33, _⟩ => ⟨S512x1024, .f32⟩
  | .hbm, ⟨34, _⟩ => ⟨S8x512, .i32⟩
  | .hbm, ⟨35, _⟩ => ⟨S8x512, .f32⟩
  | .hbm, ⟨36, _⟩ => ⟨S8x512, .i32⟩
  | .hbm, ⟨37, _⟩ => ⟨S256x1, .f32⟩
  | .local _ .vmem, ⟨0, _⟩ => ⟨S512x512, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S1x6x512x1024, .f32⟩
  | .local _ .vmem, ⟨6, _⟩ => ⟨S1x1024, .f32⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1, .f32⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S512x1024, .bf16⟩
  | .local _ .vmem, ⟨16, _⟩ => ⟨S512x1024, .f32⟩
  | .local _ .vmem, ⟨17, _⟩ => ⟨S8x512, .i32⟩
  | .local _ .vmem, ⟨18, _⟩ => ⟨S8x512, .f32⟩
  | .local _ .vmem, ⟨19, _⟩ => ⟨S8x512, .i32⟩
  | .local _ .vmem, ⟨20, _⟩ => ⟨S256x1, .f32⟩
  | .local _ .vmem, ⟨21, _⟩ => ⟨S256x1, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev main_v16_5 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x512 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S8x512 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference5Ideal.lean ====
abbrev S512x512 : Shape := ⟨2, ![512, 512]⟩
abbrev S512x1024 : Shape := ⟨2, ![512, 1024]⟩
abbrev S32x16x1024 : Shape := ⟨3, ![32, 16, 1024]⟩
abbrev S32x6144 : Shape := ⟨2, ![32, 6144]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S256x1024 : Shape := ⟨2, ![256, 1024]⟩
abbrev S16896x1024 : Shape := ⟨2, ![16896, 1024]⟩
abbrev S32x1x6144 : Shape := ⟨3, ![32, 1, 6144]⟩
abbrev S32x1x1024 : Shape := ⟨3, ![32, 1, 1024]⟩
abbrev S32x16x512 : Shape := ⟨3, ![32, 16, 512]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S32x16x256 : Shape := ⟨3, ![32, 16, 256]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S32x16x1024, .f32⟩
  | .hbm, ⟨5, _⟩ => ⟨S32x6144, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x256, .f32⟩
  | .hbm, ⟨11, _⟩ => ⟨S256, .f32⟩
  | .hbm, ⟨12, _⟩ => ⟨S1024x256, .f32⟩
  | .hbm, ⟨13, _⟩ => ⟨S1024x256, .f32⟩
  | .hbm, ⟨14, _⟩ => ⟨S256x1024, .f32⟩
  | .hbm, ⟨15, _⟩ => ⟨S16896x1024, .bf16⟩
  | .hbm, ⟨16, _⟩ => ⟨S32x1x6144, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x16x1024, .bf16⟩
  | .hbm, ⟨24, _⟩ => ⟨S32x16x1024, .f32⟩
  | .hbm, ⟨25, _⟩ => ⟨S32x16x512, .bf16⟩
  | .hbm, ⟨26, _⟩ => ⟨S32x16x512, .f32⟩
  | .hbm, ⟨27, _⟩ => ⟨S32x16x1024, .f32⟩
  | .hbm, ⟨28, _⟩ => ⟨S32x16x1024, .f32⟩
  | .hbm, ⟨29, _⟩ => ⟨S32x16x1024, .bf16⟩
  | .hbm, ⟨30, _⟩ => ⟨S32x16x1024, .f32⟩
  | .hbm, ⟨31, _⟩ => ⟨S32x16x1024, .bf16⟩
  | .hbm, ⟨32, _⟩ => ⟨S32x16x1024, .f32⟩
  | .hbm, ⟨33, _⟩ => ⟨S32x16x1024, .f32⟩
  | .hbm, ⟨34, _⟩ => ⟨S32x16x1024, .f32⟩
  | .hbm, ⟨35, _⟩ => ⟨S32x16x1024, .f32⟩
  | .hbm, ⟨36, _⟩ => ⟨S32x16x1024, .f32⟩
  | .hbm, ⟨37, _⟩ => ⟨S32x16x1024, .f32⟩
  | .hbm, ⟨38, _⟩ => ⟨S32x16x1024, .f32⟩
  | .hbm, ⟨39, _⟩ => ⟨S32x16x1024, .f32⟩
  | .hbm, ⟨40, _⟩ => ⟨S32x16x1024, .f32⟩
  | .hbm, ⟨41, _⟩ => ⟨S_, .f32⟩
  | .hbm, ⟨42, _⟩ => ⟨S32x16, .f32⟩
  | .hbm, ⟨43, _⟩ => ⟨S32x16x1, .f32⟩
  | .hbm, ⟨44, _⟩ => ⟨S_, .f32⟩
  | .hbm, ⟨45, _⟩ => ⟨S32x16x1, .f32⟩
  | .hbm, ⟨46, _⟩ => ⟨S32x16x1, .f32⟩
  | .hbm, ⟨47, _⟩ => ⟨S_, .f32⟩
  | .hbm, ⟨48, _⟩ => ⟨S32x16x1, .f32⟩
  | .hbm, ⟨49, _⟩ => ⟨S32x16x1, .f32⟩
  | .hbm, ⟨50, _⟩ => ⟨S32x16x1, .f32⟩
  | .hbm, ⟨51, _⟩ => ⟨S32x16x1024, .f32⟩
  | .hbm, ⟨52, _⟩ => ⟨S32x16x1024, .f32⟩
  | .hbm, ⟨53, _⟩ => ⟨S1x1x1024, .f32⟩
  | .hbm, ⟨54, _⟩ => ⟨S32x16x1024, .f32⟩
  | .hbm, ⟨55, _⟩ => ⟨S32x16x1024, .f32⟩
  | .hbm, ⟨56, _⟩ => ⟨S_, .f32⟩
  | .hbm, ⟨57, _⟩ => ⟨S32x1x1024, .f32⟩
  | .hbm, ⟨58, _⟩ => ⟨S32x1x1024, .f32⟩
  | .hbm, ⟨59, _⟩ => ⟨S32x16x1024, .f32⟩
  | .hbm, ⟨60, _⟩ => ⟨S32x16x1024, .f32⟩
  | .hbm, ⟨61, _⟩ => ⟨S32x16x1024, .f32⟩
  | .hbm, ⟨62, _⟩ => ⟨S32x16x1024, .f32⟩
  | .hbm, ⟨63, _⟩ => ⟨S512x1024, .f32⟩
  | .hbm, ⟨64, _⟩ => ⟨S32x16x256, .f32⟩
  | .hbm, ⟨65, _⟩ => ⟨S32x16x256, .f32⟩
  | .hbm, ⟨66, _⟩ => ⟨S32x16x256, .f32⟩
  | .hbm, ⟨67, _⟩ => ⟨S_, .f32⟩
  | .hbm, ⟨68, _⟩ => ⟨S32x16x256, .f32⟩
  | .hbm, ⟨69, _⟩ => ⟨S32x16x256, .f32⟩
  | .hbm, ⟨70, _⟩ => ⟨S_, .f32⟩
  | .hbm, ⟨71, _⟩ => ⟨S32x16x256, .f32⟩
  | .hbm, ⟨72, _⟩ => ⟨S32x16x256, .f32⟩
  | .hbm, ⟨73, _⟩ => ⟨S32x16x256, .f32⟩
  | .hbm, ⟨74, _⟩ => ⟨S32x16x256, .f32⟩
  | .hbm, ⟨75, _⟩ => ⟨S32x16x256, .f32⟩
  | .hbm, ⟨76, _⟩ => ⟨S32x16x1024, .f32⟩
  | .hbm, ⟨77, _⟩ => ⟨S32x16x1024, .f32⟩
  | .hbm, ⟨78, _⟩ => ⟨S32x16x1024, .f32⟩
  | .hbm, ⟨79, _⟩ => ⟨S32x16x1024, .f32⟩
  | .hbm, ⟨80, _⟩ => ⟨S512x1024, .f32⟩
  | .hbm, ⟨81, _⟩ => ⟨S16384x1024, .bf16⟩
  | .hbm, ⟨82, _⟩ => ⟨S512x1024, .bf16⟩
  | .hbm, ⟨83, _⟩ => ⟨S16896x1024, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Kernel6.lean ====
abbrev S8x4608x512 : Shape := ⟨3, ![8, 4608, 512]⟩
abbrev S16896x8 : Shape := ⟨2, ![16896, 8]⟩
abbrev S512x1024 : Shape := ⟨2, ![512, 1024]⟩
abbrev S32x6144 : Shape := ⟨2, ![32, 6144]⟩
abbrev S1024 : Shape := ⟨1, ![1024]⟩
abbrev S32x6x1024 : Shape := ⟨3, ![32, 6, 1024]⟩
abbrev S32x16x6x1024 : Shape := ⟨4, ![32, 16, 6, 1024]⟩
abbrev S512x6x1024 : Shape := ⟨3, ![512, 6, 1024]⟩
abbrev S6x512x1024 : Shape := ⟨3, ![6, 512, 1024]⟩
abbrev S1x6x512x1024 : Shape := ⟨4, ![1, 6, 512, 1024]⟩
abbrev S1x1024 : Shape := ⟨2, ![1, 1024]⟩
abbrev S8x512x512 : Shape := ⟨3, ![8, 512, 512]⟩
abbrev S512x8 : Shape := ⟨2, ![512, 8]⟩
abbrev S512x1 : Shape := ⟨2, ![512, 1]⟩
abbrev S1x512x512 : Shape := ⟨3, ![1, 512, 512]⟩
abbrev S512x512 : Shape := ⟨2, ![512, 512]⟩
abbrev S1x1x512x1024 : Shape := ⟨4, ![1, 1, 512, 1024]⟩
abbrev S512 : Shape := ⟨1, ![512]⟩

abbrev nBuf : Space → Nat
  | .hbm => 12
  | .vmem => 6
  | .smem => 0
  | _ => 0

abbrev bufTy : (tb : Table) → Fin (tcTables nBuf tb) → BufTy
  | .hbm, ⟨0, _⟩ => ⟨S8x4608x512, .i32⟩
  | .hbm, ⟨1, _⟩ => ⟨S16896x8, .f32⟩
  | .hbm, ⟨2, _⟩ => ⟨S512x1024, .f32⟩
  | .hbm, ⟨3, _⟩ => ⟨S32x6144, .f32⟩
  | .hbm, ⟨4, _⟩ => ⟨S1024, .f32⟩
  | .hbm, ⟨5, _⟩ => ⟨S32x6x1024, .f32⟩
  | .hbm, ⟨6, _⟩ => ⟨S32x16x6x1024, .f32⟩
  | .hbm, ⟨7, _⟩ => ⟨S512x6x1024, .f32⟩
  | .hbm, ⟨8, _⟩ => ⟨S6x512x1024, .f32⟩
  | .hbm, ⟨9, _⟩ => ⟨S1x6x512x1024, .f32⟩
  | .hbm, ⟨10, _⟩ => ⟨S1x1024, .f32⟩
  | .hbm, ⟨11, _⟩ => ⟨S512x1024, .f32⟩
  | .local _ .vmem, ⟨0, _⟩ => ⟨S8x512x512, .i32⟩
  | .local _ .vmem, ⟨1, _⟩ => ⟨S512x8, .f32⟩
  | .local _ .vmem, ⟨2, _⟩ => ⟨S512x1024, .f32⟩
  | .local _ .vmem, ⟨3, _⟩ => ⟨S1x6x512x1024, .f32⟩
  | .local _ .vmem, ⟨4, _⟩ => ⟨S1x1024, .f32⟩
  | .local _ .vmem, ⟨5, _⟩ => ⟨S512x1024, .f32⟩
  | _, _ => ⟨S8x4608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 4 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v0.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x512x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference6Ideal.lean ====
abbrev S8x4608x512 : Shape := ⟨3, ![8, 4608, 512]⟩
abbrev S16896x8 : Shape := ⟨2, ![16896, 8]⟩
abbrev S512x1024 : Shape := ⟨2, ![512, 1024]⟩
abbrev S32x6144 : Shape := ⟨2, ![32, 6144]⟩
abbrev S1024 : Shape := ⟨1, ![1024]⟩
abbrev S32x1x6144 : Shape := ⟨3, ![32, 1, 6144]⟩
abbrev S32x1x1024 : Shape := ⟨3, ![32, 1, 1024]⟩
abbrev S8x512x512 : Shape := ⟨3, ![8, 512, 512]⟩
abbrev S_ : Shape := ⟨0, ![]⟩
abbrev S8x512x1024 : Shape := ⟨3, ![8, 512, 1024]⟩
abbrev S512x8 : Shape := ⟨2, ![512, 8]⟩
abbrev S8x512 : Shape := ⟨2, ![8, 512]⟩
abbrev S8x512x1 : Shape := ⟨3, ![8, 512, 1]⟩
abbrev S32x16x1024 : Shape := ⟨3, ![32, 16, 1024]⟩
abbrev S32x16 : Shape := ⟨2, ![32, 16]⟩
abbrev S32x16x1 : Shape := ⟨3, ![32, 16, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4608x512, .i32⟩
  | .hbm, ⟨1, _⟩ => ⟨S16896x8, .f32⟩
  | .hbm, ⟨2, _⟩ => ⟨S512x1024, .f32⟩
  | .hbm, ⟨3, _⟩ => ⟨S32x6144, .f32⟩
  | .hbm, ⟨4, _⟩ => ⟨S1024, .f32⟩
  | .hbm, ⟨5, _⟩ => ⟨S32x1x6144, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S8x512x512, .i32⟩
  | .hbm, ⟨13, _⟩ => ⟨S_, .i32⟩
  | .hbm, ⟨14, _⟩ => ⟨S8x512x512, .i32⟩
  | .hbm, ⟨15, _⟩ => ⟨S8x512x512, .i32⟩
  | .hbm, ⟨16, _⟩ => ⟨S8x512x512, .f32⟩
  | .hbm, ⟨17, _⟩ => ⟨S_, .i32⟩
  | .hbm, ⟨18, _⟩ => ⟨S8x512x512, .i32⟩
  | .hbm, ⟨19, _⟩ => ⟨S8x512x512, .i32⟩
  | .hbm, ⟨20, _⟩ => ⟨S8x512x512, .f32⟩
  | .hbm, ⟨21, _⟩ => ⟨S8x512x1024, .f32⟩
  | .hbm, ⟨22, _⟩ => ⟨S512x8, .f32⟩
  | .hbm, ⟨23, _⟩ => ⟨S8x512, .f32⟩
  | .hbm, ⟨24, _⟩ => ⟨S8x512x1, .f32⟩
  | .hbm, ⟨25, _⟩ => ⟨S8x512x1024, .f32⟩
  | .hbm, ⟨26, _⟩ => ⟨S8x512x1024, .f32⟩
  | .hbm, ⟨27, _⟩ => ⟨S_, .f32⟩
  | .hbm, ⟨28, _⟩ => ⟨S512x1024, .f32⟩
  | .hbm, ⟨29, _⟩ => ⟨S32x16x1024, .f32⟩
  | .hbm, ⟨30, _⟩ => ⟨S32x16x1024, .f32⟩
  | .hbm, ⟨31, _⟩ => ⟨S32x16x1024, .f32⟩
  | .hbm, ⟨32, _⟩ => ⟨S32x16x1024, .f32⟩
  | .hbm, ⟨33, _⟩ => ⟨S32x16x1024, .f32⟩
  | .hbm, ⟨34, _⟩ => ⟨S32x16x1024, .f32⟩
  | .hbm, ⟨35, _⟩ => ⟨S_, .f32⟩
  | .hbm, ⟨36, _⟩ => ⟨S32x16, .f32⟩
  | .hbm, ⟨37, _⟩ => ⟨S32x16x1, .f32⟩
  | .hbm, ⟨38, _⟩ => ⟨S_, .f32⟩
  | .hbm, ⟨39, _⟩ => ⟨S32x16x1, .f32⟩
  | .hbm, ⟨40, _⟩ => ⟨S32x16x1, .f32⟩
  | .hbm, ⟨41, _⟩ => ⟨S_, .f32⟩
  | .hbm, ⟨42, _⟩ => ⟨S32x16x1, .f32⟩
  | .hbm, ⟨43, _⟩ => ⟨S32x16x1, .f32⟩
  | .hbm, ⟨44, _⟩ => ⟨S32x16x1, .f32⟩
  | .hbm, ⟨45, _⟩ => ⟨S32x16x1024, .f32⟩
  | .hbm, ⟨46, _⟩ => ⟨S32x16x1024, .f32⟩
  | .hbm, ⟨47, _⟩ => ⟨S1x1x1024, .f32⟩
  | .hbm, ⟨48, _⟩ => ⟨S32x16x1024, .f32⟩
  | .hbm, ⟨49, _⟩ => ⟨S32x16x1024, .f32⟩
  | .hbm, ⟨50, _⟩ => ⟨S512x1024, .f32⟩
  | _, _ => ⟨S8x4608x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel7.lean ====
abbrev S8x4608x512 : Shape := ⟨3, ![8, 4608, 512]⟩
abbrev S16896x8 : Shape := ⟨2, ![16896, 8]⟩
abbrev S16384x1024 : Shape := ⟨2, ![16384, 1024]⟩
abbrev S2x6144 : Shape := ⟨2, ![2, 6144]⟩
abbrev S1024 : Shape := ⟨1, ![1024]⟩
abbrev S2x6x1x1024 : Shape := ⟨4, ![2, 6, 1, 1024]⟩
abbrev S1x1024 : Shape := ⟨2, ![1, 1024]⟩
abbrev S8x512x512 : Shape := ⟨3, ![8, 512, 512]⟩
abbrev S512x8 : Shape := ⟨2, ![512, 8]⟩
abbrev S512x1024 : Shape := ⟨2, ![512, 1024]⟩
abbrev S1x6x1x1024 : Shape := ⟨4, ![1, 6, 1, 1024]⟩
abbrev S512x1 : Shape := ⟨2, ![512, 1]⟩
abbrev S1x512x512 : Shape := ⟨3, ![1, 512, 512]⟩
abbrev S512x512 : Shape := ⟨2, ![512, 512]⟩
abbrev S1x1x1x1024 : Shape := ⟨4, ![1, 1, 1, 1024]⟩
abbrev S512 : Shape := ⟨1, ![512]⟩

abbrev nBuf : Space → Nat
  | .hbm => 9
  | .vmem => 11
  | .smem => 0
  | _ => 0

abbrev bufTy : (tb : Table) → Fin (tcTables nBuf tb) → BufTy
  | .hbm, ⟨0, _⟩ => ⟨S8x4608x512, .i32⟩
  | .hbm, ⟨1, _⟩ => ⟨S16896x8, .f32⟩
  | .hbm, ⟨2, _⟩ => ⟨S16384x1024, .f32⟩
  | .hbm, ⟨3, _⟩ => ⟨S2x6144, .f32⟩
  | .hbm, ⟨4, _⟩ => ⟨S1024, .f32⟩
  | .hbm, ⟨5, _⟩ => ⟨S16384x1024, .f32⟩
  | .hbm, ⟨6, _⟩ => ⟨S2x6x1x1024, .f32⟩
  | .hbm, ⟨7, _⟩ => ⟨S1x1024, .f32⟩
  | .hbm, ⟨8, _⟩ => ⟨S16384x1024, .f32⟩
  | .local _ .vmem, ⟨0, _⟩ => ⟨S8x512x512, .i32⟩
  | .local _ .vmem, ⟨1, _⟩ => ⟨S8x512x512, .i32⟩
  | .local _ .vmem, ⟨2, _⟩ => ⟨S512x8, .f32⟩
  | .local _ .vmem, ⟨3, _⟩ => ⟨S512x8, .f32⟩
  | .local _ .vmem, ⟨4, _⟩ => ⟨S512x1024, .f32⟩
  | .local _ .vmem, ⟨5, _⟩ => ⟨S512x1024, .f32⟩
  | .local _ .vmem, ⟨6, _⟩ => ⟨S1x6x1x1024, .f32⟩
  | .local _ .vmem, ⟨7, _⟩ => ⟨S1x6x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8x4608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c24_i32 : BitVec 32 := 24#32
  let v0 : BitVec 32 := Scalar.addi arg0 c24_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8x4608x512 : Shape := ⟨3, ![8, 4608, 512]⟩
abbrev S16896x8 : Shape := ⟨2, ![16896, 8]⟩
abbrev S16384x1024 : Shape := ⟨2, ![16384, 1024]⟩
abbrev S2x6144 : Shape := ⟨2, ![2, 6144]⟩
abbrev S1024 : Shape := ⟨1, ![1024]⟩
abbrev S1x6144 : Shape := ⟨2, ![1, 6144]⟩
abbrev S1x1024 : Shape := ⟨2, ![1, 1024]⟩
abbrev S8x4096x512 : Shape := ⟨3, ![8, 4096, 512]⟩
abbrev S_ : Shape := ⟨0, ![]⟩
abbrev S8x4096x1024 : Shape := ⟨3, ![8, 4096, 1024]⟩
abbrev S4096x8 : Shape := ⟨2, ![4096, 8]⟩
abbrev S8x4096 : Shape := ⟨2, ![8, 4096]⟩
abbrev S8x4096x1 : Shape := ⟨3, ![8, 4096, 1]⟩
abbrev S4096x1024 : Shape := ⟨2, ![4096, 1024]⟩
abbrev S12288x1024 : Shape := ⟨2, ![12288, 1024]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x4608x512, .i32⟩
  | .hbm, ⟨1, _⟩ => ⟨S16896x8, .f32⟩
  | .hbm, ⟨2, _⟩ => ⟨S16384x1024, .f32⟩
  | .hbm, ⟨3, _⟩ => ⟨S2x6144, .f32⟩
  | .hbm, ⟨4, _⟩ => ⟨S1024, .f32⟩
  | .hbm, ⟨5, _⟩ => ⟨S16384x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8x4096x512, .i32⟩
  | .hbm, ⟨14, _⟩ => ⟨S_, .i32⟩
  | .hbm, ⟨15, _⟩ => ⟨S8x4096x512, .i32⟩
  | .hbm, ⟨16, _⟩ => ⟨S8x4096x512, .i32⟩
  | .hbm, ⟨17, _⟩ => ⟨S8x4096x512, .f32⟩
  | .hbm, ⟨18, _⟩ => ⟨S_, .i32⟩
  | .hbm, ⟨19, _⟩ => ⟨S8x4096x512, .i32⟩
  | .hbm, ⟨20, _⟩ => ⟨S8x4096x512, .i32⟩
  | .hbm, ⟨21, _⟩ => ⟨S8x4096x512, .f32⟩
  | .hbm, ⟨22, _⟩ => ⟨S8x4096x1024, .f32⟩
  | .hbm, ⟨23, _⟩ => ⟨S4096x8, .f32⟩
  | .hbm, ⟨24, _⟩ => ⟨S8x4096, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S12288x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S16384x1024, .f32⟩
  | _, _ => ⟨S8x4608x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel8.lean ====
abbrev S2x1024 : Shape := ⟨2, ![2, 1024]⟩
abbrev S32x1024 : Shape := ⟨2, ![32, 1024]⟩
abbrev S1024x6144 : Shape := ⟨2, ![1024, 6144]⟩
abbrev S6144 : Shape := ⟨1, ![6144]⟩
abbrev S34x1024 : Shape := ⟨2, ![34, 1024]⟩
abbrev S_ : Shape := ⟨0, ![]⟩
abbrev S40x1024 : Shape := ⟨2, ![40, 1024]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S34x1024, .f32⟩
  | .hbm, ⟨5, _⟩ => ⟨S_, .i32⟩
  | .hbm, ⟨6, _⟩ => ⟨S_, .f32⟩
  | .hbm, ⟨7, _⟩ => ⟨S40x1024, .f32⟩
  | .hbm, ⟨8, _⟩ => ⟨S1x6144, .f32⟩
  | .hbm, ⟨9, _⟩ => ⟨S40x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2x1024 : Shape := ⟨2, ![2, 1024]⟩
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S6x1024 : Shape := ⟨2, ![6, 1024]⟩
abbrev S40x1024 : Shape := ⟨2, ![40, 1024]⟩
abbrev S40x6144 : Shape := ⟨2, ![40, 6144]⟩
abbrev S1x6144 : Shape := ⟨2, ![1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S6x1024, .f32⟩
  | .hbm, ⟨6, _⟩ => ⟨S40x1024, .f32⟩
  | .hbm, ⟨7, _⟩ => ⟨S40x1024, .f32⟩
  | .hbm, ⟨8, _⟩ => ⟨S40x1024, .f32⟩
  | .hbm, ⟨9, _⟩ => ⟨S_, .f32⟩
  | .hbm, ⟨10, _⟩ => ⟨S40x1024, .f32⟩
  | .hbm, ⟨11, _⟩ => ⟨S40x1024, .f32⟩
  | .hbm, ⟨12, _⟩ => ⟨S_, .f32⟩
  | .hbm, ⟨13, _⟩ => ⟨S40x1024, .f32⟩
  | .hbm, ⟨14, _⟩ => ⟨S40x1024, .f32⟩
  | .hbm, ⟨15, _⟩ => ⟨S40x1024, .f32⟩
  | .hbm, ⟨16, _⟩ => ⟨S40x6144, .f32⟩
  | .hbm, ⟨17, _⟩ => ⟨S1x6144, .f32⟩
  | .hbm, ⟨18, _⟩ => ⟨S40x6144, .f32⟩
  | .hbm, ⟨19, _⟩ => ⟨S40x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.Block.lean ====
/- What one grid point of the retention kernel computes, as functions of the arrays it reads: the 256 output rows of
   eight heads, the four blocks of the new state, and the two decay tables that the first point of a batch fills. -/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Retention

open Idealize.ShloMosaic Idealize.ShloMosaic.TcCoe Idealize.SL.Sem
open Cert.KernelIdeal Cert.KernelIdeal.Gen

variable {F : FTy → Type} [FloatOps F] [Named F]

/-! ## Pieces of the arrays -/

/-- The 128 columns of a `[256, 512]` block that begin at column `o`. -/
def slab (x : Vec F S256x512 .bf16) (o : ℕ) : Vec F S256x128 .bf16 :=
  fun j => x (ix2 (j 0) (Fin.ofNat 512 (o + (j 1).val)))

/-- The 128 columns of a `[256, 1024]` block that begin at column `o`. -/
def slabW (x : Vec F S256x1024 .bf16) (o : ℕ) : Vec F S256x128 .bf16 :=
  fun j => x (ix2 (j 0) (Fin.ofNat 1024 (o + (j 1).val)))

/-- The state block of the head pair `p`. -/
def sAt (s : Vec F S1x4x128x128 .f32) (p : ℕ) : Vec F S1x1x128x128 .f32 :=
  fun j => s (ix4 (j 0) (Fin.ofNat 4 p) (j 2) (j 3))

/-- The decay mask of head `h`. -/
def dmAt (x : Vec F S8x256x256 .f32) (h : ℕ) : Vec F S1x256x256 .f32 :=
  fun j => x (ix3 (Fin.ofNat 8 h) (j 1) (j 2))

/-- Table `w` of the row decays of the head pair `p`. -/
def decAt (x : Vec F S4x2x256x128 .f32) (p w : ℕ) : Vec F S1x1x256x128 .f32 :=
  fun j => x (ix4 (Fin.ofNat 4 p) (Fin.ofNat 2 w) (j 2) (j 3))

theorem ld_slab (x : Vec F S256x512 .bf16) (o : ℕ) (inb) :
    View.ld x (Rect.unit ![0, o] ![256, 128] inb) = slab x o := by
  funext j
  have h1 : (j 1).val < 128 := (j 1).isLt
  have hb : o + 128 ≤ 512 := inb 1
  refine congrArg x (funext fun a => Fin.ext ?_)
  match a with
  | ⟨0, _⟩ => show 0 + 1 * (j 0).val = (j 0).val; omega
  | ⟨1, _⟩ => show o + 1 * (j 1).val = (o + (j 1).val) % 512; omega

theorem ld_slabW (x : Vec F S256x1024 .bf16) (o : ℕ) (inb) :
    View.ld x (Rect.unit ![0, o] ![256, 128] inb) = slabW x o := by
  funext j
  have h1 : (j 1).val < 128 := (j 1).isLt
  have hb : o + 128 ≤ 1024 := inb 1
  refine congrArg x (funext fun a => Fin.ext ?_)
  match a with
  | ⟨0, _⟩ => show 0 + 1 * (j 0).val = (j 0).val; omega
  | ⟨1, _⟩ => show o + 1 * (j 1).val = (o + (j 1).val) % 1024; omega

theorem ld_sAt (x : Vec F S1x4x128x128 .f32) (p : ℕ) (inb) :
    View.ld x (Rect.unit ![0, p, 0, 0] ![1, 1, 128, 128] inb) = sAt x p := by
  funext j
  have h1 : (j 1).val < 1 := (j 1).isLt
  have hb : p + 1 ≤ 4 := inb 1
  refine congrArg x (funext fun a => Fin.ext ?_)
  match a with
  | ⟨0, _⟩ => show 0 + 1 * (j 0).val = (j 0).val; omega
  | ⟨1, _⟩ => show p + 1 * (j 1).val = p % 4; omega
  | ⟨2, _⟩ => show 0 + 1 * (j 2).val = (j 2).val; omega
  | ⟨3, _⟩ => show 0 + 1 * (j 3).val = (j 3).val; omega

theorem ld_dmAt (x : Vec F S8x256x256 .f32) (h : ℕ) (inb) :
    View.ld x (Rect.unit ![h, 0, 0] ![1, 256, 256] inb) = dmAt x h := by
  funext j
  have h1 : (j 0).val < 1 := (j 0).isLt
  have hb : h + 1 ≤ 8 := inb 0
  refine congrArg x (funext fun a => Fin.ext ?_)
  match a with
  | ⟨0, _⟩ => show h + 1 * (j 0).val = h % 8; omega
  | ⟨1, _⟩ => show 0 + 1 * (j 1).val = (j 1).val; omega
  | ⟨2, _⟩ => show 0 + 1 * (j 2).val = (j 2).val; omega

theorem ld_decAt (x : Vec F S4x2x256x128 .f32) (p w : ℕ) (inb) :
    View.ld x (Rect.unit ![p, w, 0, 0] ![1, 1, 256, 128] inb) = decAt x p w := by
  funext j
  have h0 : (j 0).val < 1 := (j 0).isLt
  have h1 : (j 1).val < 1 := (j 1).isLt
  have hb : p + 1 ≤ 4 := inb 0
  have hb' : w + 1 ≤ 2 := inb 1
  refine congrArg x (funext fun a => Fin.ext ?_)
  match a with
  | ⟨0, _⟩ => show p + 1 * (j 0).val = p % 4; omega
  | ⟨1, _⟩ => show w + 1 * (j 1).val = w % 2; omega
  | ⟨2, _⟩ => show 0 + 1 * (j 2).val = (j 2).val; omega
  | ⟨3, _⟩ => show 0 + 1 * (j 3).val = (j 3).val; omega

/-! ## The block's arithmetic -/

/-- The lanes of head `h` within its pair: the low 64 for an even head, the high 64 for an odd one. -/
def mask (h : ℕ) : FVec F S256x128 .bf16 := if h % 2 = 0 then k0_pay32 else k0_pay33

/-- A head's 256 rows before normalisation: the masked scores against the block's own values, plus the decayed
    queries against the carried state. -/
def headO (mk : FVec F S256x128 .bf16) (q k v : Vec F S256x128 .bf16) (s : Vec F S1x1x128x128 .f32)
    (dm : Vec F S1x256x256 .f32) (dec : Vec F S1x1x256x128 .f32) : FVec F S256x128 .f32 :=
  k0_pay71 (k0_pay54 mk (k0_pay35 q dec) s) (k0_pay64 (k0_pay46 k (k0_pay45 mk q)) dm) v

/-- A head's 256 output rows: normalised by their root mean square and gated. -/
def headY (mk : FVec F S256x128 .bf16) (q k v sg : Vec F S256x128 .bf16) (s : Vec F S1x1x128x128 .f32)
    (dm : Vec F S1x256x256 .f32) (dec : Vec F S1x1x256x128 .f32) : FVec F S256x128 .bf16 :=
  k0_pay79 (headO mk q k v s dm dec) sg

/-- The new state of a head pair: the old one decayed by `a` in the first head's 64 rows and by `b` in the second's,
    plus the decayed keys against the first head's values above and the second's below. -/
def pairS (a b : F .f32) (k v0 v1 : Vec F S256x128 .bf16) (s : Vec F S1x1x128x128 .f32)
    (dec : Vec F S1x1x256x128 .f32) : FVec F S1x1x128x128 .f32 :=
  shapeCast S1x1x128x128
    (addf (mulf (select k0_pay34 (broadcast S128x128 a) (broadcast S128x128 b))
        (shapeCast S128x128 s shapeCasts_S1x1x128x128_S128x128))
      (select k0_pay34 (k0_pay90 (k0_pay36 k dec) v0) (k0_pay91 (k0_pay36 k dec) v1)))
    shapeCasts_S128x128_S1x1x128x128

/-- The decay mask of a head whose log decay is `l`: `exp (l · (i - j))` on and below the diagonal, zero above. -/
def maskE (l : F .f32) : FVec F S1x256x256 .f32 :=
  shapeCast S1x256x256
    (select (cmpf .oge (k0_pay4 (F := F)) (broadcast S256x256 (Scalar.ofBits .f32 0x00000000#32)))
      (exp (mulf (broadcast S256x256 l)
        (maximumf (k0_pay4 (F := F)) (broadcast S256x256 (Scalar.ofBits .f32 0x00000000#32)))))
      (broadcast S256x256 (Scalar.ofBits .f32 0x00000000#32)))
    shapeCasts_S256x256_S1x256x256

/-- The queries' row decays `exp (l · (i + 1))`, `l` being `a` on the low lanes and `b` on the high ones. -/
def decQ (a b : F .f32) : FVec F S1x1x256x128 .f32 :=
  shapeCast S1x1x256x128
    (exp (mulf (select k0_pay29 (broadcast S256x128 a) (broadcast S256x128 b))
      (addf (k0_pay15 (F := F)) (broadcast S256x128 (Scalar.ofBits .f32 0x3F800000#32)))))
    shapeCasts_S256x128_S1x1x256x128

/-- The keys' row decays `exp (l · (255 - i))`. -/
def decK (a b : F .f32) : FVec F S1x1x256x128 .f32 :=
  shapeCast S1x1x256x128
    (exp (mulf (select k0_pay29 (broadcast S256x128 a) (broadcast S256x128 b))
      (subf (broadcast S256x128 (Scalar.ofBits .f32 0x437F0000#32)) (k0_pay15 (F := F)))))
    shapeCasts_S256x128_S1x1x256x128

/-- The named log decays of the eight heads. -/
def lg : ℕ → F .f32
  | 0 => Named.named κ "lg0" 0xBD020AEC#32
  | 1 => Named.named κ "lg1" 0xBC8102B3#32
  | 2 => Named.named κ "lg2" 0xBC0080AC#32
  | 3 => Named.named κ "lg3" 0xBB80402B#32
  | 4 => Named.named κ "lg4" 0xBB00200B#32
  | 5 => Named.named κ "lg5" 0xBA801003#32
  | 6 => Named.named κ "lg6" 0xBA000801#32
  | _ => Named.named κ "lg7" 0xB9800400#32

/-- The named decays of the eight heads over a block of 256 rows. -/
def sd : ℕ → F .f32
  | 0 => Named.named κ "sd0" 0x399ACCA1#32
  | 1 => Named.named κ "sd1" 0x3C9160A5#32
  | 2 => Named.named κ "sd2" 0x3E097FCE#32
  | 3 => Named.named κ "sd3" 0x3EBBFC5D#32
  | 4 => Named.named κ "sd4" 0x3F1B322A#32
  | 5 => Named.named κ "sd5" 0x3F475941#32
  | 6 => Named.named κ "sd6" 0x3F61E98D#32
  | _ => Named.named κ "sd7" 0x3F707CE8#32

/-! ## The arrays a grid point leaves -/

/-- Head `h`'s output rows from the point's blocks. -/
def headAt (x0 x1 : Vec F S256x512 .bf16) (x2 x3 : Vec F S256x1024 .bf16) (s : Vec F S1x4x128x128 .f32)
    (dm : Vec F S8x256x256 .f32) (dec : Vec F S4x2x256x128 .f32) (h : ℕ) : FVec F S256x128 .bf16 :=
  headY (mask h) (slab x0 (128 * (h / 2))) (slab x1 (128 * (h / 2))) (slabW x2 (128 * h)) (slabW x3 (128 * h))
    (sAt s (h / 2)) (dmAt dm h) (decAt dec (h / 2) 0)

/-- The output block: head `h` in columns `128 h` to `128 h + 127`. -/
def Yarr (x0 x1 : Vec F S256x512 .bf16) (x2 x3 : Vec F S256x1024 .bf16) (s : Vec F S1x4x128x128 .f32)
    (dm : Vec F S8x256x256 .f32) (dec : Vec F S4x2x256x128 .f32) : Vec F S256x1024 .bf16 :=
  fun y => headAt x0 x1 x2 x3 s dm dec ((y 1).val / 128) (ix2 (y 0) (Fin.ofNat 128 (y 1).val))

/-- The new state of the head pair `p`. -/
def pairAt (x1 : Vec F S256x512 .bf16) (x2 : Vec F S256x1024 .bf16) (s : Vec F S1x4x128x128 .f32)
    (dec : Vec F S4x2x256x128 .f32) (p : ℕ) : FVec F S1x1x128x128 .f32 :=
  pairS (sd (2 * p)) (sd (2 * p + 1)) (slab x1 (128 * p)) (slabW x2 (128 * (2 * p)))
    (slabW x2 (128 * (2 * p + 1))) (sAt s p) (decAt dec p 1)

/-- The new state, pair by pair. -/
def Sarr (x1 : Vec F S256x512 .bf16) (x2 : Vec F S256x1024 .bf16) (s : Vec F S1x4x128x128 .f32)
    (dec : Vec F S4x2x256x128 .f32) : Vec F S1x4x128x128 .f32 :=
  fun y => pairAt x1 x2 s dec (y 1).val (ix4 0 0 (y 2) (y 3))

/-- The decay masks of the eight heads. -/
def dmT : Vec F S8x256x256 .f32 := fun y => maskE (lg (y 0).val) (ix3 0 (y 1) (y 2))

/-- The row decays of the four head pairs: for queries in table 0, for keys in table 1. -/
def decT : Vec F S4x2x256x128 .f32 := fun y =>
  if (y 1).val = 0 then decQ (lg (2 * (y 0).val)) (lg (2 * (y 0).val + 1)) (ix4 0 0 (y 2) (y 3))
  else decK (lg (2 * (y 0).val)) (lg (2 * (y 0).val + 1)) (ix4 0 0 (y 2) (y 3))

/-! ## A stored piece is the array's own part -/

theorem Yarr_emb (x0 x1 : Vec F S256x512 .bf16) (x2 x3 : Vec F S256x1024 .bf16) (s : Vec F S1x4x128x128 .f32)
    (dm : Vec F S8x256x256 .f32) (dec : Vec F S4x2x256x128 .f32) (o h : ℕ) (ho : o = 128 * h) (inb)
    (x : (Rect.unit (s := S256x1024) ![0, o] S256x128.size inb).shape.Idx) :
    Yarr x0 x1 x2 x3 s dm dec ((Rect.unit (s := S256x1024) ![0, o] S256x128.size inb).emb x)
      = headAt x0 x1 x2 x3 s dm dec h x := by
  have h1 : (x 1).val < 128 := (x 1).isLt
  have e1 : (((Rect.unit (s := S256x1024) ![0, o] S256x128.size inb).emb x) 1).val = o + 1 * (x 1).val := rfl
  have ed : (o + 1 * (x 1).val) / 128 = h := by omega
  unfold Yarr
  rw [e1, ed]
  refine congrArg _ (funext fun a => Fin.ext ?_)
  match a with
  | ⟨0, _⟩ => show 0 + 1 * (x 0).val = (x 0).val; omega
  | ⟨1, _⟩ => show (o + 1 * (x 1).val) % 128 = (x 1).val; omega

theorem Sarr_emb (x1 : Vec F S256x512 .bf16) (x2 : Vec F S256x1024 .bf16) (s : Vec F S1x4x128x128 .f32)
    (dec : Vec F S4x2x256x128 .f32) (p : ℕ) (inb)
    (x : (Rect.unit (s := S1x4x128x128) ![0, p, 0, 0] S1x1x128x128.size inb).shape.Idx) :
    Sarr x1 x2 s dec ((Rect.unit (s := S1x4x128x128) ![0, p, 0, 0] S1x1x128x128.size inb).emb x)
      = pairAt x1 x2 s dec p x := by
  have h0 : (x 0).val < 1 := (x 0).isLt
  have h1 : (x 1).val < 1 := (x 1).isLt
  have e1 : (((Rect.unit (s := S1x4x128x128) ![0, p, 0, 0] S1x1x128x128.size inb).emb x) 1).val = p + 1 * (x 1).val := rfl
  have ed : p + 1 * (x 1).val = p := by omega
  unfold Sarr
  rw [e1, ed]
  refine congrArg _ (funext fun a => Fin.ext ?_)
  match a with
  | ⟨0, _⟩ => show 0 = (x 0).val; omega
  | ⟨1, _⟩ => show 0 = (x 1).val; omega
  | ⟨2, _⟩ => show 0 + 1 * (x 2).val = (x 2).val; omega
  | ⟨3, _⟩ => show 0 + 1 * (x 3).val = (x 3).val; omega

theorem dmT_emb (h : ℕ) (inb) (x : (Rect.unit (s := S8x256x256) ![h, 0, 0] S1x256x256.size inb).shape.Idx) :
    (dmT : Vec F S8x256x256 .f32) ((Rect.unit (s := S8x256x256) ![h, 0, 0] S1x256x256.size inb).emb x) = maskE (lg h) x := by
  have h0 : (x 0).val < 1 := (x 0).isLt
  have e1 : (((Rect.unit (s := S8x256x256) ![h, 0, 0] S1x256x256.size inb).emb x) 0).val = h + 1 * (x 0).val := rfl
  have ed : h + 1 * (x 0).val = h := by omega
  unfold dmT
  rw [e1, ed]
  refine congrArg _ (funext fun a => Fin.ext ?_)
  match a with
  | ⟨0, _⟩ => show 0 = (x 0).val; omega
  | ⟨1, _⟩ => show 0 + 1 * (x 1).val = (x 1).val; omega
  | ⟨2, _⟩ => show 0 + 1 * (x 2).val = (x 2).val; omega

theorem decT_emb (p w : ℕ) (inb)
    (x : (Rect.unit (s := S4x2x256x128) ![p, w, 0, 0] S1x1x256x128.size inb).shape.Idx) :
    (decT : Vec F S4x2x256x128 .f32) ((Rect.unit (s := S4x2x256x128) ![p, w, 0, 0] S1x1x256x128.size inb).emb x)
      = (if w = 0 then decQ (lg (2 * p)) (lg (2 * p + 1)) else decK (lg (2 * p)) (lg (2 * p + 1))) x := by
  have h0 : (x 0).val < 1 := (x 0).isLt
  have h1 : (x 1).val < 1 := (x 1).isLt
  have e0 : (((Rect.unit (s := S4x2x256x128) ![p, w, 0, 0] S1x1x256x128.size inb).emb x) 0).val = p + 1 * (x 0).val := rfl
  have e1 : (((Rect.unit (s := S4x2x256x128) ![p, w, 0, 0] S1x1x256x128.size inb).emb x) 1).val = w + 1 * (x 1).val := rfl
  have ed : p + 1 * (x 0).val = p := by omega
  have ed' : w + 1 * (x 1).val = w := by omega
  have ex : (ix4 0 0 (((Rect.unit (s := S4x2x256x128) ![p, w, 0, 0] S1x1x256x128.size inb).emb x) 2)
      (((Rect.unit (s := S4x2x256x128) ![p, w, 0, 0] S1x1x256x128.size inb).emb x) 3) : S1x1x256x128.Idx) = x := by
    refine funext fun a => Fin.ext ?_
    match a with
    | ⟨0, _⟩ => show 0 = (x 0).val; omega
    | ⟨1, _⟩ => show 0 = (x 1).val; omega
    | ⟨2, _⟩ => show 0 + 1 * (x 2).val = (x 2).val; omega
    | ⟨3, _⟩ => show 0 + 1 * (x 3).val = (x 3).val; omega
  unfold decT
  rw [e0, e1, ed, ed', ex]
  by_cases hw : w = 0
  · rw [if_pos hw, if_pos hw]
  · rw [if_neg hw, if_neg hw]

end Cert.Retention
-- ==== Proof.Closed.lean ====
/- The retention recurrence over the reals, and its chunkwise form at any chunk length: the mathematics shared by the
   kernel (chunks of 256 rows) and the reference (chunks of 64 rows). -/
module

public import Mathlib.Analysis.SpecialFunctions.Log.Basic
public import Mathlib.Tactic.Linarith
public import Mathlib.Tactic.Ring

@[expose] public section

noncomputable section

namespace Cert.Retention

open Finset

/-- The decay of head `h`: `1 - 2^(-5-h)`. -/
def gam (h : ℕ) : ℝ := 1 - 1 / 2 ^ (5 + h)

theorem gam_pos (h : ℕ) : 0 < gam h := by
  have h1 : (1 : ℝ) < 2 ^ (5 + h) := one_lt_pow₀ (by norm_num) (by omega)
  have : (1 : ℝ) / 2 ^ (5 + h) < 1 := by rw [div_lt_one (by positivity)]; exact h1
  unfold gam; linarith

/-- `exp (log γ · n) = γⁿ`. -/
theorem exp_log_mul (h n : ℕ) : Real.exp (Real.log (gam h) * n) = gam h ^ n := by
  rw [mul_comm, Real.exp_nat_mul, Real.exp_log (gam_pos h)]

variable (q k v : ℕ → ℕ → ℝ) (r0 h : ℕ)

/-- The state of head `h` after `n` rows of the sequence that starts at row `r0`, at key column `d` and value column
    `e`: `S₀ = 0`, `Sₙ₊₁ = γ Sₙ + kₙᵀ vₙ`. -/
def St : ℕ → ℕ → ℕ → ℝ
  | 0, _, _ => 0
  | n + 1, d, e => gam h * St n d e + k (r0 + n) (64 * h + d) * v (r0 + n) (128 * h + e)

/-- The output of row `n`: the query times the state that holds the row itself. -/
def Out (n e : ℕ) : ℝ := ∑ d ∈ range 64, q (r0 + n) (64 * h + d) * St k v r0 h (n + 1) d e

/-- The state advanced by `C` rows at once. -/
theorem St_chunk (N d e : ℕ) : ∀ C : ℕ, St k v r0 h (N + C) d e
    = gam h ^ C * St k v r0 h N d e
      + ∑ j ∈ range C, k (r0 + (N + j)) (64 * h + d) * gam h ^ (C - 1 - j) * v (r0 + (N + j)) (128 * h + e)
  | 0 => by simp
  | C + 1 => by
    rw [← Nat.add_assoc, St, St_chunk N d e C, sum_range_succ, mul_add, mul_sum]
    have : ∑ j ∈ range C, gam h * (k (r0 + (N + j)) (64 * h + d) * gam h ^ (C - 1 - j) * v (r0 + (N + j)) (128 * h + e))
        = ∑ j ∈ range C, k (r0 + (N + j)) (64 * h + d) * gam h ^ (C + 1 - 1 - j) * v (r0 + (N + j)) (128 * h + e) := by
      refine sum_congr rfl fun j hj => ?_
      have hj := mem_range.mp hj
      rw [show C + 1 - 1 - j = (C - 1 - j) + 1 by omega, pow_succ]; ring
    rw [this, show C + 1 - 1 - C = 0 by omega, pow_succ]; ring

/-- The output of row `N + i` from the state at row `N`: the chunk's own keys under the decay mask, and the state. -/
theorem Out_chunk (N C i e : ℕ) (hi : i < C) :
    (∑ j ∈ range C, (∑ d ∈ range 64, q (r0 + (N + i)) (64 * h + d) * k (r0 + (N + j)) (64 * h + d))
        * (if j ≤ i then gam h ^ (i - j) else 0) * v (r0 + (N + j)) (128 * h + e))
      + ∑ d ∈ range 64, q (r0 + (N + i)) (64 * h + d) * gam h ^ (i + 1) * St k v r0 h N d e
    = Out q k v r0 h (N + i) e := by
  have hsub : ∑ j ∈ range C, (∑ d ∈ range 64, q (r0 + (N + i)) (64 * h + d) * k (r0 + (N + j)) (64 * h + d))
        * (if j ≤ i then gam h ^ (i - j) else 0) * v (r0 + (N + j)) (128 * h + e)
      = ∑ j ∈ range (i + 1), (∑ d ∈ range 64, q (r0 + (N + i)) (64 * h + d) * k (r0 + (N + j)) (64 * h + d))
        * gam h ^ (i - j) * v (r0 + (N + j)) (128 * h + e) := by
    symm
    refine (sum_congr rfl fun j hj => ?_).trans (sum_subset (range_mono (by omega : i + 1 ≤ C)) fun j _ hj => ?_)
    · rw [if_pos (by have := mem_range.mp hj; omega)]
    · rw [if_neg (by have := mt mem_range.mpr hj; omega)]; ring
  rw [hsub, Out, Nat.add_assoc]
  simp only [St_chunk k v r0 h N _ e (i + 1), mul_add, sum_add_distrib, mul_sum, sum_mul]
  rw [sum_comm, add_comm]
  congr 1
  · exact sum_congr rfl fun d _ => by ring
  · refine sum_congr rfl fun d _ => sum_congr rfl fun j hj => ?_
    rw [show i + 1 - 1 - j = i - j by omega]; ring

end Cert.Retention

end
-- ==== Proof.Consts.lean ====
/- The float constants of the retention programs as the real numbers they denote. -/
module

public import Idealize.ShloMosaic.PureOps.Ideal

@[expose] public section

noncomputable section

namespace Cert.Consts

open Idealize.ShloMosaic

/-- `255`. -/
theorem ofBits_255 : Ideal.ofBits .f32 0x437F0000#32 = ((255 : ℝ) : EReal) := by
  simp [Ideal.ofBits, Ideal.ieee, -EReal.coe_mul]; norm_num

/-- `63`. -/
theorem ofBits_63 : Ideal.ofBits .f32 0x427C0000#32 = ((63 : ℝ) : EReal) := by
  simp [Ideal.ofBits, Ideal.ieee, -EReal.coe_mul]; norm_num

/-- `64`. -/
theorem ofBits_64 : Ideal.ofBits .f32 0x42800000#32 = ((64 : ℝ) : EReal) := by
  simp [Ideal.ofBits, Ideal.ieee, -EReal.coe_mul]; norm_num

/-- The infinity. -/
theorem ofBits_inf : Ideal.ofBits .f32 0x7F800000#32 = ⊤ := by
  simp [Ideal.ofBits, Ideal.ieee]

/-- The constant one eighth. -/
theorem ofBits_eighth : Ideal.ofBits .f32 0x3E000000#32 = ((1 / 8 : ℝ) : EReal) := by
  simp [Ideal.ofBits, Ideal.ieee, -EReal.coe_mul]; norm_num

/-- `2`. -/
theorem ofBits_2 : Ideal.ofBits .f32 0x40000000#32 = ((2 : ℝ) : EReal) := by
  simp [Ideal.ofBits, Ideal.ieee, -EReal.coe_mul]; norm_num

/-- `-5`. -/
theorem ofBits_neg5 : Ideal.ofBits .f32 0xC0A00000#32 = ((-5 : ℝ) : EReal) := by
  simp [Ideal.ofBits, Ideal.ieee, -EReal.coe_mul]; norm_num

end Cert.Consts
-- ==== Proof.KernelReal.lean ====
/- The kernel's block functions on blocks of real numbers: a head's rows are the recurrence's outputs, the new state is
   the recurrence's state 256 rows later, and the tables hold the powers of the heads' decays. -/
module

public import proofs.«01_k».proof.Proof.Block
public import proofs.«01_k».proof.Proof.Closed
public import proofs.«01_k».proof.Proof.Consts
public import Idealize.ShloMosaic.Lib.Pointwise
public import Idealize.ShloMosaic.PureOps.Ideal
public import Mathlib.Tactic.IntervalCases

@[expose] public section

set_option maxRecDepth 16384
set_option exponentiation.threshold 4096

noncomputable section

namespace Cert.Retention

open Idealize.ShloMosaic Idealize.ShloMosaic.TcCoe Idealize.SL.Sem
open Cert.KernelIdeal Cert.KernelIdeal.Gen
open Finset (range)

/-! ## Sums -/

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The lanes of one half of 128, summed. -/
theorem half_sum (f : ℕ → ℝ) (b : ℕ) (hb : b < 2) :
    ∑ l : Fin 128, (if l.val / 64 = b then f l.val else 0) = ∑ d ∈ range 64, f (64 * b + d) := by
  rw [Fin.sum_univ_eq_sum_range (fun l => if l / 64 = b then f l else 0) 128, show 128 = 64 + 64 from rfl, Finset.sum_range_add]
  have e0 : ∑ x ∈ range 64, (if x / 64 = b then f x else 0) = ∑ x ∈ range 64, if 0 = b then f x else 0 :=
    Finset.sum_congr rfl fun x hx => by rw [show x / 64 = 0 by have := Finset.mem_range.mp hx; omega]
  have e1 : ∑ x ∈ range 64, (if (64 + x) / 64 = b then f (64 + x) else 0) = ∑ x ∈ range 64, if 1 = b then f (64 + x) else 0 :=
    Finset.sum_congr rfl fun x hx => by rw [show (64 + x) / 64 = 1 by have := Finset.mem_range.mp hx; omega]
  rw [e0, e1]
  interval_cases b <;> simp

/-! ## The tables -/

theorem sitofp_nat (n : ℕ) (hn : n < 2 ^ 31) : (FloatOps.sitofp .f32 (BitVec.ofNat 32 n) : Ideal .f32) = ((n : ℝ) : EReal) := by
  show (((BitVec.ofNat 32 n).toInt : ℝ) : EReal) = _
  rw [BitVec.toInt_ofNat', Int.bmod_eq_of_le (by omega) (by omega)]
  norm_num

theorem low_cond (l : ℕ) (hl : l < 128) : IntOp.cmpi .slt (BitVec.ofNat 32 l) 64#32 = if l / 64 = 0 then 1#1 else 0#1 := by
  have h : ∀ l : Fin 128, IntOp.cmpi .slt (BitVec.ofNat 32 l.val) 64#32 = if l.val / 64 = 0 then 1#1 else 0#1 := by
    decide +kernel
  exact h ⟨l, hl⟩

/-- A choice by the half a lane lies in. -/
theorem select_low {α : Type} (l : ℕ) (hl : l < 128) (a b : α) :
    Scalar.select (IntOp.cmpi .slt (BitVec.ofNat 32 l) 64#32) a b = if l / 64 = 0 then a else b := by
  rw [low_cond l hl]
  by_cases h : l / 64 = 0
  · rw [if_pos h, if_pos h]; rfl
  · rw [if_neg h, if_neg h]; rfl

theorem low_real (l : ℕ) (hl : l < 128) :
    (FloatOps.sitofp .f32 (BitVec.setWidth 32 (IntOp.cmpi .slt (BitVec.ofNat 32 l) 64#32)) : Ideal .f32)
      = ((if l / 64 = 0 then 1 else 0 : ℝ) : EReal) := by
  rw [low_cond l hl]
  by_cases h : l / 64 = 0
  · rw [if_pos h, if_pos h]; show (((BitVec.setWidth 32 1#1).toInt : ℝ) : EReal) = _; norm_num
  · rw [if_neg h, if_neg h]; show (((BitVec.setWidth 32 0#1).toInt : ℝ) : EReal) = _; norm_num

theorem mask_apply (h : ℕ) (i : Fin 256) (l : Fin 128) :
    (mask (F := Ideal) h) (ix2 i l) = (((if l.val / 64 = h % 2 then 1 else 0 : ℝ)) : EReal) := by
  unfold mask
  have hl : l.val / 64 = 0 ∨ l.val / 64 = 1 := by omega
  by_cases hh : h % 2 = 0
  · rw [if_pos hh]
    unfold k0_pay32 k0_pay31 k0_pay29
    pointwise
    rw [low_real _ l.isLt, hh]
  · rw [if_neg hh]
    unfold k0_pay33 k0_pay31 k0_pay29
    pointwise
    rw [low_real _ l.isLt, show h % 2 = 1 by omega, ← EReal.coe_one, ← EReal.coe_sub]
    rcases hl with hl | hl <;> simp [hl]

/-- `exp` of a head's log decay times a whole number is that power of its decay. -/
theorem exp_lg (h : ℕ) (n : ℕ) (x : EReal) (hx : x = ((n : ℝ) : EReal)) :
    Ideal.exp (((Real.log (gam h) : ℝ) : EReal) * x) = ((gam h ^ n : ℝ) : EReal) := by
  rw [hx, ← EReal.coe_mul, Ideal.exp_coe, exp_log_mul]

theorem lg_val (h : ℕ) (hh : h < 8) : lg (F := Ideal) h = ((Real.log (gam h) : ℝ) : EReal) := by
  have e : ∀ h, gam h = 1 - 1 / 2 ^ (5 + h) := fun _ => rfl
  interval_cases h
  · exact (IdealRules.named_const.ideal_named_scalar _ _ _ ((Real.log (31 / 32) : ℝ) : EReal) rfl).trans (by rw [e]; norm_num)
  · exact (IdealRules.named_const.ideal_named_scalar _ _ _ ((Real.log (63 / 64) : ℝ) : EReal) rfl).trans (by rw [e]; norm_num)
  · exact (IdealRules.named_const.ideal_named_scalar _ _ _ ((Real.log (127 / 128) : ℝ) : EReal) rfl).trans (by rw [e]; norm_num)
  · exact (IdealRules.named_const.ideal_named_scalar _ _ _ ((Real.log (255 / 256) : ℝ) : EReal) rfl).trans (by rw [e]; norm_num)
  · exact (IdealRules.named_const.ideal_named_scalar _ _ _ ((Real.log (511 / 512) : ℝ) : EReal) rfl).trans (by rw [e]; norm_num)
  · exact (IdealRules.named_const.ideal_named_scalar _ _ _ ((Real.log (1023 / 1024) : ℝ) : EReal) rfl).trans (by rw [e]; norm_num)
  · exact (IdealRules.named_const.ideal_named_scalar _ _ _ ((Real.log (2047 / 2048) : ℝ) : EReal) rfl).trans (by rw [e]; norm_num)
  · exact (IdealRules.named_const.ideal_named_scalar _ _ _ ((Real.log (4095 / 4096) : ℝ) : EReal) rfl).trans (by rw [e]; norm_num)

theorem sd_val (h : ℕ) (hh : h < 8) : sd (F := Ideal) h = ((gam h ^ 256 : ℝ) : EReal) := by
  have e : ∀ h, gam h = 1 - 1 / 2 ^ (5 + h) := fun _ => rfl
  interval_cases h <;>
    exact (IdealRules.named_const.ideal_named_scalar _ _ _ _ rfl).trans (by rw [e]; norm_num)

/-- The mask table: `γ^(i-j)` on and below the diagonal. -/
theorem dmT_apply (h : Fin 8) (i j : Fin 256) :
    (dmT (F := Ideal)) (ix3 h i j) = ((if j.val ≤ i.val then gam h.val ^ (i.val - j.val) else 0 : ℝ) : EReal) := by
  show maskE (lg h.val) (ix3 0 i j) = _
  unfold maskE k0_pay4
  pointwise
  rw [lg_val _ h.isLt]
  have hd : (FloatOps.sitofp .f32 (IntOp.subi (BitVec.ofNat 32 i.val) (BitVec.ofNat 32 j.val)) : Ideal .f32)
      = (((i.val : ℝ) - (j.val : ℝ) : ℝ) : EReal) := by
    show (((BitVec.ofNat 32 i.val - BitVec.ofNat 32 j.val).toInt : ℝ) : EReal) = _
    have : (BitVec.ofNat 32 i.val - BitVec.ofNat 32 j.val).toInt = (i.val : ℤ) - (j.val : ℤ) := by
      rw [BitVec.toInt_sub, BitVec.toInt_ofNat', BitVec.toInt_ofNat', Int.bmod_eq_of_le (n := (i.val : ℤ)) (by omega) (by omega),
        Int.bmod_eq_of_le (n := (j.val : ℤ)) (by omega) (by omega), Int.bmod_eq_of_le (by omega) (by omega)]
    rw [this]; push_cast; rfl
  rw [hd]
  by_cases hij : j.val ≤ i.val
  · have hr : (0 : ℝ) ≤ (i.val : ℝ) - (j.val : ℝ) := by rw [sub_nonneg]; exact_mod_cast hij
    have he : (0 : EReal) ≤ (((i.val : ℝ) - (j.val : ℝ) : ℝ) : EReal) := by exact_mod_cast hr
    rw [if_pos he, if_pos hij, max_eq_left he]
    exact exp_lg _ _ _ (by rw [Nat.cast_sub hij])
  · have hr : ¬(0 : ℝ) ≤ (i.val : ℝ) - (j.val : ℝ) := by
      rw [sub_nonneg]; exact fun h => hij (by exact_mod_cast h)
    have he : ¬(0 : EReal) ≤ (((i.val : ℝ) - (j.val : ℝ) : ℝ) : EReal) := fun h => hr (by exact_mod_cast h)
    rw [if_neg he, if_neg hij]; rfl

/-- The queries' decays. -/
theorem decT_q (p : Fin 4) (i : Fin 256) (l : Fin 128) :
    (decT (F := Ideal)) (ix4 p 0 i l) = ((gam (2 * p.val + l.val / 64) ^ (i.val + 1) : ℝ) : EReal) := by
  show decQ (lg (2 * p.val)) (lg (2 * p.val + 1)) (ix4 0 0 i l) = _
  unfold decQ k0_pay15 k0_pay29
  pointwise
  rw [lg_val _ (by omega), lg_val _ (by omega), select_low _ l.isLt, sitofp_nat _ (by omega)]
  rcases (show l.val / 64 = 0 ∨ l.val / 64 = 1 by omega) with hl | hl
  · rw [hl, if_pos rfl]
    exact exp_lg _ _ _ (by push_cast; rfl)
  · rw [hl, if_neg (by decide)]
    exact exp_lg _ _ _ (by push_cast; rfl)

/-- The keys' decays. -/
theorem decT_k (p : Fin 4) (i : Fin 256) (l : Fin 128) :
    (decT (F := Ideal)) (ix4 p 1 i l) = ((gam (2 * p.val + l.val / 64) ^ (255 - i.val) : ℝ) : EReal) := by
  show decK (lg (2 * p.val)) (lg (2 * p.val + 1)) (ix4 0 0 i l) = _
  unfold decK k0_pay15 k0_pay29
  pointwise
  rw [lg_val _ (by omega), lg_val _ (by omega), select_low _ l.isLt, sitofp_nat _ (by omega), Cert.Consts.ofBits_255]
  rcases (show l.val / 64 = 0 ∨ l.val / 64 = 1 by omega) with hl | hl
  · rw [hl, if_pos rfl]
    exact exp_lg _ _ _ (by rw [← EReal.coe_sub, Nat.cast_sub (by omega)]; norm_num)
  · rw [hl, if_neg (by decide)]
    exact exp_lg _ _ _ (by rw [← EReal.coe_sub, Nat.cast_sub (by omega)]; norm_num)

end Cert.Retention
-- ==== Proof.Inputs.lean ====
/- The two results the kernel and the reference agree on, written over the real numbers the inputs hold. -/
module

public import proofs.«01_k».proof.Proof.Closed
public import Idealize.ShloMosaic.PureOps.Ideal
public import Idealize.ShloMosaic.Lib.Pointwise.Index

@[expose] public section

noncomputable section

namespace Cert.Retention

open Idealize.ShloMosaic

/-- The real numbers an array of extended reals holds, read at natural numbers. -/
def realOf {a b : ℕ} [NeZero a] [NeZero b] (x : Fin a → Fin b → EReal) (r c : ℕ) : ℝ :=
  (x (Fin.ofNat a r) (Fin.ofNat b c)).toReal

/-- Every entry is a real number. -/
def AllReal {a b : ℕ} (x : Fin a → Fin b → EReal) : Prop := ∀ r c, x r c ≠ ⊤ ∧ x r c ≠ ⊥

/-- An array of reals is the array its real numbers make. -/
theorem AllReal.eq {a b : ℕ} [NeZero a] [NeZero b] {x : Fin a → Fin b → EReal} (h : AllReal x) (r : Fin a) (c : Fin b) :
    x r c = ((realOf x r.val c.val : ℝ) : EReal) := by
  have er : Fin.ofNat a r.val = r := Fin.ext (Nat.mod_eq_of_lt r.isLt)
  have ec : Fin.ofNat b c.val = c := Fin.ext (Nat.mod_eq_of_lt c.isLt)
  unfold realOf
  rw [er, ec, EReal.coe_toReal (h r c).1 (h r c).2]

/-- The root-mean-square norm of a row of 128 values, one of them read, times a gate. -/
def rmsGate (o : Fin 128 → EReal) (e : Fin 128) (g : EReal) : EReal :=
  o e * Ideal.rsqrt (Ideal.div (∑ x, o x * o x) (Ideal.ofBits .f32 0x43000000#32) + Ideal.ofBits .f32 0x358637BD#32) * g

/-- The gated, normalised output at row `r`, column `e` of head `h`: rows `8192 b` to `8192 b + 8191` are sequence `b`. -/
def Yval (Q K V : ℕ → ℕ → ℝ) (r h : ℕ) (e : Fin 128) (g : EReal) : EReal :=
  rmsGate (fun x => ((Out Q K V (8192 * (r / 8192)) h (r % 8192) x.val : ℝ) : EReal)) e g

/-- Two matrices with equal entries are equal. -/
theorem ext2 {a b : ℕ} {α : Type*} {x y : (⟨2, ![a, b]⟩ : Shape).Idx → α} (h : ∀ i j, x (ix2 i j) = y (ix2 i j)) : x = y :=
  funext fun i => by rw [eq_ix2 i]; exact h _ _

/-- Two arrays of four dimensions with equal entries are equal. -/
theorem ext4 {a b c d : ℕ} {α : Type*} {x y : (⟨4, ![a, b, c, d]⟩ : Shape).Idx → α}
    (h : ∀ i j k l, x (ix4 i j k l) = y (ix4 i j k l)) : x = y :=
  funext fun i => by rw [eq_ix4 i]; exact h _ _ _ _

end Cert.Retention
-- ==== Proof.KernelChunk.lean ====
/- One grid point of the retention kernel on real inputs: from the recurrence's state before a block of 256 rows it
   computes the recurrence's outputs in the block and the state after it. -/
module

public import proofs.«01_k».proof.Proof.KernelReal
public import proofs.«01_k».proof.Proof.Inputs

@[expose] public section

set_option maxRecDepth 16384

noncomputable section

namespace Cert.Retention

open Idealize.ShloMosaic Idealize.ShloMosaic.TcCoe Idealize.SL.Sem
open Cert.KernelIdeal Cert.KernelIdeal.Gen
open Finset (range)

/-! ## The arithmetic, read at an index -/

theorem headO_read (mk : FVec Ideal S256x128 .bf16) (q k v : Vec Ideal S256x128 .bf16) (s : Vec Ideal S1x1x128x128 .f32)
    (dm : Vec Ideal S1x256x256 .f32) (dec : Vec Ideal S1x1x256x128 .f32) (i : Fin 256) (e : Fin 128) :
    headO mk q k v s dm dec (ix2 i e)
      = ∑ j : Fin 256, (∑ l : Fin 128, q (ix2 i l) * mk (ix2 i l) * k (ix2 j l)) * dm (ix3 0 i j) * v (ix2 j e)
        + ∑ l : Fin 128, q (ix2 i l) * dec (ix4 0 0 i l) * mk (ix2 i l) * s (ix4 0 0 l e) := by
  unfold headO k0_pay71 k0_pay54 k0_pay35 k0_pay64 k0_pay46 k0_pay45
  pointwise

theorem headY_read (mk : FVec Ideal S256x128 .bf16) (q k v sg : Vec Ideal S256x128 .bf16) (s : Vec Ideal S1x1x128x128 .f32)
    (dm : Vec Ideal S1x256x256 .f32) (dec : Vec Ideal S1x1x256x128 .f32) (i : Fin 256) (e : Fin 128) :
    headY mk q k v sg s dm dec (ix2 i e) = rmsGate (fun x => headO mk q k v s dm dec (ix2 i x)) e (sg (ix2 i e)) := by
  unfold headY k0_pay79 rmsGate
  pointwise

theorem pairS_read (a b : Ideal .f32) (k v0 v1 : Vec Ideal S256x128 .bf16) (s : Vec Ideal S1x1x128x128 .f32)
    (dec : Vec Ideal S1x1x256x128 .f32) (d e : Fin 128) :
    pairS a b k v0 v1 s dec (ix4 0 0 d e)
      = (if d.val / 64 = 0 then a else b) * s (ix4 0 0 d e)
        + if d.val / 64 = 0 then ∑ j : Fin 256, k (ix2 j d) * dec (ix4 0 0 j d) * v0 (ix2 j e)
          else ∑ j : Fin 256, k (ix2 j d) * dec (ix4 0 0 j d) * v1 (ix2 j e) := by
  unfold pairS k0_pay34 k0_pay90 k0_pay91 k0_pay36
  pointwise
  rw [select_low _ d.isLt, select_low _ d.isLt]

/-! ## A block of real rows -/

variable (Q K V : ℕ → ℕ → ℝ) (r0 N : ℕ) (x0 x1 : Vec Ideal S256x512 .bf16) (x2 x3 : Vec Ideal S256x1024 .bf16)
  (s : Vec Ideal S1x4x128x128 .f32)

/-- The state the kernel carries: pair `p`, row `d` holds key column `d % 64` of head `2 p + d / 64`. -/
def IsState (N : ℕ) (s : Vec Ideal S1x4x128x128 .f32) : Prop :=
  ∀ (p : Fin 4) (d e : Fin 128), s (ix4 0 p d e) = ((St K V r0 (2 * p.val + d.val / 64) N (d.val % 64) e.val : ℝ) : EReal)

theorem slab_apply (x : Vec Ideal S256x512 .bf16) (X : ℕ → ℕ → ℝ) (hx : ∀ (i : Fin 256) (c : Fin 512), x (ix2 i c) = ((X (r0 + (N + i.val)) c.val : ℝ) : EReal))
    (o : ℕ) (ho : o + 128 ≤ 512) (i : Fin 256) (l : Fin 128) : slab x o (ix2 i l) = ((X (r0 + (N + i.val)) (o + l.val) : ℝ) : EReal) := by
  have e : (Fin.ofNat 512 (o + l.val)).val = o + l.val := Nat.mod_eq_of_lt (by omega)
  exact (hx i (Fin.ofNat 512 (o + l.val))).trans (by rw [e])

theorem slabW_apply (x : Vec Ideal S256x1024 .bf16) (X : ℕ → ℕ → ℝ) (hx : ∀ (i : Fin 256) (c : Fin 1024), x (ix2 i c) = ((X (r0 + (N + i.val)) c.val : ℝ) : EReal))
    (o : ℕ) (ho : o + 128 ≤ 1024) (i : Fin 256) (l : Fin 128) : slabW x o (ix2 i l) = ((X (r0 + (N + i.val)) (o + l.val) : ℝ) : EReal) := by
  have e : (Fin.ofNat 1024 (o + l.val)).val = o + l.val := Nat.mod_eq_of_lt (by omega)
  exact (hx i (Fin.ofNat 1024 (o + l.val))).trans (by rw [e])

/-- A head's rows before normalisation are the recurrence's outputs. -/
theorem headO_real
    (hq : ∀ (i : Fin 256) (c : Fin 512), x0 (ix2 i c) = ((Q (r0 + (N + i.val)) c.val : ℝ) : EReal))
    (hk : ∀ (i : Fin 256) (c : Fin 512), x1 (ix2 i c) = ((K (r0 + (N + i.val)) c.val : ℝ) : EReal))
    (hv : ∀ (i : Fin 256) (c : Fin 1024), x2 (ix2 i c) = ((V (r0 + (N + i.val)) c.val : ℝ) : EReal))
    (hs : IsState K V r0 N s) (h : ℕ) (hh : h < 8) (i : Fin 256) (e : Fin 128) :
    headO (mask h) (slab x0 (128 * (h / 2))) (slab x1 (128 * (h / 2))) (slabW x2 (128 * h)) (sAt s (h / 2))
        (dmAt dmT h) (decAt decT (h / 2) 0) (ix2 i e)
      = ((Out Q K V r0 h (N + i.val) e.val : ℝ) : EReal) := by
  have hm : ∀ l, (mask (F := Ideal) h) (ix2 i l) = _ := mask_apply h i
  have hS : ∀ l : Fin 128, sAt s (h / 2) (ix4 0 0 l e)
      = ((St K V r0 (2 * (h / 2) + l.val / 64) N (l.val % 64) e.val : ℝ) : EReal) := fun l => by
    have e4 : (Fin.ofNat 4 (h / 2)).val = h / 2 := Nat.mod_eq_of_lt (by omega)
    exact (hs (Fin.ofNat 4 (h / 2)) l e).trans (by rw [e4])
  have hD : ∀ j : Fin 256, dmAt (dmT (F := Ideal)) h (ix3 0 i j)
      = ((if j.val ≤ i.val then gam h ^ (i.val - j.val) else 0 : ℝ) : EReal) := fun j => by
    have e8 : (Fin.ofNat 8 h).val = h := Nat.mod_eq_of_lt hh
    exact (dmT_apply (Fin.ofNat 8 h) i j).trans (by rw [e8])
  have hE : ∀ l : Fin 128, decAt (decT (F := Ideal)) (h / 2) 0 (ix4 0 0 i l)
      = ((gam (2 * (h / 2) + l.val / 64) ^ (i.val + 1) : ℝ) : EReal) := fun l => by
    have e4 : (Fin.ofNat 4 (h / 2)).val = h / 2 := Nat.mod_eq_of_lt (by omega)
    exact (decT_q (Fin.ofNat 4 (h / 2)) i l).trans (by rw [e4])
  have hQ := fun l => slab_apply r0 N x0 Q hq (128 * (h / 2)) (by omega) i l
  have hK := fun j l => slab_apply r0 N x1 K hk (128 * (h / 2)) (by omega) j l
  have hV := fun j => slabW_apply r0 N x2 V hv (128 * h) (by omega) j e
  rw [headO_read, ← Out_chunk Q K V r0 h N 256 i.val e.val i.isLt, EReal.coe_add]
  congr 1
  · rw [← Fin.sum_univ_eq_sum_range (fun j => (∑ d ∈ range 64, Q (r0 + (N + i.val)) (64 * h + d) * K (r0 + (N + j)) (64 * h + d))
        * (if j ≤ i.val then gam h ^ (i.val - j) else 0) * V (r0 + (N + j)) (128 * h + e.val)) 256, coe_sum]
    refine Finset.sum_congr rfl fun j _ => ?_
    rw [hD, hV, EReal.coe_mul, EReal.coe_mul]
    congr 2
    have := half_sum (fun l => Q (r0 + (N + i.val)) (128 * (h / 2) + l) * K (r0 + (N + j.val)) (128 * (h / 2) + l)) (h % 2) (by omega)
    have e64 : ∀ d, 128 * (h / 2) + (64 * (h % 2) + d) = 64 * h + d := fun d => by omega
    simp only [e64] at this
    rw [← this, coe_sum]
    refine Finset.sum_congr rfl fun l _ => ?_
    rw [hQ, hK, hm, ← EReal.coe_mul, ← EReal.coe_mul]
    congr 1
    split_ifs <;> ring
  · have := half_sum (fun l => Q (r0 + (N + i.val)) (128 * (h / 2) + l) * gam (2 * (h / 2) + l / 64) ^ (i.val + 1)
        * St K V r0 (2 * (h / 2) + l / 64) N (l % 64) e.val) (h % 2) (by omega)
    have e' : ∑ d ∈ range 64, Q (r0 + (N + i.val)) (64 * h + d) * gam h ^ (i.val + 1) * St K V r0 h N d e.val
        = ∑ d ∈ range 64, Q (r0 + (N + i.val)) (128 * (h / 2) + (64 * (h % 2) + d)) * gam (2 * (h / 2) + (64 * (h % 2) + d) / 64) ^ (i.val + 1)
        * St K V r0 (2 * (h / 2) + (64 * (h % 2) + d) / 64) N ((64 * (h % 2) + d) % 64) e.val :=
      Finset.sum_congr rfl fun d hd => by
        have hd := Finset.mem_range.mp hd
        rw [show 128 * (h / 2) + (64 * (h % 2) + d) = 64 * h + d by omega, show 2 * (h / 2) + (64 * (h % 2) + d) / 64 = h by omega,
          show (64 * (h % 2) + d) % 64 = d by omega]
    rw [e', ← this, coe_sum]
    refine Finset.sum_congr rfl fun l _ => ?_
    rw [hQ, hE, hm, hS, ← EReal.coe_mul, ← EReal.coe_mul, ← EReal.coe_mul]
    congr 1
    split_ifs <;> ring

/-- The output block: the recurrence's outputs, normalised over each head's 128 columns and gated. -/
theorem Yarr_real
    (hq : ∀ (i : Fin 256) (c : Fin 512), x0 (ix2 i c) = ((Q (r0 + (N + i.val)) c.val : ℝ) : EReal))
    (hk : ∀ (i : Fin 256) (c : Fin 512), x1 (ix2 i c) = ((K (r0 + (N + i.val)) c.val : ℝ) : EReal))
    (hv : ∀ (i : Fin 256) (c : Fin 1024), x2 (ix2 i c) = ((V (r0 + (N + i.val)) c.val : ℝ) : EReal))
    (hs : IsState K V r0 N s) (i : Fin 256) (c : Fin 1024) :
    Yarr x0 x1 x2 x3 s dmT decT (ix2 i c)
      = rmsGate (fun x => ((Out Q K V r0 (c.val / 128) (N + i.val) x.val : ℝ) : EReal)) (Fin.ofNat 128 c.val) (x3 (ix2 i c)) := by
  have hh : c.val / 128 < 8 := by omega
  show headAt x0 x1 x2 x3 s dmT decT (c.val / 128) (ix2 i (Fin.ofNat 128 c.val)) = _
  unfold headAt
  rw [headY_read]
  have hg : slabW x3 (128 * (c.val / 128)) (ix2 i (Fin.ofNat 128 c.val)) = x3 (ix2 i c) := by
    show x3 (ix2 i (Fin.ofNat 1024 (128 * (c.val / 128) + c.val % 128))) = _
    congr 2
    exact Fin.ext (show (128 * (c.val / 128) + c.val % 128) % 1024 = c.val by omega)
  rw [hg]
  congr 1
  funext x
  exact headO_real Q K V r0 N x0 x1 x2 s hq hk hv hs _ hh i x

/-- The new state is the recurrence's, 256 rows on. -/
theorem Sarr_real
    (hk : ∀ (i : Fin 256) (c : Fin 512), x1 (ix2 i c) = ((K (r0 + (N + i.val)) c.val : ℝ) : EReal))
    (hv : ∀ (i : Fin 256) (c : Fin 1024), x2 (ix2 i c) = ((V (r0 + (N + i.val)) c.val : ℝ) : EReal))
    (hs : IsState K V r0 N s) : IsState K V r0 (N + 256) (Sarr x1 x2 s decT) := by
  intro p d e
  show pairS (sd (2 * p.val)) (sd (2 * p.val + 1)) (slab x1 (128 * p.val)) (slabW x2 (128 * (2 * p.val)))
    (slabW x2 (128 * (2 * p.val + 1))) (sAt s p.val) (decAt decT p.val 1) (ix4 0 0 d e) = _
  have e4 : Fin.ofNat 4 p.val = p := Fin.ext (Nat.mod_eq_of_lt p.isLt)
  have hS : sAt s p.val (ix4 0 0 d e) = ((St K V r0 (2 * p.val + d.val / 64) N (d.val % 64) e.val : ℝ) : EReal) := by
    show s (ix4 0 (Fin.ofNat 4 p.val) d e) = _
    rw [e4]; exact hs p d e
  have hE : ∀ j : Fin 256, decAt (decT (F := Ideal)) p.val 1 (ix4 0 0 j d) = ((gam (2 * p.val + d.val / 64) ^ (255 - j.val) : ℝ) : EReal) :=
    fun j => by
      show decT (ix4 (Fin.ofNat 4 p.val) 1 j d) = _
      rw [e4]; exact decT_k p j d
  have hK := fun j => slab_apply r0 N x1 K hk (128 * p.val) (by omega) j d
  have hV := fun j => slabW_apply r0 N x2 V hv (128 * (2 * p.val + d.val / 64)) (by omega) j e
  have key : ((St K V r0 (2 * p.val + d.val / 64) (N + 256) (d.val % 64) e.val : ℝ) : EReal)
      = (sd (F := Ideal) (2 * p.val + d.val / 64) : EReal) * sAt s p.val (ix4 0 0 d e)
        + ∑ j : Fin 256, slab x1 (128 * p.val) (ix2 j d) * decAt (decT (F := Ideal)) p.val 1 (ix4 0 0 j d)
          * slabW x2 (128 * (2 * p.val + d.val / 64)) (ix2 j e) := by
    rw [St_chunk, EReal.coe_add, EReal.coe_mul, hS, sd_val _ (by omega),
      ← Fin.sum_univ_eq_sum_range (fun j => K (r0 + (N + j)) (64 * (2 * p.val + d.val / 64) + d.val % 64)
        * gam (2 * p.val + d.val / 64) ^ (256 - 1 - j) * V (r0 + (N + j)) (128 * (2 * p.val + d.val / 64) + e.val)) 256, coe_sum]
    congr 1
    refine Finset.sum_congr rfl fun j _ => ?_
    rw [hK, hE, hV, EReal.coe_mul, EReal.coe_mul, show 64 * (2 * p.val + d.val / 64) + d.val % 64 = 128 * p.val + d.val by omega]
  rw [pairS_read, key]
  rcases (show d.val / 64 = 0 ∨ d.val / 64 = 1 by omega) with hd | hd
  · rw [if_pos hd, if_pos hd, hd]; rfl
  · rw [if_neg (by omega), if_neg (by omega), hd]

end Cert.Retention
-- ==== Proof.Cases.lean ====
/- What each of the kernel's three kinds of grid point leaves in its buffers: the first point of a batch, a point in
   the middle, and the last one — as the functions of the blocks defined in `Block`. -/
module

public import proofs.«01_k».proof.Proof.Block

@[expose] public section

set_option maxRecDepth 16384

noncomputable section

namespace Cert.Retention

open Idealize.ShloMosaic Idealize.ShloMosaic.TcCoe Idealize.SL.Sem
open Cert.KernelIdeal Cert.KernelIdeal.Gen

variable {F : FTy → Type} [FloatOps F] [Named F]

variable (c : Dev nD) (i : grid0.Coords)
  (arg2 : Memref sig .tc .vmem S256x512 .bf16) (harg2 : arg2.IsWhole)
  (arg3 : Memref sig .tc .vmem S256x512 .bf16) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S1x4x128x128 .f32) (harg6 : arg6.IsWhole)
  (arg7 : Memref sig .tc .vmem S256x1024 .bf16) (harg7 : arg7.IsWhole)
  (arg8 : Memref sig .tc .vmem S1x4x128x128 .f32) (harg8 : arg8.IsWhole)
  (arg9 : Memref sig .tc .vmem S1x4x128x128 .f32) (harg9 : arg9.IsWhole)
  (arg10 : Memref sig .tc .vmem S8x256x256 .f32) (harg10 : arg10.IsWhole)
  (arg11 : Memref sig .tc .vmem S4x2x256x128 .f32) (harg11 : arg11.IsWhole)
  (x0 x1 : Vec F S256x512 .bf16) (x2 x3 : Vec F S256x1024 .bf16) (x4 xs0 : Vec F S1x4x128x128 .f32)
  (xs1 : Vec F S8x256x256 .f32) (xs2 : Vec F S4x2x256x128 .f32)

/-- A middle point's output block. -/
theorem out_B (hc0 : ¬cond0_0 i) (hc1 : ¬cond0_1 i) :
    out0_B_5 c i arg2 harg2 arg3 harg3 arg4 harg4 arg5 harg5 arg6 harg6 arg7 harg7 arg8 harg8 arg9 harg9 arg10 harg10
      arg11 harg11 hc0 hc1 x0 x1 x2 x3 x4 xs0 xs1 xs2
      = Yarr x0 x1 x2 x3 xs0 xs1 xs2 := by
  unfold out0_B_5
  rw [View.read_writes_eq_canon _ _ _ (cover0_B_5 c i arg2 harg2 arg3 harg3 arg4 harg4 arg5 harg5 arg6 harg6 arg7 harg7 arg8 harg8 arg9 harg9 arg10 harg10
      arg11 harg11 hc0 hc1 x0 x1 x2 x3 x4 xs0 xs1 xs2)]
  funext y
  refine View.canon_apply_of_pieces _ _ ?_ y (cover0_B_5 c i arg2 harg2 arg3 harg3 arg4 harg4 arg5 harg5 arg6 harg6 arg7 harg7 arg8 harg8 arg9 harg9 arg10 harg10
      arg11 harg11 hc0 hc1 x0 x1 x2 x3 x4 xs0 xs1 xs2 y)
  unfold kernelRun0_B
  dsimp only
  sl_unfold_words
  dsimp only
  simp only [List.forall_mem_cons, List.not_mem_nil, false_imp_iff, implies_true, and_true]
  simp only [View.readAt_eq_ld, harg2.read_unread, harg3.read_unread, harg4.read_unread, harg5.read_unread,
    harg9.read_unread, harg10.read_unread, harg11.read_unread, ld_slab, ld_slabW, ld_sAt, ld_dmAt, ld_decAt]
  refine ⟨?_, ?_, ?_, ?_, ?_, ?_, ?_, ?_⟩
  · intro x; rw [Yarr_emb _ _ _ _ _ _ _ _ 7 rfl]; rfl
  · intro x; rw [Yarr_emb _ _ _ _ _ _ _ _ 6 rfl]; rfl
  · intro x; rw [Yarr_emb _ _ _ _ _ _ _ _ 5 rfl]; rfl
  · intro x; rw [Yarr_emb _ _ _ _ _ _ _ _ 4 rfl]; rfl
  · intro x; rw [Yarr_emb _ _ _ _ _ _ _ _ 3 rfl]; rfl
  · intro x; rw [Yarr_emb _ _ _ _ _ _ _ _ 2 rfl]; rfl
  · intro x; rw [Yarr_emb _ _ _ _ _ _ _ _ 1 rfl]; rfl
  · intro x; rw [Yarr_emb _ _ _ _ _ _ _ _ 0 rfl]; rfl

/-- A middle point's new state. -/
theorem st_B (hc0 : ¬cond0_0 i) (hc1 : ¬cond0_1 i) :
    sout0_B_0 c i arg2 harg2 arg3 harg3 arg4 harg4 arg5 harg5 arg6 harg6 arg7 harg7 arg8 harg8 arg9 harg9 arg10 harg10
      arg11 harg11 hc0 hc1 x0 x1 x2 x3 x4 xs0 xs1 xs2
      = Sarr x1 x2 xs0 xs2 := by
  unfold sout0_B_0
  rw [View.read_writes_eq_canon _ _ _ (scover0_B_0 c i arg2 harg2 arg3 harg3 arg4 harg4 arg5 harg5 arg6 harg6 arg7 harg7 arg8 harg8 arg9 harg9 arg10 harg10
      arg11 harg11 hc0 hc1 x0 x1 x2 x3 x4 xs0 xs1 xs2)]
  funext y
  refine View.canon_apply_of_pieces _ _ ?_ y (scover0_B_0 c i arg2 harg2 arg3 harg3 arg4 harg4 arg5 harg5 arg6 harg6 arg7 harg7 arg8 harg8 arg9 harg9 arg10 harg10
      arg11 harg11 hc0 hc1 x0 x1 x2 x3 x4 xs0 xs1 xs2 y)
  unfold kernelRun0_B
  dsimp only
  sl_unfold_words
  dsimp only
  simp only [List.forall_mem_cons, List.not_mem_nil, false_imp_iff, implies_true, and_true]
  simp only [View.readAt_eq_ld, harg2.read_unread, harg3.read_unread, harg4.read_unread, harg5.read_unread,
    harg9.read_unread, harg10.read_unread, harg11.read_unread, ld_slab, ld_slabW, ld_sAt, ld_dmAt, ld_decAt]
  refine ⟨?_, ?_, ?_, ?_⟩
  · intro x; rw [Sarr_emb]; rfl
  · intro x; rw [Sarr_emb]; rfl
  · intro x; rw [Sarr_emb]; rfl
  · intro x; rw [Sarr_emb]; rfl

/-- The last point's output block. -/
theorem out_C (hc0 : ¬cond0_0 i) (hc1 : cond0_1 i) :
    out0_C_5 c i arg2 harg2 arg3 harg3 arg4 harg4 arg5 harg5 arg6 harg6 arg7 harg7 arg8 harg8 arg9 harg9 arg10 harg10
      arg11 harg11 hc0 hc1 x0 x1 x2 x3 x4 xs0 xs1 xs2
      = Yarr x0 x1 x2 x3 xs0 xs1 xs2 := by
  unfold out0_C_5
  rw [View.read_writes_eq_canon _ _ _ (cover0_C_5 c i arg2 harg2 arg3 harg3 arg4 harg4 arg5 harg5 arg6 harg6 arg7 harg7 arg8 harg8 arg9 harg9 arg10 harg10
      arg11 harg11 hc0 hc1 x0 x1 x2 x3 x4 xs0 xs1 xs2)]
  funext y
  refine View.canon_apply_of_pieces _ _ ?_ y (cover0_C_5 c i arg2 harg2 arg3 harg3 arg4 harg4 arg5 harg5 arg6 harg6 arg7 harg7 arg8 harg8 arg9 harg9 arg10 harg10
      arg11 harg11 hc0 hc1 x0 x1 x2 x3 x4 xs0 xs1 xs2 y)
  unfold kernelRun0_C
  dsimp only
  sl_unfold_words
  dsimp only
  simp only [List.forall_mem_cons, List.not_mem_nil, false_imp_iff, implies_true, and_true]
  simp only [View.readAt_eq_ld, harg2.read_unread, harg3.read_unread, harg4.read_unread, harg5.read_unread,
    harg9.read_unread, harg10.read_unread, harg11.read_unread, ld_slab, ld_slabW, ld_sAt, ld_dmAt, ld_decAt]
  refine ⟨?_, ?_, ?_, ?_, ?_, ?_, ?_, ?_⟩
  · intro x; rw [Yarr_emb _ _ _ _ _ _ _ _ 7 rfl]; rfl
  · intro x; rw [Yarr_emb _ _ _ _ _ _ _ _ 6 rfl]; rfl
  · intro x; rw [Yarr_emb _ _ _ _ _ _ _ _ 5 rfl]; rfl
  · intro x; rw [Yarr_emb _ _ _ _ _ _ _ _ 4 rfl]; rfl
  · intro x; rw [Yarr_emb _ _ _ _ _ _ _ _ 3 rfl]; rfl
  · intro x; rw [Yarr_emb _ _ _ _ _ _ _ _ 2 rfl]; rfl
  · intro x; rw [Yarr_emb _ _ _ _ _ _ _ _ 1 rfl]; rfl
  · intro x; rw [Yarr_emb _ _ _ _ _ _ _ _ 0 rfl]; rfl

/-- The last point's new state. -/
theorem st_C (hc0 : ¬cond0_0 i) (hc1 : cond0_1 i) :
    sout0_C_0 c i arg2 harg2 arg3 harg3 arg4 harg4 arg5 harg5 arg6 harg6 arg7 harg7 arg8 harg8 arg9 harg9 arg10 harg10
      arg11 harg11 hc0 hc1 x0 x1 x2 x3 x4 xs0 xs1 xs2
      = Sarr x1 x2 xs0 xs2 := by
  unfold sout0_C_0
  rw [View.read_writes_eq_canon _ _ _ (scover0_C_0 c i arg2 harg2 arg3 harg3 arg4 harg4 arg5 harg5 arg6 harg6 arg7 harg7 arg8 harg8 arg9 harg9 arg10 harg10
      arg11 harg11 hc0 hc1 x0 x1 x2 x3 x4 xs0 xs1 xs2)]
  funext y
  refine View.canon_apply_of_pieces _ _ ?_ y (scover0_C_0 c i arg2 harg2 arg3 harg3 arg4 harg4 arg5 harg5 arg6 harg6 arg7 harg7 arg8 harg8 arg9 harg9 arg10 harg10
      arg11 harg11 hc0 hc1 x0 x1 x2 x3 x4 xs0 xs1 xs2 y)
  unfold kernelRun0_C
  dsimp only
  sl_unfold_words
  dsimp only
  simp only [List.forall_mem_cons, List.not_mem_nil, false_imp_iff, implies_true, and_true]
  simp only [View.readAt_eq_ld, harg2.read_unread, harg3.read_unread, harg4.read_unread, harg5.read_unread,
    harg9.read_unread, harg10.read_unread, harg11.read_unread, ld_slab, ld_slabW, ld_sAt, ld_dmAt, ld_decAt]
  refine ⟨?_, ?_, ?_, ?_⟩
  · intro x; rw [Sarr_emb]; rfl
  · intro x; rw [Sarr_emb]; rfl
  · intro x; rw [Sarr_emb]; rfl
  · intro x; rw [Sarr_emb]; rfl

end Cert.Retention
-- ==== Proof.CasesA.lean ====
/- What each of the kernel's first kind of grid point leaves in its buffersat the first point of a batch, as the functions of the blocks defined in `Block`. -/
module

public import proofs.«01_k».proof.Proof.Block
public import Idealize.ShloMosaic.Lib.Pipeline.CanonAppend

@[expose] public section

set_option maxRecDepth 16384

noncomputable section

namespace Cert.Retention

open Idealize.ShloMosaic Idealize.ShloMosaic.TcCoe Idealize.SL.Sem
open Cert.KernelIdeal Cert.KernelIdeal.Gen

variable {F : FTy → Type} [FloatOps F] [Named F]

/-- The eight stored row-decay tables make up `decT`. -/
theorem canon_dec : View.canon (Val := Elt F) (s := S4x2x256x128) (e := .f32)
    [⟨Rect.unit ![3, 1, 0, 0] ![1, 1, 256, 128] inb_S4x2x256x128_S1x1x256x128_3_1_0_0, k0_pay30 (k0_pay28 k0_pay29 k0_pay15)⟩,
      ⟨Rect.unit ![3, 0, 0, 0] ![1, 1, 256, 128] inb_S4x2x256x128_S1x1x256x128_3_0_0_0, k0_pay27 k0_pay29 k0_pay15⟩,
      ⟨Rect.unit ![2, 1, 0, 0] ![1, 1, 256, 128] inb_S4x2x256x128_S1x1x256x128_2_1_0_0, k0_pay25 k0_pay29 k0_pay15⟩,
      ⟨Rect.unit ![2, 0, 0, 0] ![1, 1, 256, 128] inb_S4x2x256x128_S1x1x256x128_2_0_0_0, k0_pay24 k0_pay29 k0_pay15⟩,
      ⟨Rect.unit ![1, 1, 0, 0] ![1, 1, 256, 128] inb_S4x2x256x128_S1x1x256x128_1_1_0_0, k0_pay22 (k0_pay21 k0_pay29 k0_pay15)⟩,
      ⟨Rect.unit ![1, 0, 0, 0] ![1, 1, 256, 128] inb_S4x2x256x128_S1x1x256x128_1_0_0_0, k0_pay20 k0_pay29 k0_pay15⟩,
      ⟨Rect.unit ![0, 1, 0, 0] ![1, 1, 256, 128] inb_S4x2x256x128_S1x1x256x128_0_1_0_0, k0_pay18 k0_pay29 k0_pay15⟩,
      ⟨Rect.unit ![0, 0, 0, 0] ![1, 1, 256, 128] inb_S4x2x256x128_S1x1x256x128_0_0_0_0, k0_pay17 k0_pay29 k0_pay15⟩] = decT := by
  funext y
  refine View.canon_apply_of_pieces _ _ ?_ y (View.cover_of_tiledL _ ![1, 1, 256, 128] (by sl_kernel_rfl) y)
  simp only [List.forall_mem_cons, List.not_mem_nil, false_imp_iff, implies_true, and_true]
  refine ⟨?_, ?_, ?_, ?_, ?_, ?_, ?_, ?_⟩ <;> (intro x; rw [decT_emb]; rfl)

/-- The eight stored masks make up `dmT`. -/
theorem canon_dm : View.canon (Val := Elt F) (s := S8x256x256) (e := .f32)
    [⟨Rect.unit ![7, 0, 0] ![1, 256, 256] inb_S8x256x256_S1x256x256_7_0_0, k0_pay14 k0_pay4⟩,
      ⟨Rect.unit ![6, 0, 0] ![1, 256, 256] inb_S8x256x256_S1x256x256_6_0_0, k0_pay13 k0_pay4⟩,
      ⟨Rect.unit ![5, 0, 0] ![1, 256, 256] inb_S8x256x256_S1x256x256_5_0_0, k0_pay12 k0_pay4 k0_pay11⟩,
      ⟨Rect.unit ![4, 0, 0] ![1, 256, 256] inb_S8x256x256_S1x256x256_4_0_0, k0_pay10 k0_pay4⟩,
      ⟨Rect.unit ![3, 0, 0] ![1, 256, 256] inb_S8x256x256_S1x256x256_3_0_0, k0_pay9 k0_pay4⟩,
      ⟨Rect.unit ![2, 0, 0] ![1, 256, 256] inb_S8x256x256_S1x256x256_2_0_0, k0_pay8 k0_pay4 k0_pay7⟩,
      ⟨Rect.unit ![1, 0, 0] ![1, 256, 256] inb_S8x256x256_S1x256x256_1_0_0, k0_pay6⟩,
      ⟨Rect.unit ![0, 0, 0] ![1, 256, 256] inb_S8x256x256_S1x256x256_0_0_0, k0_pay5⟩] = dmT := by
  funext y
  refine View.canon_apply_of_pieces _ _ ?_ y (View.cover_of_tiledL _ ![1, 256, 256] (by sl_kernel_rfl) y)
  simp only [List.forall_mem_cons, List.not_mem_nil, false_imp_iff, implies_true, and_true]
  refine ⟨?_, ?_, ?_, ?_, ?_, ?_, ?_, ?_⟩ <;> (intro x; rw [dmT_emb]; rfl)

/-- The initial state copied whole is that state. -/
theorem canon_init (x4 : Vec F S1x4x128x128 .f32) (inb inb') : View.canon (Val := Elt F) (s := S1x4x128x128) (e := .f32)
    [⟨Rect.unit ![0, 0, 0, 0] ![1, 4, 128, 128] inb, k0_pay3 (View.ld x4 (Rect.unit ![0, 0, 0, 0] ![1, 4, 128, 128] inb'))⟩] = x4 := by
  have hz : (![0, 0, 0, 0] : Fin 4 → Nat) = fun _ => 0 := funext fun a => by fin_cases a <;> rfl
  refine (View.canon_unit_zero (S := S1x4x128x128) hz inb _).trans ?_
  unfold k0_pay3
  rw [View.ld_unit_zero (S := S1x4x128x128) hz]
  simp only [shapeCast_self]

/-- A load from what a list of stores made reads the array those stores make up. -/
theorem readCov_eq_ld {sp : Space} {s : Shape} {e : EltTy} (v : View sig .tc sp s e) (L : List (View.Piece (Elt F) s e)) (r : Rect s) :
    v.readCov L r.toLoadRect = View.ld (View.canon L) r := View.readCov_eq_canon' v L r.toLoadRect

/-- Four blocks stored over an initial array make up an array of which each is a part. -/
theorem canon_four (G : Vec F S1x4x128x128 .f32) (w0 w1 w2 w3 : Vec F S1x1x128x128 .f32) (L : List (View.Piece (Elt F) S1x4x128x128 .f32))
    (h3 : ∀ x, w3 x = G ((Rect.unit (s := S1x4x128x128) ![0, 3, 0, 0] ![1, 1, 128, 128] inb_S1x4x128x128_S1x1x128x128_0_3_0_0).emb x))
    (h2 : ∀ x, w2 x = G ((Rect.unit (s := S1x4x128x128) ![0, 2, 0, 0] ![1, 1, 128, 128] inb_S1x4x128x128_S1x1x128x128_0_2_0_0).emb x))
    (h1 : ∀ x, w1 x = G ((Rect.unit (s := S1x4x128x128) ![0, 1, 0, 0] ![1, 1, 128, 128] inb_S1x4x128x128_S1x1x128x128_0_1_0_0).emb x))
    (h0 : ∀ x, w0 x = G ((Rect.unit (s := S1x4x128x128) ![0, 0, 0, 0] ![1, 1, 128, 128] inb_S1x4x128x128_S1x1x128x128_0_0_0_0).emb x))
    (y : S1x4x128x128.Idx) :
    View.canon (Val := Elt F) (s := S1x4x128x128) (e := .f32)
      (⟨Rect.unit ![0, 3, 0, 0] ![1, 1, 128, 128] inb_S1x4x128x128_S1x1x128x128_0_3_0_0, w3⟩ ::
       ⟨Rect.unit ![0, 2, 0, 0] ![1, 1, 128, 128] inb_S1x4x128x128_S1x1x128x128_0_2_0_0, w2⟩ ::
       ⟨Rect.unit ![0, 1, 0, 0] ![1, 1, 128, 128] inb_S1x4x128x128_S1x1x128x128_0_1_0_0, w1⟩ ::
       ⟨Rect.unit ![0, 0, 0, 0] ![1, 1, 128, 128] inb_S1x4x128x128_S1x1x128x128_0_0_0_0, w0⟩ :: L) y = G y := by
  refine View.canon_append_of_pieces G L [_, _, _, _] ?_ y (View.cover_of_tiledL _ ![1, 1, 128, 128] (by sl_kernel_rfl) y)
  simp only [List.forall_mem_cons, List.not_mem_nil, false_imp_iff, implies_true, and_true]
  exact ⟨h3, h2, h1, h0⟩

/-- A state block read past a store into another pair's block. -/
theorem ld_skip (a b : ℕ) (hab : a ≠ b) (inb inb') (w : Vec F S1x1x128x128 .f32) (L : List (View.Piece (Elt F) S1x4x128x128 .f32)) :
    View.ld (View.canon ((⟨Rect.unit ![0, a, 0, 0] ![1, 1, 128, 128] inb, w⟩ : View.Piece (Elt F) S1x4x128x128 .f32) :: L))
        (Rect.unit ![0, b, 0, 0] ![1, 1, 128, 128] inb')
      = View.ld (View.canon L) (Rect.unit ![0, b, 0, 0] ![1, 1, 128, 128] inb') := by
  funext j
  refine View.canon_cons_of_not_mem _ _ fun hm => ?_
  have h1 : (j 1).val < 1 := (j 1).isLt
  have h' : a ≤ b + 1 * (j 1).val ∧ b + 1 * (j 1).val < a + 1 := (Rect.mem_set_unit (inb := inb)).mp hm 1
  omega

variable (c : Dev nD) (i : grid0.Coords)
  (arg2 : Memref sig .tc .vmem S256x512 .bf16) (harg2 : arg2.IsWhole)
  (arg3 : Memref sig .tc .vmem S256x512 .bf16) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S1x4x128x128 .f32) (harg6 : arg6.IsWhole)
  (arg7 : Memref sig .tc .vmem S256x1024 .bf16) (harg7 : arg7.IsWhole)
  (arg8 : Memref sig .tc .vmem S1x4x128x128 .f32) (harg8 : arg8.IsWhole)
  (arg9 : Memref sig .tc .vmem S1x4x128x128 .f32) (harg9 : arg9.IsWhole)
  (arg10 : Memref sig .tc .vmem S8x256x256 .f32) (harg10 : arg10.IsWhole)
  (arg11 : Memref sig .tc .vmem S4x2x256x128 .f32) (harg11 : arg11.IsWhole)
  (x0 x1 : Vec F S256x512 .bf16) (x2 x3 : Vec F S256x1024 .bf16) (x4 xs0 : Vec F S1x4x128x128 .f32)
  (xs1 : Vec F S8x256x256 .f32) (xs2 : Vec F S4x2x256x128 .f32)

/-- The masks a first point stores. -/
theorem dm_A (hc0 : cond0_0 i) (hc1 : ¬cond0_1 i) :
    sout0_A_1 c i arg2 harg2 arg3 harg3 arg4 harg4 arg5 harg5 arg6 harg6 arg7 harg7 arg8 harg8 arg9 harg9 arg10 harg10
      arg11 harg11 hc0 hc1 x0 x1 x2 x3 x4 = dmT := by
  unfold sout0_A_1
  rw [View.read_writes_eq_canon _ _ _ (scover0_A_1 c i arg2 harg2 arg3 harg3 arg4 harg4 arg5 harg5 arg6 harg6 arg7 harg7 arg8 harg8 arg9 harg9 arg10 harg10
      arg11 harg11 hc0 hc1 x0 x1 x2 x3 x4)]
  funext y
  refine View.canon_apply_of_pieces _ _ ?_ y (scover0_A_1 c i arg2 harg2 arg3 harg3 arg4 harg4 arg5 harg5 arg6 harg6 arg7 harg7 arg8 harg8 arg9 harg9 arg10 harg10
      arg11 harg11 hc0 hc1 x0 x1 x2 x3 x4 y)
  unfold kernelRun0_A
  dsimp only
  sl_unfold_words
  dsimp only
  simp only [List.forall_mem_cons, List.not_mem_nil, false_imp_iff, implies_true, and_true]
  refine ⟨?_, ?_, ?_, ?_, ?_, ?_, ?_, ?_⟩ <;> (intro x; rw [dmT_emb]; rfl)

/-- The row decays a first point stores. -/
theorem dec_A (hc0 : cond0_0 i) (hc1 : ¬cond0_1 i) :
    sout0_A_2 c i arg2 harg2 arg3 harg3 arg4 harg4 arg5 harg5 arg6 harg6 arg7 harg7 arg8 harg8 arg9 harg9 arg10 harg10
      arg11 harg11 hc0 hc1 x0 x1 x2 x3 x4 = decT := by
  unfold sout0_A_2
  rw [View.read_writes_eq_canon _ _ _ (scover0_A_2 c i arg2 harg2 arg3 harg3 arg4 harg4 arg5 harg5 arg6 harg6 arg7 harg7 arg8 harg8 arg9 harg9 arg10 harg10
      arg11 harg11 hc0 hc1 x0 x1 x2 x3 x4)]
  funext y
  refine View.canon_apply_of_pieces _ _ ?_ y (scover0_A_2 c i arg2 harg2 arg3 harg3 arg4 harg4 arg5 harg5 arg6 harg6 arg7 harg7 arg8 harg8 arg9 harg9 arg10 harg10
      arg11 harg11 hc0 hc1 x0 x1 x2 x3 x4 y)
  unfold kernelRun0_A
  dsimp only
  sl_unfold_words
  dsimp only
  simp only [List.forall_mem_cons, List.not_mem_nil, false_imp_iff, implies_true, and_true]
  refine ⟨?_, ?_, ?_, ?_, ?_, ?_, ?_, ?_⟩ <;> (intro x; rw [decT_emb]; rfl)

/-- A first point's output block: the masks and decays it has just stored, the initial state. -/
theorem out_A (hc0 : cond0_0 i) (hc1 : ¬cond0_1 i) :
    out0_A_5 c i arg2 harg2 arg3 harg3 arg4 harg4 arg5 harg5 arg6 harg6 arg7 harg7 arg8 harg8 arg9 harg9 arg10 harg10
      arg11 harg11 hc0 hc1 x0 x1 x2 x3 x4
      = Yarr x0 x1 x2 x3 x4 dmT decT := by
  unfold out0_A_5
  rw [View.read_writes_eq_canon _ _ _ (cover0_A_5 c i arg2 harg2 arg3 harg3 arg4 harg4 arg5 harg5 arg6 harg6 arg7 harg7 arg8 harg8 arg9 harg9 arg10 harg10
      arg11 harg11 hc0 hc1 x0 x1 x2 x3 x4)]
  funext y
  refine View.canon_apply_of_pieces _ _ ?_ y (cover0_A_5 c i arg2 harg2 arg3 harg3 arg4 harg4 arg5 harg5 arg6 harg6 arg7 harg7 arg8 harg8 arg9 harg9 arg10 harg10
      arg11 harg11 hc0 hc1 x0 x1 x2 x3 x4 y)
  unfold kernelRun0_A
  dsimp only
  sl_unfold_words
  dsimp only
  simp only [List.forall_mem_cons, List.not_mem_nil, false_imp_iff, implies_true, and_true]
  simp only [readCov_eq_ld, canon_dec, canon_dm, View.readAt_eq_ld, harg2.read_unread, harg3.read_unread,
    harg4.read_unread, harg5.read_unread, harg6.read_unread, canon_init, ld_slab, ld_slabW, ld_sAt, ld_dmAt, ld_decAt]
  refine ⟨?_, ?_, ?_, ?_, ?_, ?_, ?_, ?_⟩
  · intro x; rw [Yarr_emb _ _ _ _ _ _ _ _ 7 rfl]; rfl
  · intro x; rw [Yarr_emb _ _ _ _ _ _ _ _ 6 rfl]; rfl
  · intro x; rw [Yarr_emb _ _ _ _ _ _ _ _ 5 rfl]; rfl
  · intro x; rw [Yarr_emb _ _ _ _ _ _ _ _ 4 rfl]; rfl
  · intro x; rw [Yarr_emb _ _ _ _ _ _ _ _ 3 rfl]; rfl
  · intro x; rw [Yarr_emb _ _ _ _ _ _ _ _ 2 rfl]; rfl
  · intro x; rw [Yarr_emb _ _ _ _ _ _ _ _ 1 rfl]; rfl
  · intro x; rw [Yarr_emb _ _ _ _ _ _ _ _ 0 rfl]; rfl

/-- A first point's new state. -/
theorem st_A (hc0 : cond0_0 i) (hc1 : ¬cond0_1 i) :
    sout0_A_0 c i arg2 harg2 arg3 harg3 arg4 harg4 arg5 harg5 arg6 harg6 arg7 harg7 arg8 harg8 arg9 harg9 arg10 harg10
      arg11 harg11 hc0 hc1 x0 x1 x2 x3 x4
      = Sarr x1 x2 x4 decT := by
  unfold sout0_A_0
  rw [View.read_writes_eq_canon _ _ _ (scover0_A_0 c i arg2 harg2 arg3 harg3 arg4 harg4 arg5 harg5 arg6 harg6 arg7 harg7 arg8 harg8 arg9 harg9 arg10 harg10
      arg11 harg11 hc0 hc1 x0 x1 x2 x3 x4)]
  funext y
  unfold kernelRun0_A
  dsimp only
  sl_unfold_words
  dsimp only
  simp (disch := decide) only [readCov_eq_ld, ld_skip, canon_dec, View.readAt_eq_ld, harg2.read_unread,
    harg3.read_unread, harg4.read_unread, harg5.read_unread, harg6.read_unread, canon_init]
  simp only [ld_slab, ld_slabW, ld_sAt, ld_dmAt, ld_decAt]
  refine canon_four (Sarr x1 x2 x4 decT) _ _ _ _ _ ?_ ?_ ?_ ?_ y <;> (intro x; rw [Sarr_emb]; rfl)

end Cert.Retention
-- ==== Proof.CaseLast.lean ====
/- What the last grid point of a batch writes to the state's result. -/
module

public import proofs.«01_k».proof.Proof.CasesA

@[expose] public section

set_option maxRecDepth 16384

noncomputable section

namespace Cert.Retention

open Idealize.ShloMosaic Idealize.ShloMosaic.TcCoe Idealize.SL.Sem
open Cert.KernelIdeal Cert.KernelIdeal.Gen

variable {F : FTy → Type} [FloatOps F] [Named F]

variable (c : Dev nD) (i : grid0.Coords)
  (arg2 : Memref sig .tc .vmem S256x512 .bf16) (harg2 : arg2.IsWhole)
  (arg3 : Memref sig .tc .vmem S256x512 .bf16) (harg3 : arg3.IsWhole)
  (arg4 : Memref sig .tc .vmem S256x1024 .bf16) (harg4 : arg4.IsWhole)
  (arg5 : Memref sig .tc .vmem S256x1024 .bf16) (harg5 : arg5.IsWhole)
  (arg6 : Memref sig .tc .vmem S1x4x128x128 .f32) (harg6 : arg6.IsWhole)
  (arg7 : Memref sig .tc .vmem S256x1024 .bf16) (harg7 : arg7.IsWhole)
  (arg8 : Memref sig .tc .vmem S1x4x128x128 .f32) (harg8 : arg8.IsWhole)
  (arg9 : Memref sig .tc .vmem S1x4x128x128 .f32) (harg9 : arg9.IsWhole)
  (arg10 : Memref sig .tc .vmem S8x256x256 .f32) (harg10 : arg10.IsWhole)
  (arg11 : Memref sig .tc .vmem S4x2x256x128 .f32) (harg11 : arg11.IsWhole)
  (x0 x1 : Vec F S256x512 .bf16) (x2 x3 : Vec F S256x1024 .bf16) (x4 xs0 : Vec F S1x4x128x128 .f32)
  (xs1 : Vec F S8x256x256 .f32) (xs2 : Vec F S4x2x256x128 .f32)

/-- The last point's state block, written out: the new state. -/
theorem outState_C (hc0 : ¬cond0_0 i) (hc1 : cond0_1 i) :
    out0_C_6 c i arg2 harg2 arg3 harg3 arg4 harg4 arg5 harg5 arg6 harg6 arg7 harg7 arg8 harg8 arg9 harg9 arg10 harg10
      arg11 harg11 hc0 hc1 x0 x1 x2 x3 x4 xs0 xs1 xs2
      = Sarr x1 x2 xs0 xs2 := by
  unfold out0_C_6
  rw [View.read_writes_eq_canon _ _ _ (cover0_C_6 c i arg2 harg2 arg3 harg3 arg4 harg4 arg5 harg5 arg6 harg6 arg7 harg7 arg8 harg8 arg9 harg9 arg10 harg10
      arg11 harg11 hc0 hc1 x0 x1 x2 x3 x4 xs0 xs1 xs2)]
  have hz : (![0, 0, 0, 0] : Fin 4 → Nat) = fun _ => 0 := funext fun a => by fin_cases a <;> rfl
  unfold kernelRun0_C
  dsimp only
  sl_unfold_words
  dsimp only
  refine (View.canon_unit_zero (S := S1x4x128x128) hz _ _).trans ?_
  simp only [readCov_eq_ld, View.readAt_eq_ld, harg2.read_unread, harg3.read_unread, harg4.read_unread, harg5.read_unread,
    harg9.read_unread, harg10.read_unread, harg11.read_unread, ld_slab, ld_slabW, ld_sAt, ld_dmAt, ld_decAt]
  refine (View.ld_unit_zero (S := S1x4x128x128) hz _ _).trans ?_
  funext y
  refine canon_four (Sarr x1 x2 xs0 xs2) _ _ _ _ _ ?_ ?_ ?_ ?_ y <;> (intro x; rw [Sarr_emb]; rfl)

end Cert.Retention
-- ==== Proof.KernelRun.lean ====
/- The retention kernel's run over its grid on real inputs: what its output blocks and its carried state hold after every
   grid point, and so what its two result arrays end holding. -/
module

public import proofs.«01_k».proof.Proof.KernelChunk
public import proofs.«01_k».proof.Proof.Cases
public import proofs.«01_k».proof.Proof.CasesA
public import proofs.«01_k».proof.Proof.CaseLast
public import proofs.«01_k».proof.Proof.Gen.KernelIdeal.Value
public import Idealize.ShloMosaic.Lib.Pipeline.ValueKit

@[expose] public section

set_option maxRecDepth 16384

noncomputable section

namespace Cert.Retention

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The input blocks -/

/-- Grid point `t` reads row block `t`; the state operand's block is sequence `t / 32`. -/
theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = t.val ∧ win0_1.index t (1 : Fin 2) = 0 :=
  (by decide +kernel : ∀ t : Fin grid0.N, _)
theorem idx_in2 : ∀ t : Fin cfg0.N, win0_2.index t (0 : Fin 2) = t.val ∧ win0_2.index t (1 : Fin 2) = 0 :=
  (by decide +kernel : ∀ t : Fin grid0.N, _)
theorem idx_in3 : ∀ t : Fin cfg0.N, win0_3.index t (0 : Fin 2) = t.val ∧ win0_3.index t (1 : Fin 2) = 0 :=
  (by decide +kernel : ∀ t : Fin grid0.N, _)

theorem pt_lt (t : Fin cfg0.N) : t.val < 64 := lt_of_lt_of_eq t.isLt (show cfg0.N = 64 from N_0)

/-- Row `i` of the block of grid point `t`, as a row of the array. -/
abbrev rowOf (t : Fin cfg0.N) (i : Fin 256) : Fin 16384 := ⟨256 * t.val + i.val, by have := pt_lt t; omega⟩

theorem blk0 (t : Fin cfg0.N) (i : Fin 256) (d : Fin 512) :
    iblk m c 0 t (ix2 i d) = m ((c : Thread nD τ).loc main_arg0) (ix2 (rowOf t i) d) := by
  blk_point [iblk, V, idx_in0 t]
theorem blk1 (t : Fin cfg0.N) (i : Fin 256) (d : Fin 512) :
    iblk m c 1 t (ix2 i d) = m ((c : Thread nD τ).loc main_arg1) (ix2 (rowOf t i) d) := by
  blk_point [iblk, V, idx_in1 t]
theorem blk2 (t : Fin cfg0.N) (i : Fin 256) (d : Fin 1024) :
    iblk m c 2 t (ix2 i d) = m ((c : Thread nD τ).loc main_arg2) (ix2 (rowOf t i) d) := by
  blk_point [iblk, V, idx_in2 t]
theorem blk3 (t : Fin cfg0.N) (i : Fin 256) (d : Fin 1024) :
    iblk m c 3 t (ix2 i d) = m ((c : Thread nD τ).loc main_arg3) (ix2 (rowOf t i) d) := by
  blk_point [iblk, V, idx_in3 t]

/-- The state a sequence starts from is zero. -/
theorem V_init (y : S2x4x128x128.Idx) : V m c main_v0 y = Ideal.ofBits .f32 0#32 := by
  entry_read
  pointwise

theorem blk4 (t : Fin cfg0.N) (y : S1x4x128x128.Idx) : iblk m c 4 t y = (0 : EReal) := by
  unfold iblk
  rw [View.read_apply]
  exact (V_init m c _).trans Ideal.ofBits_zero_f32

/-! ## The inputs as real numbers -/

/-- The queries, keys and values the kernel is called with are real numbers. -/
structure RealInputs : Prop where
  q : AllReal fun (r : Fin 16384) (d : Fin 512) => m ((c : Thread nD τ).loc main_arg0) (ix2 r d)
  k : AllReal fun (r : Fin 16384) (d : Fin 512) => m ((c : Thread nD τ).loc main_arg1) (ix2 r d)
  v : AllReal fun (r : Fin 16384) (d : Fin 1024) => m ((c : Thread nD τ).loc main_arg2) (ix2 r d)

/-- The queries, keys and values as real numbers. -/
def Qr : ℕ → ℕ → ℝ := realOf fun (r : Fin 16384) (d : Fin 512) => m ((c : Thread nD τ).loc main_arg0) (ix2 r d)
def Kr : ℕ → ℕ → ℝ := realOf fun (r : Fin 16384) (d : Fin 512) => m ((c : Thread nD τ).loc main_arg1) (ix2 r d)
def Vr : ℕ → ℕ → ℝ := realOf fun (r : Fin 16384) (d : Fin 1024) => m ((c : Thread nD τ).loc main_arg2) (ix2 r d)

variable {m c}

/-- A row of a block, counted from the start of its sequence. -/
theorem row_split (t : Fin cfg0.N) (i : Fin 256) : (rowOf t i).val = 8192 * (t.val / 32) + (256 * (t.val % 32) + i.val) := by
  show 256 * t.val + i.val = _; omega

variable (hr : RealInputs m c)
include hr

theorem blkQ (t : Fin cfg0.N) (i : Fin 256) (d : Fin 512) :
    iblk m c 0 t (ix2 i d) = ((Qr m c (8192 * (t.val / 32) + (256 * (t.val % 32) + i.val)) d.val : ℝ) : EReal) := by
  rw [← row_split t i]; exact (blk0 m c t i d).trans (hr.q.eq _ _)
theorem blkK (t : Fin cfg0.N) (i : Fin 256) (d : Fin 512) :
    iblk m c 1 t (ix2 i d) = ((Kr m c (8192 * (t.val / 32) + (256 * (t.val % 32) + i.val)) d.val : ℝ) : EReal) := by
  rw [← row_split t i]; exact (blk1 m c t i d).trans (hr.k.eq _ _)
theorem blkV (t : Fin cfg0.N) (i : Fin 256) (d : Fin 1024) :
    iblk m c 2 t (ix2 i d) = ((Vr m c (8192 * (t.val / 32) + (256 * (t.val % 32) + i.val)) d.val : ℝ) : EReal) := by
  rw [← row_split t i]; exact (blk2 m c t i d).trans (hr.v.eq _ _)

/-! ## One grid point -/

/-- A grid point whose carried state is the recurrence's before the point's rows writes the output's rows. -/
theorem point_out (t : Fin cfg0.N) (s : Vec Ideal S1x4x128x128 .f32)
    (hs : IsState (Kr m c) (Vr m c) (8192 * (t.val / 32)) (256 * (t.val % 32)) s) (i : Fin 256) (d : Fin 1024) :
    Yarr (iblk m c 0 t) (iblk m c 1 t) (iblk m c 2 t) (iblk m c 3 t) s dmT decT (ix2 i d)
      = Yval (Qr m c) (Kr m c) (Vr m c) (rowOf t i).val (d.val / 128) (Fin.ofNat 128 d.val)
          (m ((c : Thread nD τ).loc main_arg3) (ix2 (rowOf t i) d)) := by
  have e := Yarr_real (Qr m c) (Kr m c) (Vr m c) (8192 * (t.val / 32)) (256 * (t.val % 32)) (iblk m c 0 t) (iblk m c 1 t)
    (iblk m c 2 t) (iblk m c 3 t) s (blkQ hr t) (blkK hr t) (blkV hr t) hs i d
  rw [e]
  unfold Yval
  rw [show (rowOf t i).val / 8192 = t.val / 32 by rw [row_split]; omega,
    show (rowOf t i).val % 8192 = 256 * (t.val % 32) + i.val by rw [row_split]; omega]
  congr 1
  exact blk3 m c t i d

theorem point_state (t : Fin cfg0.N) (s : Vec Ideal S1x4x128x128 .f32)
    (hs : IsState (Kr m c) (Vr m c) (8192 * (t.val / 32)) (256 * (t.val % 32)) s) :
    IsState (Kr m c) (Vr m c) (8192 * (t.val / 32)) (256 * (t.val % 32) + 256) (Sarr (iblk m c 1 t) (iblk m c 2 t) s decT) :=
  Sarr_real (Kr m c) (Vr m c) (8192 * (t.val / 32)) (256 * (t.val % 32)) (iblk m c 1 t) (iblk m c 2 t) s (blkK hr t) (blkV hr t) hs

/-! ## The invariant -/

variable (m c) in
omit hr in
/-- What a grid point leaves: the output's rows, the recurrence's state after them (at a sequence's last point also in the
    state result), and the decay tables. -/
structure After (n : ℕ) (hn : n < cfg0.N) : Prop where
  out : ∀ (i : Fin 256) (d : Fin 1024), (outsAt0 m c n hn).1 (ix2 i d)
    = Yval (Qr m c) (Kr m c) (Vr m c) (rowOf ⟨n, hn⟩ i).val (d.val / 128) (Fin.ofNat 128 d.val)
        (m ((c : Thread nD τ).loc main_arg3) (ix2 (rowOf ⟨n, hn⟩ i) d))
  last : n % 32 = 31 → IsState (Kr m c) (Vr m c) (8192 * (n / 32)) (256 * (n % 32) + 256) (outsAt0 m c n hn).2.1
  state : IsState (Kr m c) (Vr m c) (8192 * (n / 32)) (256 * (n % 32) + 256) (outsAt0 m c n hn).2.2.1
  dm : (outsAt0 m c n hn).2.2.2.1 = dmT
  dec : (outsAt0 m c n hn).2.2.2.2 = decT

/-- A sequence's first grid point. -/
theorem after_first (t : Fin cfg0.N) (h0 : t.val % 32 = 0) : After m c t.val t.isLt := by
  have h1 : ¬t.val % 32 = 31 := by omega
  have e := outsAt0_A m c t h0 h1
  have hs : IsState (Kr m c) (Vr m c) (8192 * (t.val / 32)) (256 * (t.val % 32)) (iblk m c 4 t) := fun p d e => by
    rw [h0, blk4]; rfl
  refine ⟨fun i d => ?_, fun h => absurd h h1, ?_, ?_, ?_⟩
  · rw [e]; dsimp only
    rw [out_A]; exact point_out hr t _ hs i d
  · rw [e]; dsimp only
    rw [st_A]; exact point_state hr t _ hs
  · rw [e]; dsimp only
    rw [dm_A]
  · rw [e]; dsimp only
    rw [dec_A]

/-- A later grid point, from the one before. -/
theorem after_next (t : Fin cfg0.N) (h0 : ¬t.val % 32 = 0)
    (ih : After m c (t.val - 1) (Nat.lt_of_le_of_lt (Nat.sub_le _ _) t.isLt)) : After m c t.val t.isLt := by
  have hs : IsState (Kr m c) (Vr m c) (8192 * (t.val / 32)) (256 * (t.val % 32))
      (outsAt0 m c (t.val - 1) (Nat.lt_of_le_of_lt (Nat.sub_le _ _) t.isLt)).2.2.1 := by
    have := ih.state
    rwa [show (t.val - 1) / 32 = t.val / 32 by omega, show 256 * ((t.val - 1) % 32) + 256 = 256 * (t.val % 32) by omega] at this
  by_cases h1 : t.val % 32 = 31
  · have e := outsAt0_C m c t h0 h1
    rw [ih.dm, ih.dec] at e
    refine ⟨fun i d => ?_, fun _ => ?_, ?_, ?_, ?_⟩
    · rw [e]; dsimp only
      rw [out_C]; exact point_out hr t _ hs i d
    · rw [e]; dsimp only
      rw [outState_C]; exact point_state hr t _ hs
    · rw [e]; dsimp only
      rw [st_C]; exact point_state hr t _ hs
    · rw [e]; rfl
    · rw [e]; rfl
  · have e := outsAt0_B m c t h0 h1
    rw [ih.dm, ih.dec] at e
    refine ⟨fun i d => ?_, fun h => absurd h h1, ?_, ?_, ?_⟩
    · rw [e]; dsimp only
      rw [out_B]; exact point_out hr t _ hs i d
    · rw [e]; dsimp only
      rw [st_B]; exact point_state hr t _ hs
    · rw [e]; rfl
    · rw [e]; rfl

/-- Every grid point. -/
theorem after_all : ∀ (n : ℕ) (hn : n < cfg0.N), After m c n hn
  | 0, hn => after_first hr ⟨0, hn⟩ rfl
  | n + 1, hn => by
    by_cases h0 : (n + 1) % 32 = 0
    · exact after_first hr ⟨n + 1, hn⟩ h0
    · exact after_next hr ⟨n + 1, hn⟩ h0 (after_all n (Nat.lt_of_succ_lt hn))

/-! ## The result arrays -/

theorem G5_apply (r : Fin 16384) (d : Fin 1024) : Value.G5 m c (ix2 r d)
    = Yval (Qr m c) (Kr m c) (Vr m c) r.val (d.val / 128) (Fin.ofNat 128 d.val) (m ((c : Thread nD τ).loc main_arg3) (ix2 r d)) := by
  have hp : Value.pt5Of (ix2 r d) = r.val / 256 := by
    show 1 * (r.val / 256 - 0) + 1 * (d.val / 1024 - 0) = _; omega
  have hN : r.val / 256 < cfg0.N := lt_of_lt_of_eq (by omega) N_0.symm
  have hl : Value.loc5Of (ix2 r d) = ix2 (⟨r.val % 256, by omega⟩ : Fin 256) d := by
    funext a
    match a with
    | ⟨0, _⟩ => rfl
    | ⟨1, _⟩ => exact Fin.ext (Nat.mod_eq_of_lt d.isLt)
  have hrow : rowOf ⟨r.val / 256, hN⟩ ⟨r.val % 256, by omega⟩ = r := Fin.ext (by show 256 * (r.val / 256) + r.val % 256 = r.val; omega)
  unfold Value.G5
  rw [dif_pos (hp ▸ hN), hl]
  have e := Value.outsAt0_sweep m c (r.val / 256) hN
  have f := (after_all hr (r.val / 256) hN).out ⟨r.val % 256, by omega⟩ d
  rw [e, hrow] at f
  refine Eq.trans ?_ f
  exact congrFun (congrArg Prod.fst (Value.fold0_congr m c _ _ _ _ hp)) _

theorem G6_apply (b : Fin 2) (p : Fin 4) (d e : Fin 128) : Value.G6 m c (ix4 b p d e)
    = ((St (Kr m c) (Vr m c) (8192 * b.val) (2 * p.val + d.val / 64) 8192 (d.val % 64) e.val : ℝ) : EReal) := by
  have hp : Value.pt6Of (ix4 b p d e) = 32 * b.val + 31 := by
    show 32 * (1 * (b.val / 1 - 0) + 1 * (p.val / 4 - 0) + 1 * (d.val / 128 - 0) + 1 * (e.val / 128 - 0)) + 31 = _; omega
  have hN : 32 * b.val + 31 < cfg0.N := lt_of_lt_of_eq (by omega) N_0.symm
  have hl : Value.loc6Of (ix4 b p d e) = ix4 (0 : Fin 1) p d e := by
    funext a
    match a with
    | ⟨0, _⟩ => exact Fin.ext (Nat.mod_one _)
    | ⟨1, _⟩ => exact Fin.ext (Nat.mod_eq_of_lt p.isLt)
    | ⟨2, _⟩ => exact Fin.ext (Nat.mod_eq_of_lt d.isLt)
    | ⟨3, _⟩ => exact Fin.ext (Nat.mod_eq_of_lt e.isLt)
  unfold Value.G6
  rw [dif_pos (hp ▸ hN), hl]
  have es := Value.outsAt0_sweep m c (32 * b.val + 31) hN
  have f := (after_all hr (32 * b.val + 31) hN).last (by omega) p d e
  rw [es, show (32 * b.val + 31) / 32 = b.val by omega, show 256 * ((32 * b.val + 31) % 32) + 256 = 8192 by omega] at f
  refine Eq.trans ?_ f
  exact congrFun (congrArg (fun z => z.2.1) (Value.fold0_congr m c _ _ _ _ hp)) _

end Cert.Retention
-- ==== Proof.RefStep.lean ====
/- One trip of the reference's loop on real inputs: from the recurrence's state before a chunk of 64 rows it computes the
   recurrence's outputs in the chunk and the state after it. -/
module

public import proofs.«01_k».proof.Proof.KernelReal
public import proofs.«01_k».proof.Proof.Consts
public import proofs.«01_k».proof.Proof.Inputs
public import proofs.«01_k».proof.Proof.Gen.ReferenceIdeal.Run
public import Idealize.ShloMosaic.Lib.DynamicIndex
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Retention

open Idealize.ShloMosaic Idealize.ShloMosaic.TcCoe Idealize.SL.Sem
open Cert.ReferenceIdeal Cert.ReferenceIdeal.Gen Cert.ReferenceIdeal.Value
open Finset (range)

variable (V0 : Valuation τ sig (Elt Ideal))

/-! ## The loop's buffers -/

def bq : Vec Ideal S128x2x8x64x64 .f32 := V0 (Proc.devRef .tc main_v22_0)
def bk : Vec Ideal S128x2x8x64x64 .f32 := V0 (Proc.devRef .tc main_v22_1)
def bv : Vec Ideal S128x2x8x64x128 .f32 := V0 (Proc.devRef .tc main_v22_2)
def blg : Vec Ideal S8 .f32 := V0 (Proc.devRef .tc main_v22_3)
def bctr : Vec Ideal S_ .i32 := V0 (Proc.devRef .tc main_v22_4)
def bst : Vec Ideal S2x8x64x128 .f32 := V0 (Proc.devRef .tc main_v22_5)
def bout : Vec Ideal S128x2x8x64x128 .f32 := V0 (Proc.devRef .tc main_v22_6)

/-! ## The trip's chunks of the inputs, its row numbers and their differences -/

def cq : Vec Ideal S2x8x64x64 .f32 := res_main_while0b_v40 V0
def ck : Vec Ideal S2x8x64x64 .f32 := res_main_while0b_v41 V0
def cv : Vec Ideal S2x8x64x128 .f32 := res_main_while0b_v42 V0
def crow : Vec Ideal S64 .f32 := res_main_while0b_v43 V0
def cdiff : Vec Ideal S64x64 .f32 := res_main_while0b_v48 V0

/-! ## Reading a trip -/

variable (k : Fin 128)

/-- The trip's slice starts at its number, in the first dimension. -/
theorem start_eq (hc : bctr V0 = fun _ => BitVec.ofNat 32 k.val) (a : Fin 5) :
    ((![V0 (Proc.devRef .tc main_v22_4), constantI S_ 32 0#32, constantI S_ 32 0#32, constantI S_ 32 0#32, constantI S_ 32 0#32]
      : Fin 5 → (⟨S_, .i32⟩ : BufTy).Contents (Elt Ideal)) a (Shape.Idx.first h_S_)).toInt = ((![k.val, 0, 0, 0, 0] : Fin 5 → ℕ) a : Int) := by
  match a with
  | 0 =>
    show (V0 (Proc.devRef .tc main_v22_4) (Shape.Idx.first h_S_) : BitVec 32).toInt = _
    rw [show V0 (Proc.devRef .tc main_v22_4) (Shape.Idx.first h_S_) = BitVec.ofNat 32 k.val from congrFun hc _]
    exact toInt_ofNat_of_lt (by have := k.isLt; omega)
  | 1 | 2 | 3 | 4 => rfl

theorem slices_qk : S128x2x8x64x64.Slices ![k.val, 0, 0, 0, 0] S1x2x8x64x64 :=
  ⟨rfl, fun a => by
    have := k.isLt
    match a with
    | 0 => show k.val + 1 ≤ 128; omega
    | 1 | 2 | 3 | 4 => exact le_refl _⟩

theorem slices_v : S128x2x8x64x128.Slices ![k.val, 0, 0, 0, 0] S1x2x8x64x128 :=
  ⟨rfl, fun a => by
    have := k.isLt
    match a with
    | 0 => show k.val + 1 ≤ 128; omega
    | 1 | 2 | 3 | 4 => exact le_refl _⟩

theorem q_read (hc : bctr V0 = fun _ => BitVec.ofNat 32 k.val) (b : Fin 2) (h : Fin 8) (i d : Fin 64) :
    cq V0 (ix4 b h i d) = bq V0 (ix5 k b h i d) := by
  unfold cq res_main_while0b_v40
  rw [Host.dynamicSlice_eq_extractStridedSlice _ _ _ ![k.val, 0, 0, 0, 0] _ (slices_qk k) (start_eq V0 k hc)]
  clean_types
  pointwise
  rfl

theorem k_read (hc : bctr V0 = fun _ => BitVec.ofNat 32 k.val) (b : Fin 2) (h : Fin 8) (i d : Fin 64) :
    ck V0 (ix4 b h i d) = bk V0 (ix5 k b h i d) := by
  unfold ck res_main_while0b_v41
  rw [Host.dynamicSlice_eq_extractStridedSlice _ _ _ ![k.val, 0, 0, 0, 0] _ (slices_qk k) (start_eq V0 k hc)]
  clean_types
  pointwise
  rfl

theorem v_read (hc : bctr V0 = fun _ => BitVec.ofNat 32 k.val) (b : Fin 2) (h : Fin 8) (i : Fin 64) (e : Fin 128) :
    cv V0 (ix4 b h i e) = bv V0 (ix5 k b h i e) := by
  unfold cv res_main_while0b_v42
  rw [Host.dynamicSlice_eq_extractStridedSlice _ _ _ ![k.val, 0, 0, 0, 0] _ (slices_v k) (start_eq V0 k hc)]
  clean_types
  pointwise
  rfl

theorem row_read (i : Fin 64) : crow V0 (ix1 i) = (((i.val : ℕ) : ℝ) : EReal) := by
  unfold crow res_main_while0b_v43
  clean_types
  pointwise
  exact sitofp_nat i.val (by omega)

theorem diff_read (i j : Fin 64) : cdiff V0 (ix2 i j)
    = (((i.val : ℝ) - (j.val : ℝ) : ℝ) : EReal) := by
  have e : cdiff V0 (ix2 i j)
      = crow V0 (ix1 i) - crow V0 (ix1 j) := by
    unfold cdiff crow res_main_while0b_v48
    clean_types
    pointwise
  rw [e, row_read, row_read, EReal.coe_sub]

theorem state_read (b : Fin 2) (h : Fin 8) (d : Fin 64) (e : Fin 128) :
    (step_main_v22_5 V0 : Vec Ideal S2x8x64x128 .f32) (ix4 b h d e)
      = Ideal.exp (blg V0 (ix1 h) * Ideal.ofBits .f32 0x42800000#32) * bst V0 (ix4 b h d e)
        + ∑ j : Fin 64, ck V0 (ix4 b h j d)
          * Ideal.exp (blg V0 (ix1 h) * (Ideal.ofBits .f32 0x427C0000#32 - crow V0 (ix1 j)))
          * cv V0 (ix4 b h j e) := by
  unfold step_main_v22_5 blg bst ck crow cv
  clean_types
  simp only [id_eq]
  pointwise

theorem out_read (hc : bctr V0 = fun _ => BitVec.ofNat 32 k.val) (a : Fin 128) (b : Fin 2) (h : Fin 8) (i : Fin 64) (e : Fin 128) :
    (step_main_v22_6 V0 : Vec Ideal S128x2x8x64x128 .f32) (ix5 a b h i e)
      = if k.val ≤ a.val ∧ a.val < k.val + 1 then
          ∑ j : Fin 64, (∑ d : Fin 64, cq V0 (ix4 b h i d)
                * ck V0 (ix4 b h j d))
              * (if 0 ≤ cdiff V0 (ix2 i j) then
                  Ideal.exp (blg V0 (ix1 h) * max (cdiff V0 (ix2 i j)) 0) else 0)
              * cv V0 (ix4 b h j e)
          + ∑ d : Fin 64, cq V0 (ix4 b h i d)
              * Ideal.exp (blg V0 (ix1 h) * (crow V0 (ix1 i) + 1))
              * bst V0 (ix4 b h d e)
        else bout V0 (ix5 a b h i e) := by
  unfold step_main_v22_6 blg bst bout cq ck cv crow cdiff
  clean_types
  simp only [id_eq]
  rw [Host.dynamicUpdateSlice_eq_updateSlice _ _ _ _ ![k.val, 0, 0, 0, 0] (fun a => by
    rw [start_eq V0 k hc a]
    have := k.isLt
    match a with
    | 0 => show (min (max (k.val : ℤ) 0) ((128 - 1 : ℕ) : ℤ)).toNat = k.val; omega
    | 1 | 2 | 3 | 4 => rfl) (slices_v k)]
  pointwise
  simp only [dite_eq_ite]

/-! ## A trip on real inputs -/

/-- The decay mask of rows `i`, `j`. -/
theorem mask_real (h : ℕ) (i j : Fin 64) :
    (if (0 : EReal) ≤ (((i.val : ℝ) - (j.val : ℝ) : ℝ) : EReal) then
        Ideal.exp (((Real.log (gam h) : ℝ) : EReal) * max (((i.val : ℝ) - (j.val : ℝ) : ℝ) : EReal) 0) else 0)
      = ((if j.val ≤ i.val then gam h ^ (i.val - j.val) else 0 : ℝ) : EReal) := by
  by_cases hij : j.val ≤ i.val
  · have hn : (0 : ℝ) ≤ (i.val : ℝ) - (j.val : ℝ) := by rw [← Nat.cast_sub hij]; exact Nat.cast_nonneg _
    have h0 : (0 : EReal) ≤ (((i.val : ℝ) - (j.val : ℝ) : ℝ) : EReal) := EReal.coe_nonneg.mpr hn
    rw [if_pos h0, if_pos hij, max_eq_left h0, ← Nat.cast_sub hij]
    exact exp_lg h (i.val - j.val) _ rfl
  · have hn : ¬(0 : EReal) ≤ (((i.val : ℝ) - (j.val : ℝ) : ℝ) : EReal) := fun h0 => by
      have := EReal.coe_nonneg.mp h0
      have hlt : (i.val : ℝ) < (j.val : ℝ) := Nat.cast_lt.mpr (by omega)
      linarith
    rw [if_neg hn, if_neg hij]; rfl

/-- The loop's buffers before trip `n`: the chunks of the inputs, the log decays, the recurrence's state after `64 n` rows
    of each sequence, and the recurrence's outputs in the chunks done. -/
structure Before (Q K V : ℕ → ℕ → ℝ) (n : ℕ) : Prop where
  ctr : bctr V0 = fun _ => BitVec.ofNat 32 n
  q : ∀ (a : Fin 128) (b : Fin 2) (h : Fin 8) (i d : Fin 64),
    bq V0 (ix5 a b h i d) = ((Q (8192 * b.val + (64 * a.val + i.val)) (64 * h.val + d.val) : ℝ) : EReal)
  k : ∀ (a : Fin 128) (b : Fin 2) (h : Fin 8) (i d : Fin 64),
    bk V0 (ix5 a b h i d) = ((K (8192 * b.val + (64 * a.val + i.val)) (64 * h.val + d.val) : ℝ) : EReal)
  v : ∀ (a : Fin 128) (b : Fin 2) (h : Fin 8) (i : Fin 64) (e : Fin 128),
    bv V0 (ix5 a b h i e) = ((V (8192 * b.val + (64 * a.val + i.val)) (128 * h.val + e.val) : ℝ) : EReal)
  lg : ∀ h : Fin 8, blg V0 (ix1 h) = ((Real.log (gam h.val) : ℝ) : EReal)
  st : ∀ (b : Fin 2) (h : Fin 8) (d : Fin 64) (e : Fin 128),
    bst V0 (ix4 b h d e) = ((St K V (8192 * b.val) h.val (64 * n) d.val e.val : ℝ) : EReal)
  out : ∀ (a : Fin 128) (b : Fin 2) (h : Fin 8) (i : Fin 64) (e : Fin 128), a.val < n →
    bout V0 (ix5 a b h i e) = ((Out Q K V (8192 * b.val) h.val (64 * a.val + i.val) e.val : ℝ) : EReal)

variable {V0} {Q K V : ℕ → ℕ → ℝ}

theorem state_real (H : Before V0 Q K V k.val) (b : Fin 2) (h : Fin 8) (d : Fin 64) (e : Fin 128) :
    (step_main_v22_5 V0 : Vec Ideal S2x8x64x128 .f32) (ix4 b h d e)
      = ((St K V (8192 * b.val) h.val (64 * (k.val + 1)) d.val e.val : ℝ) : EReal) := by
  rw [state_read, H.lg, H.st, show 64 * (k.val + 1) = 64 * k.val + 64 by ring, St_chunk, EReal.coe_add, EReal.coe_mul,
    exp_lg h.val 64 _ (Cert.Consts.ofBits_64.trans (by norm_num)),
    ← Fin.sum_univ_eq_sum_range (fun j => K (8192 * b.val + (64 * k.val + j)) (64 * h.val + d.val)
        * gam h.val ^ (64 - 1 - j) * V (8192 * b.val + (64 * k.val + j)) (128 * h.val + e.val)) 64, coe_sum]
  congr 1
  refine Finset.sum_congr rfl fun j _ => ?_
  have hj : Ideal.ofBits .f32 0x427C0000#32 - (((j.val : ℕ) : ℝ) : EReal) = (((64 - 1 - j.val : ℕ) : ℝ) : EReal) := by
    rw [Cert.Consts.ofBits_63, ← EReal.coe_sub, Nat.cast_sub (by omega)]; norm_num
  rw [k_read V0 k H.ctr, v_read V0 k H.ctr, row_read, H.k, H.v, exp_lg h.val (64 - 1 - j.val) _ hj, EReal.coe_mul, EReal.coe_mul]

theorem out_real (H : Before V0 Q K V k.val) (b : Fin 2) (h : Fin 8) (i : Fin 64) (e : Fin 128) :
    (step_main_v22_6 V0 : Vec Ideal S128x2x8x64x128 .f32) (ix5 k b h i e)
      = ((Out Q K V (8192 * b.val) h.val (64 * k.val + i.val) e.val : ℝ) : EReal) := by
  have hi : (((i.val : ℕ) : ℝ) : EReal) + 1 = (((i.val + 1 : ℕ) : ℝ) : EReal) := by
    rw [Nat.cast_add, EReal.coe_add]; norm_num
  rw [out_read V0 k H.ctr, if_pos (by omega), ← Out_chunk Q K V (8192 * b.val) h.val (64 * k.val) 64 i.val e.val i.isLt, EReal.coe_add]
  congr 1
  · rw [← Fin.sum_univ_eq_sum_range (fun j => (∑ d ∈ range 64, Q (8192 * b.val + (64 * k.val + i.val)) (64 * h.val + d)
          * K (8192 * b.val + (64 * k.val + j)) (64 * h.val + d))
        * (if j ≤ i.val then gam h.val ^ (i.val - j) else 0) * V (8192 * b.val + (64 * k.val + j)) (128 * h.val + e.val)) 64, coe_sum]
    refine Finset.sum_congr rfl fun j _ => ?_
    rw [diff_read, H.lg, mask_real, v_read V0 k H.ctr, H.v, EReal.coe_mul, EReal.coe_mul,
      ← Fin.sum_univ_eq_sum_range (fun d => Q (8192 * b.val + (64 * k.val + i.val)) (64 * h.val + d)
          * K (8192 * b.val + (64 * k.val + j.val)) (64 * h.val + d)) 64, coe_sum]
    congr 2
    refine Finset.sum_congr rfl fun d _ => ?_
    rw [q_read V0 k H.ctr, k_read V0 k H.ctr, H.q, H.k, EReal.coe_mul]
  · rw [← Fin.sum_univ_eq_sum_range (fun d => Q (8192 * b.val + (64 * k.val + i.val)) (64 * h.val + d) * gam h.val ^ (i.val + 1)
        * St K V (8192 * b.val) h.val (64 * k.val) d e.val) 64, coe_sum]
    refine Finset.sum_congr rfl fun d _ => ?_
    rw [q_read V0 k H.ctr, row_read, H.q, H.lg, exp_lg h.val (i.val + 1) _ hi, H.st, EReal.coe_mul, EReal.coe_mul]

/-- A trip takes the buffers before it to the buffers before the next. -/
theorem step_before (H : Before V0 Q K V k.val) : Before (STEP V0) Q K V (k.val + 1) where
  ctr := by
    show STEP V0 (Proc.devRef .tc main_v22_4) = _
    rw [STEP_main_v22_4]
    unfold step_main_v22_4
    rw [show V0 (Proc.devRef .tc main_v22_4) = fun _ => BitVec.ofNat 32 k.val from H.ctr]
    funext _
    show BitVec.ofNat 32 k.val + 1#32 = _
    rw [BitVec.ofNat_add]
  q := by
    unfold bq; rw [STEP_main_v22_0]; exact H.q
  k := by
    unfold bk; rw [STEP_main_v22_1]; exact H.k
  v := by
    unfold bv; rw [STEP_main_v22_2]; exact H.v
  lg := by
    unfold blg; rw [STEP_main_v22_3]; exact H.lg
  st b h d e := by
    unfold bst; rw [STEP_main_v22_5]; exact state_real k H b h d e
  out a b h i e ha := by
    unfold bout; rw [STEP_main_v22_6]
    by_cases hak : a.val = k.val
    · obtain rfl : a = k := Fin.ext hak
      exact out_real a H b h i e
    · refine (out_read V0 k H.ctr a b h i e).trans ?_
      rw [if_neg (by omega)]
      exact H.out a b h i e (by omega)

end Cert.Retention
-- ==== Proof.RefRun.lean ====
/- The reference's results on real inputs: the gated, normalised outputs of the recurrence and its states after a whole
   sequence. -/
module

public import proofs.«01_k».proof.Proof.RefStep

@[expose] public section

set_option maxRecDepth 16384

noncomputable section

namespace Cert.Retention

open Idealize.ShloMosaic Idealize.ShloMosaic.TcCoe Idealize.SL.Sem
open Idealize.ShloMosaic.StableHlo
open Cert.ReferenceIdeal Cert.ReferenceIdeal.Gen Cert.ReferenceIdeal.Value

variable (m : (ℓ : Loc nD τ sig) → Buf (Elt Ideal) ℓ) (c : Dev nD)

/-- The queries, keys and values are real. -/
structure RealArgs : Prop where
  q : AllReal (fun (r : Fin 16384) (d : Fin 512) => (m ((c : Thread nD τ).loc main_arg0) : Vec Ideal S16384x512 .bf16) (ix2 r d))
  k : AllReal (fun (r : Fin 16384) (d : Fin 512) => (m ((c : Thread nD τ).loc main_arg1) : Vec Ideal S16384x512 .bf16) (ix2 r d))
  v : AllReal (fun (r : Fin 16384) (d : Fin 1024) => (m ((c : Thread nD τ).loc main_arg2) : Vec Ideal S16384x1024 .bf16) (ix2 r d))

def Qa : ℕ → ℕ → ℝ := realOf (fun (r : Fin 16384) (d : Fin 512) => (m ((c : Thread nD τ).loc main_arg0) : Vec Ideal S16384x512 .bf16) (ix2 r d))
def Ka : ℕ → ℕ → ℝ := realOf (fun (r : Fin 16384) (d : Fin 512) => (m ((c : Thread nD τ).loc main_arg1) : Vec Ideal S16384x512 .bf16) (ix2 r d))
def Va : ℕ → ℕ → ℝ := realOf (fun (r : Fin 16384) (d : Fin 1024) => (m ((c : Thread nD τ).loc main_arg2) : Vec Ideal S16384x1024 .bf16) (ix2 r d))

variable {m c}

/-! ## The inputs by chunks of 64 rows -/

/-- The queries or keys by sequence, row, head and column. -/
def seq64 (x : FVec Ideal S16384x512 .bf16) : FVec Ideal S2x8192x8x64 .f32 :=
  shapeCast S2x8192x8x64 (extf .f32 x bitsLt_bf16_f32) shapeCasts_S16384x512_S2x8192x8x64

theorem seq64_read (x : FVec Ideal S16384x512 .bf16) (b : Fin 2) (n : Fin 8192) (h : Fin 8) (d : Fin 64) :
    seq64 x (ix4 b n h d) = x (ix2 ⟨8192 * b.val + n.val, by omega⟩ ⟨64 * h.val + d.val, by omega⟩) := by
  unfold seq64
  pointwise
  exact congrArg x (congrArg₂ ix2 (Fin.ext (by simp only; omega)) (Fin.ext (by simp only; omega)))

/-- The same by chunk, sequence, head, row in the chunk and column. -/
def chunk64 (y : FVec Ideal S2x8192x8x64 .f32) : FVec Ideal S128x2x8x64x64 .f32 :=
  transpose S128x2x8x64x64 [1, 0, 3, 2, 4] (shapeCast S2x128x64x8x64 y
    shapeCasts_S2x8192x8x64_S2x128x64x8x64) transposes_S2x128x64x8x64_S128x2x8x64x64_1_0_3_2_4

theorem chunk64_read (y : FVec Ideal S2x8192x8x64 .f32) (a : Fin 128) (b : Fin 2) (h : Fin 8) (i : Fin 64) (d : Fin 64) :
    chunk64 y (ix5 a b h i d) = y (ix4 b ⟨64 * a.val + i.val, by omega⟩ h d) := by
  unfold chunk64
  pointwise
  exact congrArg (fun n => y (ix4 b n h d)) (Fin.ext (by simp only; omega))

/-- The values by sequence, row, head and column. -/
def seq128 (x : FVec Ideal S16384x1024 .bf16) : FVec Ideal S2x8192x8x128 .f32 :=
  shapeCast S2x8192x8x128 (extf .f32 x bitsLt_bf16_f32) shapeCasts_S16384x1024_S2x8192x8x128

theorem seq128_read (x : FVec Ideal S16384x1024 .bf16) (b : Fin 2) (n : Fin 8192) (h : Fin 8) (d : Fin 128) :
    seq128 x (ix4 b n h d) = x (ix2 ⟨8192 * b.val + n.val, by omega⟩ ⟨128 * h.val + d.val, by omega⟩) := by
  unfold seq128
  pointwise
  exact congrArg x (congrArg₂ ix2 (Fin.ext (by simp only; omega)) (Fin.ext (by simp only; omega)))

/-- The same by chunk, sequence, head, row in the chunk and column. -/
def chunk128 (y : FVec Ideal S2x8192x8x128 .f32) : FVec Ideal S128x2x8x64x128 .f32 :=
  transpose S128x2x8x64x128 [1, 0, 3, 2, 4] (shapeCast S2x128x64x8x128 y
    shapeCasts_S2x8192x8x128_S2x128x64x8x128) transposes_S2x128x64x8x128_S128x2x8x64x128_1_0_3_2_4

theorem chunk128_read (y : FVec Ideal S2x8192x8x128 .f32) (a : Fin 128) (b : Fin 2) (h : Fin 8) (i : Fin 64) (d : Fin 128) :
    chunk128 y (ix5 a b h i d) = y (ix4 b ⟨64 * a.val + i.val, by omega⟩ h d) := by
  unfold chunk128
  pointwise
  exact congrArg (fun n => y (ix4 b n h d)) (Fin.ext (by simp only; omega))

/-! ## The loop's buffers as it begins -/

theorem entry_q (hr : RealArgs m c) (a : Fin 128) (b : Fin 2) (h : Fin 8) (i : Fin 64) (d : Fin 64) :
    bq (entryContents preI m c) (ix5 a b h i d)
      = ((Qa m c (8192 * b.val + (64 * a.val + i.val)) (64 * h.val + d.val) : ℝ) : EReal) := by
  have e : bq (entryContents preI m c) = chunk64 (seq64 (m ((c : Thread nD τ).loc main_arg0))) := by
    unfold bq
    simp only [entryContents, afterL_cons, afterL_nil]
    after_reads_simp
    rfl
  rw [e, chunk64_read, seq64_read]
  exact hr.q.eq _ _

theorem entry_k (hr : RealArgs m c) (a : Fin 128) (b : Fin 2) (h : Fin 8) (i : Fin 64) (d : Fin 64) :
    bk (entryContents preI m c) (ix5 a b h i d)
      = ((Ka m c (8192 * b.val + (64 * a.val + i.val)) (64 * h.val + d.val) : ℝ) : EReal) := by
  have e : bk (entryContents preI m c) = chunk64 (seq64 (m ((c : Thread nD τ).loc main_arg1))) := by
    unfold bk
    simp only [entryContents, afterL_cons, afterL_nil]
    after_reads_simp
    rfl
  rw [e, chunk64_read, seq64_read]
  exact hr.k.eq _ _

theorem entry_v (hr : RealArgs m c) (a : Fin 128) (b : Fin 2) (h : Fin 8) (i : Fin 64) (d : Fin 128) :
    bv (entryContents preI m c) (ix5 a b h i d)
      = ((Va m c (8192 * b.val + (64 * a.val + i.val)) (128 * h.val + d.val) : ℝ) : EReal) := by
  have e : bv (entryContents preI m c) = chunk128 (seq128 (m ((c : Thread nD τ).loc main_arg2))) := by
    unfold bv
    simp only [entryContents, afterL_cons, afterL_nil]
    after_reads_simp
    rfl
  rw [e, chunk128_read, seq128_read]
  exact hr.v.eq _ _

theorem entry_lg (h : Fin 8) : blg (entryContents preI m c) (ix1 h) = ((Real.log (gam h.val) : ℝ) : EReal) := by
  have e : blg (entryContents preI m c) (ix1 h)
      = Ideal.log (1 - Ideal.pow (Ideal.ofBits .f32 0x40000000#32) (Ideal.ofBits .f32 0xC0A00000#32 - FloatOps.sitofp (F := Ideal) .f32 (BitVec.ofNat 32 h.val))) := by
    unfold blg
    simp only [entryContents, afterL_cons, afterL_nil]
    after_reads_simp
    simp only [id_eq]
    clean_types
    pointwise
  have hp : Real.rpow 2 (-5 - ((h.val : ℕ) : ℝ)) = 1 / 2 ^ (5 + h.val) := by
    show (2 : ℝ) ^ (-5 - ((h.val : ℕ) : ℝ)) = _
    rw [show (-5 - ((h.val : ℕ) : ℝ)) = -((5 + h.val : ℕ) : ℝ) by push_cast; ring, Real.rpow_neg (by norm_num), Real.rpow_natCast, one_div]
  rw [e, sitofp_nat _ (by omega), Cert.Consts.ofBits_2, Cert.Consts.ofBits_neg5, ← EReal.coe_sub, Ideal.pow_coe_coe, hp,
    show (1 : EReal) - ((1 / 2 ^ (5 + h.val) : ℝ) : EReal) = ((gam h.val : ℝ) : EReal) from by rw [← EReal.coe_one, ← EReal.coe_sub]; rfl,
    Ideal.log_coe, if_neg (not_le.mpr (gam_pos _))]

theorem entry_st (b : Fin 2) (h : Fin 8) (d : Fin 64) (e : Fin 128) : bst (entryContents preI m c) (ix4 b h d e) = 0 := by
  unfold bst
  simp only [entryContents, afterL_cons, afterL_nil]
  after_reads_simp
  simp only [id_eq]
  clean_types
  pointwise

/-- Before the first trip. -/
theorem entry_before (hr : RealArgs m c) : Before (entryContents preI m c) (Qa m c) (Ka m c) (Va m c) 0 where
  ctr := ctr_entry m c
  q := entry_q hr
  k := entry_k hr
  v := entry_v hr
  lg := entry_lg
  st := entry_st
  out _ _ _ _ _ ha := absurd ha (Nat.not_lt_zero _)

/-- Before each trip, and after the last. -/
theorem trips_before (hr : RealArgs m c) : ∀ n ≤ 128, Before (STEP^[n] (entryContents preI m c)) (Qa m c) (Ka m c) (Va m c) n
  | 0, _ => entry_before hr
  | n + 1, hn => by
    rw [Function.iterate_succ_apply']
    exact step_before ⟨n, hn⟩ (trips_before hr n (by omega))

/-! ## The results -/

theorem y_read (V0 : Valuation τ sig (Elt Ideal)) (r : Fin 16384) (d : Fin 1024) :
    (out_main_v38 V0 : Vec Ideal S16384x1024 .bf16) (ix2 r d)
      = rmsGate (fun x => bout V0 (ix5 ⟨r.val % 8192 / 64, by omega⟩ ⟨r.val / 8192, by omega⟩ ⟨d.val / 128, by omega⟩
          ⟨r.val % 8192 % 64, by omega⟩ x)) ⟨d.val % 128, by omega⟩ ((V0 (Proc.devRef .tc main_arg3) : Vec Ideal S16384x1024 .bf16) (ix2 r d)) := by
  unfold out_main_v38 rmsGate bout
  clean_types
  pointwise

theorem s_read (V0 : Valuation τ sig (Elt Ideal)) (b : Fin 2) (p : Fin 4) (d e : Fin 128) :
    (out_main_v39 V0 : Vec Ideal S2x4x128x128 .f32) (ix4 b p d e)
      = bst V0 (ix4 b ⟨p.val * 2 + d.val / 64, by omega⟩ ⟨d.val % 64, by omega⟩ e) := by
  unfold out_main_v39 bst
  clean_types
  pointwise

theorem ref_y (hr : RealArgs m c) (r : Fin 16384) (d : Fin 1024) :
    (out_main_v38 (STEP^[128] (entryContents preI m c)) : Vec Ideal S16384x1024 .bf16) (ix2 r d)
      = Yval (Qa m c) (Ka m c) (Va m c) r.val (d.val / 128) (Fin.ofNat 128 d.val)
          ((m ((c : Thread nD τ).loc main_arg3) : Vec Ideal S16384x1024 .bf16) (ix2 r d)) := by
  have H := trips_before hr 128 (le_refl _)
  rw [y_read, iter_main_arg3]
  unfold Yval
  refine congrArg (fun o => rmsGate o (Fin.ofNat 128 d.val) ((m ((c : Thread nD τ).loc main_arg3) : Vec Ideal S16384x1024 .bf16) (ix2 r d)))
    (funext fun x => (H.out _ _ _ _ _ (by simp only; omega)).trans ?_)
  simp only [Nat.div_add_mod]

theorem ref_s (hr : RealArgs m c) (b : Fin 2) (p : Fin 4) (d e : Fin 128) :
    (out_main_v39 (STEP^[128] (entryContents preI m c)) : Vec Ideal S2x4x128x128 .f32) (ix4 b p d e)
      = ((St (Ka m c) (Va m c) (8192 * b.val) (2 * p.val + d.val / 64) 8192 (d.val % 64) e.val : ℝ) : EReal) := by
  rw [s_read, (trips_before hr 128 (le_refl _)).st]
  simp only [Nat.mul_comm p.val 2]

end Cert.Retention
-- ==== Proof.Finite.lean ====
/- What the precondition says: every query, key and value is a real number. -/
module

public import proofs.«01_k».proof.Proof.Gen.Pre_finite
public import proofs.«01_k».proof.Proof.Consts
public import proofs.«01_k».proof.Proof.Inputs
public import Idealize.ShloMosaic.Lib.ReduceAll
public import Idealize.ShloMosaic.Lib.Affine
public import Idealize.ShloMosaic.Lib.Pointwise

@[expose] public section

set_option maxRecDepth 16384

noncomputable section

namespace Cert.Retention

open Idealize.ShloMosaic

/-- An extended real whose absolute value is below the infinity is real. -/
theorem real_of_abs (x : EReal) (h : Ideal.cmp .olt (max x (-x)) (Ideal.ofBits .f32 0x7F800000#32) = 1#1) : x ≠ ⊤ ∧ x ≠ ⊥ := by
  rw [Cert.Consts.ofBits_inf] at h
  have h : max x (-x) < ⊤ := by
    by_contra hn
    exact absurd h (by simp only [Ideal.cmp]; rw [decide_eq_false hn]; decide)
  constructor
  · rintro rfl; simp at h
  · rintro rfl; simp at h

open Cert.Pre_finite Cert.Pre_finite.Gen in
/-- The precondition holds of arrays whose first three are real. -/
theorem real_of_finite (q k : FVec Ideal S16384x512 .bf16) (v g : FVec Ideal S16384x1024 .bf16)
    (h : Cert.Pre_finite.fn (F := Ideal) q k v g = fun _ => 1#1) :
    AllReal (fun r d => q (ix2 r d)) ∧ AllReal (fun r d => k (ix2 r d)) ∧ AllReal (fun r d => v (ix2 r d)) := by
  have h0 := congrFun h (Shape.Idx.first h_S_)
  dsimp only [Cert.Pre_finite.fn] at h0
  obtain ⟨h1, hv⟩ := IntOp.andi_eq_one.mp h0
  obtain ⟨hq, hk⟩ := IntOp.andi_eq_one.mp h1
  haveI : Subsingleton S_.Idx := ⟨fun a b => funext fun i => i.elim0⟩
  exact ⟨fun r d => real_of_abs _ (Host.reduce_andi_all _ _ _ _ _ hq (ix2 r d)),
    fun r d => real_of_abs _ (Host.reduce_andi_all _ _ _ _ _ hk (ix2 r d)),
    fun r d => real_of_abs _ (Host.reduce_andi_all _ _ _ _ _ hv (ix2 r d))⟩

end Cert.Retention
-- ==== Proof.InMath.lean ====
/- The input projections as functions of a row: the normalised and modulated row, its product with the weights, and the
   rotary embedding of the heads' queries and keys. -/
module

public import Idealize.ShloMosaic.PureOps.Ideal
public import Idealize.ShloMosaic.Lib.Pointwise.Index

@[expose] public section

noncomputable section

namespace Cert.Projections

open Idealize.ShloMosaic

/-- A row divided by its root mean square, times the gain, modulated by a scale and a shift. -/
def nrow (x g sc sh : Fin 1024 → EReal) (k : Fin 1024) : EReal :=
  x k * Ideal.rsqrt (Ideal.div (∑ l, x l * x l) (Ideal.ofBits .f32 0x44800000#32) + Ideal.ofBits .f32 0x358637BD#32)
    * g k * (1 + sc k) + sh k

/-- A row times column `j` of the weights. -/
def prj (n : Fin 1024 → EReal) (w : Fin 1024 → Fin 6656 → EReal) (j : ℕ) : EReal :=
  ∑ k, n k * w k (Fin.ofNat 6656 j)

/-- Column `d` of the rotated heads: in each head of 64 columns the two halves are turned by the angles whose cosines and
    sines are `C` and `S`. -/
def rope (p : ℕ → EReal) (C S : Fin 32 → EReal) (d : ℕ) : EReal :=
  if d % 64 < 32 then p d * C (Fin.ofNat 32 d) - p (d + 32) * S (Fin.ofNat 32 d)
  else p (d - 32) * S (Fin.ofNat 32 d) + p d * C (Fin.ofNat 32 d)

/-- The attention queries' scale: an eighth over the logarithm of two. -/
def qs : EReal := ((1 / 8 * (Real.log 2)⁻¹ : ℝ) : EReal)

/-- The angle of column `l` of a half head at row `s` of a sequence. -/
def ang (s : Fin 8192) (l : Fin 32) : EReal :=
  (FloatOps.sitofp .f32 (BitVec.ofNat 32 s.val) : Ideal .f32)
    * Ideal.pow (Ideal.ofBits .f32 0x461C4000#32)
      (Ideal.div (-(FloatOps.sitofp .f32 (BitVec.ofNat 32 l.val) : Ideal .f32)) (Ideal.ofBits .f32 0x42000000#32))

/-! ## The projections of the whole input

Row `r` of the results is row `r % 8192` of sequence `r / 8192`. -/

/-- Row `s` of sequence `b`, normalised, modulated and times column `j` of the weights. -/
def projAt {B S : ℕ} (x : Fin B → Fin S → Fin 1024 → EReal) (md : Fin B → Fin 6144 → EReal) (g : Fin 1024 → EReal)
    (w : Fin 1024 → Fin 6656 → EReal) (b : Fin B) (s : Fin S) (j : ℕ) : EReal :=
  prj (nrow (x b s) g (fun k => md b (Fin.ofNat 6144 (1024 + k.val))) (fun k => md b (Fin.ofNat 6144 k.val))) w j

variable (x : Fin 2 → Fin 8192 → Fin 1024 → EReal) (md : Fin 2 → Fin 6144 → EReal) (g : Fin 1024 → EReal)
  (w : Fin 1024 → Fin 6656 → EReal)

/-- The same by the result's row. -/
def proj (r : Fin 16384) (j : ℕ) : EReal := projAt x md g w (Fin.ofNat 2 (r.val / 8192)) (Fin.ofNat 8192 r.val) j

theorem proj_row (b : Fin 2) (s : Fin 8192) (r : Fin 16384) (j : ℕ) (hb : b.val = r.val / 8192) (hs : s.val = r.val % 8192) :
    projAt x md g w b s j = proj x md g w r j := by
  have eb : Fin.ofNat 2 (r.val / 8192) = b := Fin.ext (by show r.val / 8192 % 2 = b.val; omega)
  have es : Fin.ofNat 8192 r.val = s := Fin.ext hs.symm
  unfold proj
  rw [eb, es]

/-- The rotated heads whose projection begins at column `o`. -/
def rotated (o : ℕ) (r : Fin 16384) (d : ℕ) : EReal :=
  rope (fun j => proj x md g w r (o + j)) (fun l => Ideal.cos (ang (Fin.ofNat 8192 r.val) l))
    (fun l => Ideal.sin (ang (Fin.ofNat 8192 r.val) l)) d

/-- The row of the input that row `r` of the kept keys and values comes from: the last 768 rows of each sequence are kept. -/
def kept (r : Fin 1536) : Fin 16384 := ⟨8192 * (r.val / 768) + 7424 + r.val % 768, by omega⟩

end Cert.Projections
-- ==== Proof.InBlock.lean ====
/- What one grid point of the projection kernel writes, as functions of its input blocks' rows. -/
module

public import proofs.«01_k».proof.Proof.InMath
public import proofs.«01_k».proof.Proof.Gen.Kernel2Ideal.Frame
public import Idealize.ShloMosaic.Lib.Pipeline.Value
public import Idealize.ShloMosaic.Lib.Pointwise

@[expose] public section

set_option maxRecDepth 16384

noncomputable section

namespace Cert.Projections

open Idealize.ShloMosaic Idealize.ShloMosaic.TcCoe Idealize.SL.Sem
open Cert.Kernel2Ideal Cert.Kernel2Ideal.Gen

theorem zero2 : (![0, 0] : Fin 2 → Nat) = fun _ => 0 := funext fun a => by fin_cases a <;> rfl

/-! ## Rows times the weights -/

section
variable (X : FVec Ideal S256x1024 .bf16) (x5 : Vec Ideal S1024x6656 .bf16) (n : Fin 1024 → EReal) (i : Fin 256)
  (hX : ∀ k, X (ix2 i k) = n k)
include hX

theorem row_dot (j : ℕ) (hj : j < 6656) :
    (∑ k, X (ix2 i k) * x5 (ix2 k ⟨j, hj⟩) : EReal) = prj n (fun k j => x5 (ix2 k j)) j := by
  unfold prj
  refine Finset.sum_congr rfl fun k _ => ?_
  rw [hX]
  exact congrArg (fun q => _ * x5 (ix2 k q)) (Fin.ext (Nat.mod_eq_of_lt hj).symm)

theorem row_k (d : Fin 512) : k0_pay5 X (View.ld x5 r0_6) (ix2 i d) = prj n (fun k j => x5 (ix2 k j)) (512 + d.val) := by
  unfold k0_pay5
  pointwise
  exact row_dot X x5 n i hX _ (by omega)

theorem row_v (d : Fin 512) : k0_pay7 X (View.ld x5 r0_7) (ix2 i d) = prj n (fun k j => x5 (ix2 k j)) (1024 + d.val) := by
  unfold k0_pay7
  pointwise
  exact row_dot X x5 n i hX _ (by omega)

theorem row_qr (d : Fin 512) : k0_pay13 X (View.ld x5 r0_9) (ix2 i d) = prj n (fun k j => x5 (ix2 k j)) (1536 + d.val) := by
  unfold k0_pay13
  pointwise
  exact row_dot X x5 n i hX _ (by omega)

theorem row_kr (d : Fin 512) : k0_pay19 X (View.ld x5 r0_14) (ix2 i d) = prj n (fun k j => x5 (ix2 k j)) (2048 + d.val) := by
  unfold k0_pay19
  pointwise
  exact row_dot X x5 n i hX _ (by omega)

theorem row_vr (d : Fin 1024) : k0_pay26 X (View.ld x5 r0_15) (ix2 i d) = prj n (fun k j => x5 (ix2 k j)) (2560 + d.val) := by
  unfold k0_pay26
  pointwise
  exact row_dot X x5 n i hX _ (by omega)

theorem row_silu (d : Fin 1024) : k0_pay27 X (View.ld x5 r0_16) (ix2 i d)
    = prj n (fun k j => x5 (ix2 k j)) (3584 + d.val) * Ideal.logistic (prj n (fun k j => x5 (ix2 k j)) (3584 + d.val)) := by
  unfold k0_pay27
  pointwise
  exact congrArg (fun z => z * Ideal.logistic z) (row_dot X x5 n i hX _ (by omega))

theorem row_gate_a (d : Fin 1024) : k0_pay1 (k0_pay28 X (View.ld x5 r0_17)) (ix2 i d)
    = Ideal.logistic (prj n (fun k j => x5 (ix2 k j)) (4608 + d.val)) := by
  unfold k0_pay1 k0_pay28
  pointwise
  exact congrArg Ideal.logistic (row_dot X x5 n i hX _ (by omega))

theorem row_gate_b (d : Fin 1024) : k0_pay2 X (View.ld x5 r0_18) (ix2 i d)
    = Ideal.logistic (prj n (fun k j => x5 (ix2 k j)) (5632 + d.val)) := by
  unfold k0_pay2
  pointwise
  exact congrArg Ideal.logistic (row_dot X x5 n i hX _ (by omega))
end

/-! ## The block's rows -/

variable (x0 : Vec Ideal S256x1024 .f32) (x1 : Vec Ideal S1x6x1x1024 .f32) (x2 : Vec Ideal S1x1024 .f32)
  (x3 x4 : Vec Ideal S256x128 .f32) (x5 : Vec Ideal S1024x6656 .bf16)

/-- Row `i` of the block, normalised and modulated. -/
def bn (i : Fin 256) : Fin 1024 → EReal :=
  nrow (fun k => x0 (ix2 i k)) (fun k => x2 (ix2 0 k)) (fun k => x1 (ix4 0 1 0 k)) (fun k => x1 (ix4 0 0 0 k))

/-- Row `i` of the block times a column of the weights. -/
def bp (i : Fin 256) (j : ℕ) : EReal := prj (bn x0 x1 x2 i) (fun k j => x5 (ix2 k j)) j

theorem norm_apply (i : Fin 256) (k : Fin 1024) : k0_pay29 x0 x1 x2 x3 x4 x5 (ix2 i k) = bn x0 x1 x2 i k := by
  unfold k0_pay29 k0_pay3
  pointwise
  rfl

theorem dot (i : Fin 256) (j : ℕ) (hj : j < 6656) :
    (∑ k, k0_pay29 x0 x1 x2 x3 x4 x5 (ix2 i k) * x5 (ix2 k ⟨j, hj⟩) : EReal) = bp x0 x1 x2 x5 i j :=
  row_dot _ x5 _ i (norm_apply x0 x1 x2 x3 x4 x5 i) j hj

/-! ## The blocks that are a projection, scaled or gated -/

theorem qs_named : (Named.named (F := Ideal) κ "qs" 0x3E38AA3B#32 : Ideal .f32) = qs :=
  (IdealRules.named_const.ideal_named_scalar _ _ _ _ rfl).trans rfl

theorem out6 (i : Fin 256) (d : Fin 512) : out0_6 x0 x1 x2 x3 x4 x5 (ix2 i d) = bp x0 x1 x2 x5 i d.val * qs := by
  unfold out0_6
  rw [View.canon_unit_zero (S := S256x512) zero2]
  unfold k0_pay4
  pointwise
  rw [qs_named]
  exact congrArg (· * qs) (dot x0 x1 x2 x3 x4 x5 i d.val (by omega))

theorem out7 (i : Fin 256) (d : Fin 512) : out0_7 x0 x1 x2 x3 x4 x5 (ix2 i d) = bp x0 x1 x2 x5 i (512 + d.val) := by
  unfold out0_7
  rw [View.canon_unit_zero (S := S256x512) zero2]
  exact row_k _ x5 _ i (norm_apply x0 x1 x2 x3 x4 x5 i) d

theorem out8 (i : Fin 256) (d : Fin 512) : out0_8 x0 x1 x2 x3 x4 x5 (ix2 i d) = bp x0 x1 x2 x5 i (1024 + d.val) := by
  unfold out0_8
  rw [View.canon_unit_zero (S := S256x512) zero2]
  exact row_v _ x5 _ i (norm_apply x0 x1 x2 x3 x4 x5 i) d

theorem out15 (i : Fin 256) (d : Fin 512) : out0_15 x0 x1 x2 x3 x4 x5 (ix2 i d) = bp x0 x1 x2 x5 i (512 + d.val) := by
  unfold out0_15
  rw [View.canon_unit_zero (S := S256x512) zero2]
  exact row_k _ x5 _ i (norm_apply x0 x1 x2 x3 x4 x5 i) d

theorem out16 (i : Fin 256) (d : Fin 512) : out0_16 x0 x1 x2 x3 x4 x5 (ix2 i d) = bp x0 x1 x2 x5 i (1024 + d.val) := by
  unfold out0_16
  rw [View.canon_unit_zero (S := S256x512) zero2]
  exact row_v _ x5 _ i (norm_apply x0 x1 x2 x3 x4 x5 i) d

theorem out11 (i : Fin 256) (d : Fin 1024) : out0_11 x0 x1 x2 x3 x4 x5 (ix2 i d) = bp x0 x1 x2 x5 i (2560 + d.val) := by
  unfold out0_11
  rw [View.canon_unit_zero (S := S256x1024) zero2]
  exact row_vr _ x5 _ i (norm_apply x0 x1 x2 x3 x4 x5 i) d

theorem out12 (i : Fin 256) (d : Fin 1024) : out0_12 x0 x1 x2 x3 x4 x5 (ix2 i d)
    = bp x0 x1 x2 x5 i (3584 + d.val) * Ideal.logistic (bp x0 x1 x2 x5 i (3584 + d.val)) := by
  unfold out0_12
  rw [View.canon_unit_zero (S := S256x1024) zero2]
  exact row_silu _ x5 _ i (norm_apply x0 x1 x2 x3 x4 x5 i) d

theorem out13 (i : Fin 256) (d : Fin 1024) :
    out0_13 x0 x1 x2 x3 x4 x5 (ix2 i d) = Ideal.logistic (bp x0 x1 x2 x5 i (4608 + d.val)) := by
  unfold out0_13
  rw [View.canon_unit_zero (S := S256x1024) zero2]
  exact row_gate_a _ x5 _ i (norm_apply x0 x1 x2 x3 x4 x5 i) d

theorem out14 (i : Fin 256) (d : Fin 1024) :
    out0_14 x0 x1 x2 x3 x4 x5 (ix2 i d) = Ideal.logistic (bp x0 x1 x2 x5 i (5632 + d.val)) := by
  unfold out0_14
  rw [View.canon_unit_zero (S := S256x1024) zero2]
  exact row_gate_b _ x5 _ i (norm_apply x0 x1 x2 x3 x4 x5 i) d

end Cert.Projections
-- ==== Proof.InRope.lean ====
/- The two output blocks of the projection kernel that hold rotated heads: the retention queries and keys. -/
module

public import proofs.«01_k».proof.Proof.InBlock

@[expose] public section

set_option maxRecDepth 16384

noncomputable section

namespace Cert.Projections

open Idealize.ShloMosaic Idealize.ShloMosaic.TcCoe Idealize.SL.Sem
open Cert.Kernel2Ideal Cert.Kernel2Ideal.Gen

/-! ## The lanes of a head's first half -/

/-- The mask marks the lanes that lie in the first half of their head. -/
theorem half_mask (i : Fin 256) (l : Fin 128) :
    k0_pay12 k0_pay11 32#32 (ix2 i l) = if l.val % 64 < 32 then 1#1 else 0#1 := by
  unfold k0_pay12 k0_pay11
  pointwise
  revert l
  decide +kernel

/-! ## One piece of 128 columns -/

variable (b : BitVec 32) (C S : FVec Ideal S256x128 .f32) (X : FVec Ideal S256x512 .f32)

/-- Two heads' columns, from column `o` on, rotated and scaled. -/
def piece (o : ℕ) (hs : S256x512.Slices ![0, o] S256x128) : FVec Ideal S256x128 .bf16 :=
  let s : FVec Ideal S256x128 .f32 := extractStridedSlice S256x128 ![0, o] X hs
  let r : FVec Ideal S256x128 .f32 := select (k0_pay12 k0_pay11 32#32) (dynamicRotate 1 96#32 none s rotates_S256x128_d1)
    (dynamicRotate 1 32#32 none s rotates_S256x128_d1)
  truncf .bf16 (mulf (addf (mulf s C) (mulf r S)) (broadcast S256x128 (Scalar.ofBits .f32 b))) bitsLt_bf16_f32

/-- Column `d` of the rotated and scaled block. -/
def turned (i : Fin 256) (d : Fin 512) : EReal :=
  (X (ix2 i d) * C (ix2 i (Fin.ofNat 128 d.val))
    + (if d.val % 64 < 32 then X (ix2 i (Fin.ofNat 512 (d.val + 32))) else X (ix2 i (Fin.ofNat 512 (d.val - 32))))
      * S (ix2 i (Fin.ofNat 128 d.val))) * Ideal.ofBits .f32 b

theorem piece_apply (q : Fin 4) (hs : S256x512.Slices ![0, 128 * q.val] S256x128) (i : Fin 256) (l : Fin 128) :
    piece b C S X (128 * q.val) hs (ix2 i l) = turned b C S X i ⟨128 * q.val + l.val, by omega⟩ := by
  unfold piece turned
  pointwise
  rw [half_mask]
  have el : (Fin.ofNat 128 (128 * q.val + l.val)) = l := Fin.ext (by show (128 * q.val + l.val) % 128 = l.val; omega)
  have em : (128 * q.val + l.val) % 64 = l.val % 64 := by omega
  rw [el, em]
  have X_at : ∀ n n' (h : n < 512) (h' : n' < 512), n = n' → X (ix2 i ⟨n, h⟩) = X (ix2 i ⟨n', h'⟩) := fun n n' h h' e => by subst e; rfl
  by_cases h : l.val % 64 < 32
  · rw [if_pos h, if_pos h]
    exact congrArg (fun z => (_ + z * _) * _) (X_at _ _ _ _ (by omega))
  · rw [if_neg h, if_neg h]
    exact congrArg (fun z => (_ + z * _) * _) (X_at _ _ _ _ (by omega))

/-- Four pieces side by side make up the rotated block. -/
theorem four_pieces (w0 w1 w2 w3 : FVec Ideal S256x128 .bf16)
    (h0 : w0 = piece b C S X 0 slices_S256x512_o0_0_S256x128) (h1 : w1 = piece b C S X 128 slices_S256x512_o0_128_S256x128)
    (h2 : w2 = piece b C S X 256 slices_S256x512_o0_256_S256x128) (h3 : w3 = piece b C S X 384 slices_S256x512_o0_384_S256x128)
    (i : Fin 256) (d : Fin 512) :
    View.canon (Val := Elt Ideal) (s := S256x512) (e := .bf16) [⟨r0_13, w3⟩, ⟨r0_12, w2⟩, ⟨r0_11, w1⟩, ⟨r0_10, w0⟩] (ix2 i d)
      = turned b C S X i d := by
  have step : ∀ (q : Fin 4) (hs) (inb) (x : (Rect.unit (s := S256x512) ![0, 128 * q.val] S256x128.size inb).shape.Idx),
      piece b C S X (128 * q.val) hs x = (fun y : S256x512.Idx => turned b C S X (y 0) (y 1))
        ((Rect.unit (s := S256x512) ![0, 128 * q.val] S256x128.size inb).emb x) := fun q hs inb x => by
    have ex : x = ix2 (x 0) (x 1) := eq_ix2 (n0 := 256) (n1 := 128) x
    rw [ex]
    refine (piece_apply b C S X q hs (x 0) (x 1)).trans ?_
    refine congrArg₂ (turned b C S X) (Fin.ext ?_) (Fin.ext ?_)
    · show (x 0).val = 0 + 1 * (x 0).val; omega
    · show 128 * q.val + (x 1).val = 128 * q.val + 1 * (x 1).val; omega
  subst h0 h1 h2 h3
  refine View.canon_apply_of_pieces (Val := Elt Ideal) (S := S256x512) (e := .bf16) (fun y => turned b C S X (y 0) (y 1)) _ ?_ (ix2 i d)
    (View.cover_of_tiledL _ ![256, 128] (by sl_kernel_rfl) _)
  simp only [List.forall_mem_cons, List.not_mem_nil, false_imp_iff, implies_true, and_true]
  exact ⟨step 3 _ _, step 2 _ _, step 1 _ _, step 0 _ _⟩

/-! ## The rotated blocks -/

variable (x0 : Vec Ideal S256x1024 .f32) (x1 : Vec Ideal S1x6x1x1024 .f32) (x2 : Vec Ideal S1x1024 .f32)
  (x3 x4 : Vec Ideal S256x128 .f32) (x5 : Vec Ideal S1024x6656 .bf16)

theorem out9 (i : Fin 256) (d : Fin 512) : out0_9 x0 x1 x2 x3 x4 x5 (ix2 i d)
    = turned 0x3F800000#32 x3 x4 (k0_pay13 (k0_pay29 x0 x1 x2 x3 x4 x5) (View.ld x5 r0_9)) i d := by
  have e3 : k0_pay30 x0 x1 x2 x3 x4 x5 = x3 := by
    unfold k0_pay30 k0_pay9; rw [View.ld_unit_zero (S := S256x128) zero2]; simp only [shapeCast_self]
  have e4 : k0_pay31 x0 x1 x2 x3 x4 x5 = x4 := by
    unfold k0_pay31 k0_pay10; rw [View.ld_unit_zero (S := S256x128) zero2]; simp only [shapeCast_self]
  unfold out0_9
  rw [e3, e4]
  exact four_pieces _ _ _ _ _ _ _ _ rfl rfl rfl rfl i d

theorem out10 (i : Fin 256) (d : Fin 512) : out0_10 x0 x1 x2 x3 x4 x5 (ix2 i d)
    = turned 0x3E000000#32 x3 x4 (k0_pay19 (k0_pay29 x0 x1 x2 x3 x4 x5) (View.ld x5 r0_14)) i d := by
  have e3 : k0_pay30 x0 x1 x2 x3 x4 x5 = x3 := by
    unfold k0_pay30 k0_pay9; rw [View.ld_unit_zero (S := S256x128) zero2]; simp only [shapeCast_self]
  have e4 : k0_pay31 x0 x1 x2 x3 x4 x5 = x4 := by
    unfold k0_pay31 k0_pay10; rw [View.ld_unit_zero (S := S256x128) zero2]; simp only [shapeCast_self]
  unfold out0_10
  rw [e3, e4]
  exact four_pieces _ _ _ _ _ _ _ _ rfl rfl rfl rfl i d

/-- A rotated block, where the projection is `p` and the tables repeat a half head's cosines and signed sines. -/
theorem turned_rope (p : ℕ → EReal) (c s : Fin 32 → EReal) (i : Fin 256)
    (hX : ∀ d : Fin 512, X (ix2 i d) = p d.val) (hC : ∀ l : Fin 128, C (ix2 i l) = c (Fin.ofNat 32 l.val))
    (hS : ∀ l : Fin 128, S (ix2 i l) = if l.val % 64 < 32 then -s (Fin.ofNat 32 l.val) else s (Fin.ofNat 32 l.val))
    (d : Fin 512) : turned b C S X i d = rope p c s d.val * Ideal.ofBits .f32 b := by
  have e32 : (Fin.ofNat 32 (Fin.ofNat 128 d.val).val) = Fin.ofNat 32 d.val :=
    Fin.ext (by show d.val % 128 % 32 = d.val % 32; omega)
  have e64 : (Fin.ofNat 128 d.val).val % 64 = d.val % 64 := by show d.val % 128 % 64 = _; omega
  unfold turned rope
  rw [hX, hX, hX, hC, hS, e32, e64]
  by_cases h : d.val % 64 < 32
  · have e : (Fin.ofNat 512 (d.val + 32)).val = d.val + 32 := by show (d.val + 32) % 512 = _; omega
    rw [if_pos h, if_pos h, if_pos h, e, mul_neg, ← sub_eq_add_neg]
  · have e : (Fin.ofNat 512 (d.val - 32)).val = d.val - 32 := by show (d.val - 32) % 512 = _; omega
    rw [if_neg h, if_neg h, if_neg h, e, add_comm]

end Cert.Projections
-- ==== Proof.InRun.lean ====
/- The projection kernel's run: its input blocks as rows of the arguments, and its eleven result arrays. -/
module

public import proofs.«01_k».proof.Proof.InRope
public import proofs.«01_k».proof.Proof.Inputs
public import proofs.«01_k».proof.Proof.Gen.Kernel2Ideal.Value
public import Idealize.ShloMosaic.Lib.Pipeline.ValueKit
public import Idealize.ShloMosaic.Lib.StableHlo.RunRead

@[expose] public section

set_option maxRecDepth 16384

noncomputable section

namespace Cert.Projections

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-! ## The arguments -/

def ax (b : Fin 2) (s : Fin 8192) (k : Fin 1024) : EReal := (m ((c : Thread nD τ).loc main_arg0) : Vec Ideal S2x8192x1024 .f32) (ix3 b s k)
def amd (b : Fin 2) (k : Fin 6144) : EReal := (m ((c : Thread nD τ).loc main_arg1) : Vec Ideal S2x6144 .f32) (ix2 b k)
def ag (k : Fin 1024) : EReal := (m ((c : Thread nD τ).loc main_arg2) : Vec Ideal S1024 .f32) (ix1 k)
def aw (k : Fin 1024) (j : Fin 6656) : EReal := (m ((c : Thread nD τ).loc main_arg3) : Vec Ideal S1024x6656 .f32) (ix2 k j)

/-! ## The arrays the kernel is called with -/

theorem V_x (r : Fin 16384) (k : Fin 1024) :
    V m c main_v19 (ix2 r k) = ax m c (Fin.ofNat 2 (r.val / 8192)) (Fin.ofNat 8192 r.val) k := by
  entry_read
  pointwise
  exact congrArg (fun b => (m ((c : Thread nD τ).loc main_arg0) : Vec Ideal S2x8192x1024 .f32) (ix3 b _ k))
    (Fin.ext (Nat.mod_eq_of_lt (by omega)).symm)

theorem V_md (b : Fin 2) (o : Fin 6) (k : Fin 1024) :
    V m c main_v0 (ix4 b o 0 k) = amd m c b (Fin.ofNat 6144 (o.val * 1024 + k.val)) := by
  entry_read
  pointwise
  exact congrArg (fun j => (m ((c : Thread nD τ).loc main_arg1) : Vec Ideal S2x6144 .f32) (ix2 b j))
    (Fin.ext (Nat.mod_eq_of_lt (by omega)).symm)

theorem V_g (k : Fin 1024) : V m c main_v20 (ix2 0 k) = ag m c k := by
  entry_read
  pointwise
  rfl

theorem V_w (k : Fin 1024) (j : Fin 6656) : V m c main_v21 (ix2 k j) = aw m c k j := by
  entry_read
  pointwise
  rfl

/-- The table of angles. -/
def angT : FVec Ideal S8192x32 .f32 :=
  mulf (broadcastInDim S8192x32 ![0, 1] bcast_S8192x1_S8192x32_0_1 (broadcastInDim S8192x1 ![0] bcast_S8192_S8192x1_0
      (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angT_apply (s : Fin 8192) (l : Fin 32) : angT (ix2 s l) = ang s l := by
  unfold angT
  pointwise
  rfl

/-- Four tables of 32 columns side by side. -/
def cat4 (a b c d : FVec Ideal S8192x32 .f32) : FVec Ideal S8192x128 .f32 :=
  concatenate S8192x128 1 [⟨S8192x32, a⟩, ⟨S8192x32, b⟩, ⟨S8192x32, c⟩, ⟨S8192x32, d⟩]
    concatenates_S8192x32_S8192x32_S8192x32_S8192x32_S8192x128_d1

theorem cat4_apply (a b : FVec Ideal S8192x32 .f32) (s : Fin 8192) (l : Fin 128) :
    cat4 a b a b (ix2 s l) = if l.val % 64 < 32 then a (ix2 s (Fin.ofNat 32 l.val)) else b (ix2 s (Fin.ofNat 32 l.val)) := by
  have at_ : ∀ (z : FVec Ideal S8192x32 .f32) n (h : n < 32), n = l.val % 32 → z (ix2 s ⟨n, h⟩) = z (ix2 s (Fin.ofNat 32 l.val)) :=
    fun z n h e => congrArg (fun q => z (ix2 s q)) (Fin.ext e)
  unfold cat4
  pointwise
  by_cases h : l.val % 64 < 32
  · rw [if_pos h]
    split_ifs <;> first | omega | (refine at_ _ _ _ ?_; omega)
  · rw [if_neg h]
    split_ifs <;> first | omega | (refine at_ _ _ _ ?_; omega)

theorem V_cos (s : Fin 8192) (l : Fin 128) : V m c main_v15 (ix2 s l) = Ideal.cos (ang s (Fin.ofNat 32 l.val)) := by
  have e : V m c main_v15 = cat4 (Host.cos angT) (Host.cos angT) (Host.cos angT) (Host.cos angT) := by
    unfold V hostOps0
    after_reads_simp
    rfl
  have h : ∀ l, (Host.cos angT : FVec Ideal S8192x32 .f32) (ix2 s l) = Ideal.cos (ang s l) := fun l => by
    pointwise
    rw [angT_apply]
  rw [e, cat4_apply, h, ite_self]

theorem V_sin (s : Fin 8192) (l : Fin 128) : V m c main_v18 (ix2 s l)
    = if l.val % 64 < 32 then -Ideal.sin (ang s (Fin.ofNat 32 l.val)) else Ideal.sin (ang s (Fin.ofNat 32 l.val)) := by
  have e : V m c main_v18 = cat4 (Host.negf (Host.sin angT)) (Host.sin angT) (Host.negf (Host.sin angT)) (Host.sin angT) := by
    unfold V hostOps0
    after_reads_simp
    rfl
  have h : ∀ l, (Host.sin angT : FVec Ideal S8192x32 .f32) (ix2 s l) = Ideal.sin (ang s l) := fun l => by
    pointwise
    rw [angT_apply]
  have h' : ∀ l, (Host.negf (Host.sin angT) : FVec Ideal S8192x32 .f32) (ix2 s l) = -Ideal.sin (ang s l) := fun l => by
    pointwise
    rw [angT_apply]
  rw [e, cat4_apply, h, h']

/-! ## The input blocks -/

theorem pt_lt (t : Fin cfg0.N) : t.val < 64 := lt_of_lt_of_eq t.isLt (show cfg0.N = 64 from N_0)

/-- Row `i` of the block of grid point `t`, as a row of the array. -/
abbrev rowOf (t : Fin cfg0.N) (i : Fin 256) : Fin 16384 := ⟨256 * t.val + i.val, by have := pt_lt t; omega⟩

theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 4) = t.val / 32 ∧ win0_1.index t (1 : Fin 4) = 0
    ∧ win0_1.index t (2 : Fin 4) = 0 ∧ win0_1.index t (3 : Fin 4) = 0 :=
  (by decide +kernel : ∀ t : Fin grid0.N, _)
theorem idx_in2 : ∀ t : Fin cfg0.N, win0_2.index t (0 : Fin 2) = 0 ∧ win0_2.index t (1 : Fin 2) = 0 :=
  (by decide +kernel : ∀ t : Fin grid0.N, _)
theorem idx_in3 : ∀ t : Fin cfg0.N, win0_3.index t (0 : Fin 2) = t.val % 32 ∧ win0_3.index t (1 : Fin 2) = 0 :=
  (by decide +kernel : ∀ t : Fin grid0.N, _)
theorem idx_in4 : ∀ t : Fin cfg0.N, win0_4.index t (0 : Fin 2) = t.val % 32 ∧ win0_4.index t (1 : Fin 2) = 0 :=
  (by decide +kernel : ∀ t : Fin grid0.N, _)
theorem idx_in5 : ∀ t : Fin cfg0.N, win0_5.index t (0 : Fin 2) = 0 ∧ win0_5.index t (1 : Fin 2) = 0 :=
  (by decide +kernel : ∀ t : Fin grid0.N, _)

theorem blk0 (t : Fin cfg0.N) (i : Fin 256) (k : Fin 1024) : iblk m c 0 t (ix2 i k) = V m c main_v19 (ix2 (rowOf t i) k) := by
  blk_point [iblk, idx_in0 t]
theorem blk1 (t : Fin cfg0.N) (o : Fin 6) (k : Fin 1024) :
    iblk m c 1 t (ix4 0 o 0 k) = V m c main_v0 (ix4 (⟨t.val / 32, by have := pt_lt t; omega⟩ : Fin 2) o 0 k) := by
  blk_point [iblk, idx_in1 t]
theorem blk2 (t : Fin cfg0.N) (k : Fin 1024) : iblk m c 2 t (ix2 0 k) = V m c main_v20 (ix2 0 k) := by
  blk_point [iblk, idx_in2 t]
theorem blk3 (t : Fin cfg0.N) (i : Fin 256) (l : Fin 128) :
    iblk m c 3 t (ix2 i l) = V m c main_v15 (ix2 (⟨256 * (t.val % 32) + i.val, by omega⟩ : Fin 8192) l) := by
  blk_point [iblk, idx_in3 t]
theorem blk4 (t : Fin cfg0.N) (i : Fin 256) (l : Fin 128) :
    iblk m c 4 t (ix2 i l) = V m c main_v18 (ix2 (⟨256 * (t.val % 32) + i.val, by omega⟩ : Fin 8192) l) := by
  blk_point [iblk, idx_in4 t]
theorem blk5 (t : Fin cfg0.N) (k : Fin 1024) (j : Fin 6656) : iblk m c 5 t (ix2 k j) = V m c main_v21 (ix2 k j) := by
  blk_point [iblk, idx_in5 t]

/-! ## A grid point's rows -/

/-- The projection of row `r`. -/
abbrev pr (r : Fin 16384) (j : ℕ) : EReal := proj (ax m c) (amd m c) (ag m c) (aw m c) r j

/-- The rotated heads of row `r`, from column `o` of the projection on. -/
abbrev rot (o : ℕ) (r : Fin 16384) (d : ℕ) : EReal := rotated (ax m c) (amd m c) (ag m c) (aw m c) o r d

theorem bp_row (t : Fin cfg0.N) (i : Fin 256) (j : ℕ) :
    bp (iblk m c 0 t) (iblk m c 1 t) (iblk m c 2 t) (iblk m c 5 t) i j = pr m c (rowOf t i) j := by
  have := pt_lt t
  have eb : (⟨t.val / 32, by omega⟩ : Fin 2) = Fin.ofNat 2 ((rowOf t i).val / 8192) :=
    Fin.ext (by show t.val / 32 = (256 * t.val + i.val) / 8192 % 2; omega)
  unfold bp bn pr proj projAt
  congr 1
  · congr 1 <;> funext k
    · rw [blk0, V_x]
    · rw [blk2, V_g]
    · rw [blk1, V_md, eb]; rfl
    · rw [blk1, V_md, eb]; exact congrArg (fun n => amd m c _ (Fin.ofNat 6144 n)) (by show 0 * 1024 + k.val = k.val; omega)
  · funext k j
    rw [blk5, V_w]

theorem seq_row (t : Fin cfg0.N) (i : Fin 256) :
    (⟨256 * (t.val % 32) + i.val, by omega⟩ : Fin 8192) = Fin.ofNat 8192 (rowOf t i).val :=
  Fin.ext (by show 256 * (t.val % 32) + i.val = (256 * t.val + i.val) % 8192; omega)

theorem turned_row (b : BitVec 32) (X : FVec Ideal S256x512 .f32) (o : ℕ) (t : Fin cfg0.N) (i : Fin 256)
    (hX : ∀ d : Fin 512, X (ix2 i d) = bp (iblk m c 0 t) (iblk m c 1 t) (iblk m c 2 t) (iblk m c 5 t) i (o + d.val)) (d : Fin 512) :
    turned b (iblk m c 3 t) (iblk m c 4 t) X i d = rot m c o (rowOf t i) d.val * Ideal.ofBits .f32 b := by
  refine turned_rope b _ _ X _ _ _ i (fun d => (hX d).trans (bp_row m c t i _)) (fun l => ?_) (fun l => ?_) d
  · rw [blk3, V_cos, seq_row]
  · rw [blk4, V_sin, seq_row]

end Cert.Projections
-- ==== Proof.InOut.lean ====
/- The eleven result arrays of the projection kernel, entry by entry. -/
module

public import proofs.«01_k».proof.Proof.InRun

@[expose] public section

set_option maxRecDepth 16384

noncomputable section

namespace Cert.Projections

open Idealize.ShloMosaic Idealize.ShloMosaic.TcCoe Idealize.SL.Sem
open Cert.Kernel2Ideal Cert.Kernel2Ideal.Gen

/-! ## Which block a grid point writes

Grid point `t` writes block `t` of nine results. Of the kept keys and values it writes block `t % 32 - 29` of the three
blocks of its sequence, and the last write of each is the one that stays. -/

theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = 3 * (t.val / 32) + (t.val % 32 - 29)
    ∧ win0_15.index t (1 : Fin 2) = 0 :=
  (by decide +kernel : ∀ t : Fin grid0.N, _)
theorem flush15 : ∀ t : Fin cfg0.N, (cfg0.win 15).flush t = true ↔ 29 ≤ t.val % 32 :=
  (by decide +kernel : ∀ t : Fin grid0.N, _)
theorem idx16 : ∀ t : Fin cfg0.N, win0_16.index t (0 : Fin 2) = 3 * (t.val / 32) + (t.val % 32 - 29)
    ∧ win0_16.index t (1 : Fin 2) = 0 :=
  (by decide +kernel : ∀ t : Fin grid0.N, _)
theorem flush16 : ∀ t : Fin cfg0.N, (cfg0.win 16).flush t = true ↔ 29 ≤ t.val % 32 :=
  (by decide +kernel : ∀ t : Fin grid0.N, _)

/-- Two grid points that write back at the ends of their runs write different blocks. -/
theorem kept_inj (t t' : Fin cfg0.N) (h : 29 ≤ t.val % 32) (h' : 29 ≤ t'.val % 32)
    (e : 3 * (t.val / 32) + (t.val % 32 - 29) = 3 * (t'.val / 32) + (t'.val % 32 - 29)) : t = t' := Fin.ext (by omega)

theorem disj15 (t t' : Fin cfg0.N) (h : (cfg0.win 15).flush t = true) (h' : (cfg0.win 15).flush t' = true) (hne : t ≠ t') :
    Disjoint ((cfg0.win 15).blk t).view.set ((cfg0.win 15).blk t').view.set :=
  (cfg0.win 15).disjoint_blk fun e => hne (kept_inj t t' ((flush15 t).mp h) ((flush15 t').mp h')
    ((idx15 t).1.symm.trans ((congrFun e (0 : Fin 2)).trans (idx15 t').1)))

theorem disj16 (t t' : Fin cfg0.N) (h : (cfg0.win 16).flush t = true) (h' : (cfg0.win 16).flush t' = true) (hne : t ≠ t') :
    Disjoint ((cfg0.win 16).blk t).view.set ((cfg0.win 16).blk t').view.set :=
  (cfg0.win 16).disjoint_blk fun e => hne (kept_inj t t' ((flush16 t).mp h) ((flush16 t').mp h')
    ((idx16 t).1.symm.trans ((congrFun e (0 : Fin 2)).trans (idx16 t').1)))

/-- Every row lies in some grid point's block. -/
theorem row_cases (r : Fin 16384) : ∃ (t : Fin cfg0.N) (i : Fin 256), r = rowOf t i :=
  ⟨⟨r.val / 256, lt_of_lt_of_eq (by omega) N_0.symm⟩, ⟨r.val % 256, by omega⟩,
    Fin.ext (by show r.val = 256 * (r.val / 256) + r.val % 256; omega)⟩

/-- Row `i` of the kept block that grid point `t` writes last, as a row of the kept keys and values. -/
abbrev keptRow (t : Fin cfg0.N) (ht : 29 ≤ t.val % 32) (i : Fin 256) : Fin 1536 :=
  ⟨256 * (3 * (t.val / 32) + (t.val % 32 - 29)) + i.val, by have := pt_lt t; omega⟩

theorem kept_row (t : Fin cfg0.N) (ht : 29 ≤ t.val % 32) (i : Fin 256) : kept (keptRow t ht i) = rowOf t i :=
  Fin.ext (by
    show 8192 * ((256 * (3 * (t.val / 32) + (t.val % 32 - 29)) + i.val) / 768) + 7424
      + (256 * (3 * (t.val / 32) + (t.val % 32 - 29)) + i.val) % 768 = 256 * t.val + i.val
    have := pt_lt t
    omega)

theorem kept_cases (r : Fin 1536) : ∃ (t : Fin cfg0.N) (ht : 29 ≤ t.val % 32) (i : Fin 256), r = keptRow t ht i :=
  ⟨⟨32 * (r.val / 768) + 29 + r.val % 768 / 256, lt_of_lt_of_eq (by omega) N_0.symm⟩, by
    show 29 ≤ (32 * (r.val / 768) + 29 + r.val % 768 / 256) % 32; omega,
    ⟨r.val % 256, by omega⟩, Fin.ext (by
      show r.val = 256 * (3 * ((32 * (r.val / 768) + 29 + r.val % 768 / 256) / 32)
        + ((32 * (r.val / 768) + 29 + r.val % 768 / 256) % 32 - 29)) + r.val % 256
      omega)⟩

/-! ## The results -/

variable (m : (ℓ : Loc nD τ sig) → Buf (Elt Ideal) ℓ) (c : Dev nD)

/-- The scaled attention queries. -/
theorem arr6 (r : Fin 16384) (d : Fin 512) : (dats m 0 c).arrAt 6 cfg0.N (ix2 r d)
    = pr m c r d.val * qs := by
  obtain ⟨t, i, rfl⟩ := row_cases r
  have e : ((cfg0.win 6).blk t).view.read (Elt Ideal) ((dats m 0 c).arrAt 6 cfg0.N) (ix2 i d)
      = (dats m 0 c).arrAt 6 cfg0.N (ix2 (rowOf t i) d) := by
    blk_point [idx6 t]
  refine e.symm.trans ((congrFun ((Value.blocks6 m c t (flush0_6 t)).trans (Value.flushed6 m c t)) (ix2 i d)).trans ?_)
  refine (out6 _ _ _ _ _ _ i d).trans ?_
  rw [bp_row]

/-- The attention keys. -/
theorem arr7 (r : Fin 16384) (d : Fin 512) : (dats m 0 c).arrAt 7 cfg0.N (ix2 r d)
    = pr m c r (512 + d.val) := by
  obtain ⟨t, i, rfl⟩ := row_cases r
  have e : ((cfg0.win 7).blk t).view.read (Elt Ideal) ((dats m 0 c).arrAt 7 cfg0.N) (ix2 i d)
      = (dats m 0 c).arrAt 7 cfg0.N (ix2 (rowOf t i) d) := by
    blk_point [idx7 t]
  refine e.symm.trans ((congrFun ((Value.blocks7 m c t (flush0_7 t)).trans (Value.flushed7 m c t)) (ix2 i d)).trans ?_)
  refine (out7 _ _ _ _ _ _ i d).trans ?_
  rw [bp_row]

/-- The attention values. -/
theorem arr8 (r : Fin 16384) (d : Fin 512) : (dats m 0 c).arrAt 8 cfg0.N (ix2 r d)
    = pr m c r (1024 + d.val) := by
  obtain ⟨t, i, rfl⟩ := row_cases r
  have e : ((cfg0.win 8).blk t).view.read (Elt Ideal) ((dats m 0 c).arrAt 8 cfg0.N) (ix2 i d)
      = (dats m 0 c).arrAt 8 cfg0.N (ix2 (rowOf t i) d) := by
    blk_point [idx8 t]
  refine e.symm.trans ((congrFun ((Value.blocks8 m c t (flush0_8 t)).trans (Value.flushed8 m c t)) (ix2 i d)).trans ?_)
  refine (out8 _ _ _ _ _ _ i d).trans ?_
  rw [bp_row]

/-- The retention queries, rotated. -/
theorem arr9 (r : Fin 16384) (d : Fin 512) : (dats m 0 c).arrAt 9 cfg0.N (ix2 r d)
    = rot m c 1536 r d.val * Ideal.ofBits .f32 0x3F800000#32 := by
  obtain ⟨t, i, rfl⟩ := row_cases r
  have e : ((cfg0.win 9).blk t).view.read (Elt Ideal) ((dats m 0 c).arrAt 9 cfg0.N) (ix2 i d)
      = (dats m 0 c).arrAt 9 cfg0.N (ix2 (rowOf t i) d) := by
    blk_point [idx9 t]
  refine e.symm.trans ((congrFun ((Value.blocks9 m c t (flush0_9 t)).trans (Value.flushed9 m c t)) (ix2 i d)).trans ?_)
  refine (out9 _ _ _ _ _ _ i d).trans (turned_row m c _ _ 1536 t i
    (fun d => row_qr _ _ _ i (norm_apply _ _ _ _ _ _ i) d) d)

/-- The retention keys, rotated and scaled by an eighth. -/
theorem arr10 (r : Fin 16384) (d : Fin 512) : (dats m 0 c).arrAt 10 cfg0.N (ix2 r d)
    = rot m c 2048 r d.val * Ideal.ofBits .f32 0x3E000000#32 := by
  obtain ⟨t, i, rfl⟩ := row_cases r
  have e : ((cfg0.win 10).blk t).view.read (Elt Ideal) ((dats m 0 c).arrAt 10 cfg0.N) (ix2 i d)
      = (dats m 0 c).arrAt 10 cfg0.N (ix2 (rowOf t i) d) := by
    blk_point [idx10 t]
  refine e.symm.trans ((congrFun ((Value.blocks10 m c t (flush0_10 t)).trans (Value.flushed10 m c t)) (ix2 i d)).trans ?_)
  refine (out10 _ _ _ _ _ _ i d).trans (turned_row m c _ _ 2048 t i
    (fun d => row_kr _ _ _ i (norm_apply _ _ _ _ _ _ i) d) d)

/-- The retention values. -/
theorem arr11 (r : Fin 16384) (d : Fin 1024) : (dats m 0 c).arrAt 11 cfg0.N (ix2 r d)
    = pr m c r (2560 + d.val) := by
  obtain ⟨t, i, rfl⟩ := row_cases r
  have e : ((cfg0.win 11).blk t).view.read (Elt Ideal) ((dats m 0 c).arrAt 11 cfg0.N) (ix2 i d)
      = (dats m 0 c).arrAt 11 cfg0.N (ix2 (rowOf t i) d) := by
    blk_point [idx11 t]
  refine e.symm.trans ((congrFun ((Value.blocks11 m c t (flush0_11 t)).trans (Value.flushed11 m c t)) (ix2 i d)).trans ?_)
  refine (out11 _ _ _ _ _ _ i d).trans ?_
  rw [bp_row]

/-- The retention's gate. -/
theorem arr12 (r : Fin 16384) (d : Fin 1024) : (dats m 0 c).arrAt 12 cfg0.N (ix2 r d)
    = pr m c r (3584 + d.val) * Ideal.logistic (pr m c r (3584 + d.val)) := by
  obtain ⟨t, i, rfl⟩ := row_cases r
  have e : ((cfg0.win 12).blk t).view.read (Elt Ideal) ((dats m 0 c).arrAt 12 cfg0.N) (ix2 i d)
      = (dats m 0 c).arrAt 12 cfg0.N (ix2 (rowOf t i) d) := by
    blk_point [idx12 t]
  refine e.symm.trans ((congrFun ((Value.blocks12 m c t (flush0_12 t)).trans (Value.flushed12 m c t)) (ix2 i d)).trans ?_)
  refine (out12 _ _ _ _ _ _ i d).trans ?_
  rw [bp_row]

/-- The attention's output gate. -/
theorem arr13 (r : Fin 16384) (d : Fin 1024) : (dats m 0 c).arrAt 13 cfg0.N (ix2 r d)
    = Ideal.logistic (pr m c r (4608 + d.val)) := by
  obtain ⟨t, i, rfl⟩ := row_cases r
  have e : ((cfg0.win 13).blk t).view.read (Elt Ideal) ((dats m 0 c).arrAt 13 cfg0.N) (ix2 i d)
      = (dats m 0 c).arrAt 13 cfg0.N (ix2 (rowOf t i) d) := by
    blk_point [idx13 t]
  refine e.symm.trans ((congrFun ((Value.blocks13 m c t (flush0_13 t)).trans (Value.flushed13 m c t)) (ix2 i d)).trans ?_)
  refine (out13 _ _ _ _ _ _ i d).trans ?_
  rw [bp_row]

/-- The retention's output gate. -/
theorem arr14 (r : Fin 16384) (d : Fin 1024) : (dats m 0 c).arrAt 14 cfg0.N (ix2 r d)
    = Ideal.logistic (pr m c r (5632 + d.val)) := by
  obtain ⟨t, i, rfl⟩ := row_cases r
  have e : ((cfg0.win 14).blk t).view.read (Elt Ideal) ((dats m 0 c).arrAt 14 cfg0.N) (ix2 i d)
      = (dats m 0 c).arrAt 14 cfg0.N (ix2 (rowOf t i) d) := by
    blk_point [idx14 t]
  refine e.symm.trans ((congrFun ((Value.blocks14 m c t (flush0_14 t)).trans (Value.flushed14 m c t)) (ix2 i d)).trans ?_)
  refine (out14 _ _ _ _ _ _ i d).trans ?_
  rw [bp_row]

/-- The kept attention keys. -/
theorem arr15 (r : Fin 1536) (d : Fin 512) : (dats m 0 c).arrAt 15 cfg0.N (ix2 r d)
    = pr m c (kept r) (512 + d.val) := by
  obtain ⟨t, ht, i, rfl⟩ := kept_cases r
  have e : ((cfg0.win 15).blk t).view.read (Elt Ideal) ((dats m 0 c).arrAt 15 cfg0.N) (ix2 i d)
      = (dats m 0 c).arrAt 15 cfg0.N (ix2 (keptRow t ht i) d) := by
    blk_point [idx15 t]
  refine e.symm.trans ((congrFun (((dats m 0 c).read_blk_arrAt_eq_flushed 15 disj15 cfg0.N t t.isLt ((flush15 t).mpr ht)).trans (Value.flushed15 m c t)) (ix2 i d)).trans ?_)
  refine (out15 _ _ _ _ _ _ i d).trans ?_
  rw [bp_row, kept_row]

/-- The kept attention values. -/
theorem arr16 (r : Fin 1536) (d : Fin 512) : (dats m 0 c).arrAt 16 cfg0.N (ix2 r d)
    = pr m c (kept r) (1024 + d.val) := by
  obtain ⟨t, ht, i, rfl⟩ := kept_cases r
  have e : ((cfg0.win 16).blk t).view.read (Elt Ideal) ((dats m 0 c).arrAt 16 cfg0.N) (ix2 i d)
      = (dats m 0 c).arrAt 16 cfg0.N (ix2 (keptRow t ht i) d) := by
    blk_point [idx16 t]
  refine e.symm.trans ((congrFun (((dats m 0 c).read_blk_arrAt_eq_flushed 16 disj16 cfg0.N t t.isLt ((flush16 t).mpr ht)).trans (Value.flushed16 m c t)) (ix2 i d)).trans ?_)
  refine (out16 _ _ _ _ _ _ i d).trans ?_
  rw [bp_row, kept_row]

end Cert.Projections
-- ==== Proof.InRef.lean ====
/- The plain statement of the input projections: its arrays, entry by entry. -/
module

public import proofs.«01_k».proof.Proof.InMath
public import proofs.«01_k».proof.Proof.Inputs
public import proofs.«01_k».proof.Proof.Consts
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Projections

open Idealize.ShloMosaic Idealize.ShloMosaic.TcCoe Idealize.SL.Sem
open Cert.Reference2Ideal Cert.Reference2Ideal.Gen

variable (x : FVec Ideal S2x8192x1024 .f32) (md : FVec Ideal S2x6144 .f32) (g : FVec Ideal S1024 .f32)
  (w : FVec Ideal S1024x6656 .f32)

/-! ## The projections -/

/-- The normalised and modulated rows. -/
def rN : FVec Ideal S2x8192x1024 .f32 :=
  (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 md) slices_S2x1x6144_S2x1x1024_0_0_1024)))) (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 md) slices_S2x1x6144_S2x1x1024_0_0_0)))

/-- The projections. -/
def rP : FVec Ideal S2x8192x6656 .f32 := Host.dotGeneral dot_S2x8192x1024_S1024x6656_S2x8192x6656_2_0_01_1_n_n none (rN x md g) w

theorem rN_apply (b : Fin 2) (s : Fin 8192) (k : Fin 1024) : rN x md g (ix3 b s k)
    = nrow (fun k => x (ix3 b s k)) (fun k => g (ix1 k)) (fun k => md (ix2 b (Fin.ofNat 6144 (1024 + k.val))))
      (fun k => md (ix2 b (Fin.ofNat 6144 k.val))) k := by
  have e : ∀ (n : ℕ) (h : n < 6144), md (ix2 b ⟨n, h⟩) = md (ix2 b (Fin.ofNat 6144 n)) :=
    fun n h => congrArg (fun q => md (ix2 b q)) (Fin.ext (Nat.mod_eq_of_lt h).symm)
  unfold rN
  pointwise
  unfold nrow
  exact congrArg₂ (fun u v => _ * (1 + u) + v) (e _ _) (e _ _)

theorem rP_apply (b : Fin 2) (s : Fin 8192) (j : Fin 6656) : rP x md g w (ix3 b s j)
    = projAt (fun b s k => x (ix3 b s k)) (fun b k => md (ix2 b k)) (fun k => g (ix1 k)) (fun k j => w (ix2 k j)) b s j.val := by
  unfold rP projAt prj
  pointwise
  refine Finset.sum_congr rfl fun k _ => ?_
  rw [rN_apply]
  exact congrArg (fun q => _ * w (ix2 k q)) (Fin.ext (Nat.mod_eq_of_lt j.isLt).symm)

/-- The projection of the given arguments by the results' row. -/
def rpr (r : Fin 16384) (j : ℕ) : EReal :=
  proj (fun b s k => x (ix3 b s k)) (fun b k => md (ix2 b k)) (fun k => g (ix1 k)) (fun k j => w (ix2 k j)) r j

theorem rP_row (b : Fin 2) (s : Fin 8192) (j : Fin 6656) (r : Fin 16384) (n : ℕ) (hb : b.val = r.val / 8192)
    (hs : s.val = r.val % 8192) (hj : j.val = n) : rP x md g w (ix3 b s j) = rpr x md g w r n := by
  subst hj
  exact (rP_apply x md g w b s j).trans (proj_row _ _ _ _ b s r j.val hb hs)

/-! ## The results that are a projection, scaled or gated -/

theorem div_log : Ideal.div (Ideal.ofBits .f32 0x3E000000#32) (Ideal.log (Ideal.ofBits .f32 0x40000000#32)) = qs := by
  have h2 : Real.log 2 ≠ 0 := (Real.log_pos (by norm_num)).ne'
  rw [Consts.ofBits_2, Consts.ofBits_eighth, Ideal.log_coe, if_neg (by norm_num), Ideal.div_coe h2, ← EReal.coe_mul, one_div (Real.log 2)]
  rfl

theorem ref_q (r : Fin 16384) (d : Fin 512) :
    (truncf .bf16 (shapeCast S16384x512 (mulf (extractStridedSlice S2x8192x512 ![0, 0, 0] (rP x md g w) slices_S2x8192x6656_S2x8192x512_0_0_0) (broadcastInDim S2x8192x512 ![] bcast_S_S2x8192x512 (id (Host.divf (constant S_ .f32 0x3E000000#32) (Host.log (constant S_ .f32 0x40000000#32)))))) shapeCasts_S2x8192x512_S16384x512) bitsLt_bf16_f32 : FVec Ideal S16384x512 .bf16) (ix2 r d)
      = rpr x md g w r d.val * qs := by
  simp only [id_eq]
  pointwise
  exact congrArg₂ (· * ·) (rP_row x md g w _ _ _ r _ rfl rfl (by simp only)) div_log

/-- 512 columns. -/
theorem ref_part512 (o : ℕ) (ho : S2x8192x6656.Slices ![0, 0, o] S2x8192x512) (r : Fin 16384) (d : Fin 512) :
    (truncf .bf16 (shapeCast S16384x512 (extractStridedSlice S2x8192x512 ![0, 0, o] (rP x md g w) ho) shapeCasts_S2x8192x512_S16384x512) bitsLt_bf16_f32 : FVec Ideal S16384x512 .bf16) (ix2 r d)
      = rpr x md g w r (o + d.val) := by
  pointwise
  exact rP_row x md g w _ _ _ r _ rfl rfl rfl

/-- 1024 columns. -/
theorem ref_part1024 (o : ℕ) (ho : S2x8192x6656.Slices ![0, 0, o] S2x8192x1024) (r : Fin 16384) (d : Fin 1024) :
    (truncf .bf16 (shapeCast S16384x1024 (extractStridedSlice S2x8192x1024 ![0, 0, o] (rP x md g w) ho) shapeCasts_S2x8192x1024_S16384x1024) bitsLt_bf16_f32 : FVec Ideal S16384x1024 .bf16) (ix2 r d)
      = rpr x md g w r (o + d.val) := by
  pointwise
  exact rP_row x md g w _ _ _ r _ rfl rfl rfl

/-- A gate: the logistic function of 1024 columns. -/
theorem ref_gate (o : ℕ) (ho : S2x8192x6656.Slices ![0, 0, o] S2x8192x1024) (r : Fin 16384) (d : Fin 1024) :
    (truncf .bf16 (shapeCast S16384x1024 (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, o] (rP x md g w) ho))))) shapeCasts_S2x8192x1024_S16384x1024) bitsLt_bf16_f32 : FVec Ideal S16384x1024 .bf16) (ix2 r d)
      = Ideal.logistic (rpr x md g w r (o + d.val)) := by
  pointwise
  exact congrArg Ideal.logistic (rP_row x md g w _ _ _ r _ rfl rfl rfl)

/-- 1024 columns times their logistic function. -/
theorem ref_silu (o : ℕ) (ho : S2x8192x6656.Slices ![0, 0, o] S2x8192x1024) (r : Fin 16384) (d : Fin 1024) :
    (truncf .bf16 (shapeCast S16384x1024 (mulf (extractStridedSlice S2x8192x1024 ![0, 0, o] (rP x md g w) ho) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, o] (rP x md g w) ho)))))) shapeCasts_S2x8192x1024_S16384x1024) bitsLt_bf16_f32 : FVec Ideal S16384x1024 .bf16) (ix2 r d)
      = rpr x md g w r (o + d.val) * Ideal.logistic (rpr x md g w r (o + d.val)) := by
  pointwise
  exact congrArg (fun p => p * Ideal.logistic p) (rP_row x md g w _ _ _ r _ rfl rfl rfl)

/-- 512 columns of the last 768 rows of each sequence. -/
theorem ref_kept (o : ℕ) (ho : S2x8192x6656.Slices ![0, 0, o] S2x8192x512) (r : Fin 1536) (d : Fin 512) :
    (shapeCast S1536x512 (extractStridedSlice S2x768x512 ![0, 7424, 0] (extractStridedSlice S2x8192x512 ![0, 0, o] (rP x md g w) ho)
        slices_S2x8192x512_S2x768x512_0_7424_0) shapeCasts_S2x768x512_S1536x512 : FVec Ideal S1536x512 .f32) (ix2 r d)
      = rpr x md g w (kept r) (o + d.val) := by
  pointwise
  refine rP_row x md g w _ _ _ (kept r) _ ?_ ?_ rfl
  · show r.val / 768 = (8192 * (r.val / 768) + 7424 + r.val % 768) / 8192
    omega
  · show 7424 + r.val % 768 = (8192 * (r.val / 768) + 7424 + r.val % 768) % 8192
    omega

/-! ## The rotary embedding -/

/-- The table of angles. -/
def rAng : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem rAng_apply (s : Fin 8192) (l : Fin 32) : rAng (ix2 s l) = ang s l := by
  unfold rAng
  pointwise
  rfl

/-- A table of rows and half heads, the same for every sequence and head. -/
def rTab (t : FVec Ideal S8192x32 .f32) : FVec Ideal S2x8192x8x32 .f32 :=
  broadcastInDim S2x8192x8x32 ![0, 1, 2, 3] bcast_S1x8192x1x32_S2x8192x8x32_0_1_2_3 (broadcastInDim S1x8192x1x32 ![1, 3] bcast_S8192x32_S1x8192x1x32_1_3 t)

theorem rTab_apply (t : FVec Ideal S8192x32 .f32) (b : Fin 2) (s : Fin 8192) (h : Fin 8) (l : Fin 32) :
    rTab t (ix4 b s h l) = t (ix2 s l) := by
  unfold rTab
  pointwise

/-- The heads turned. -/
def rRot (y : FVec Ideal S2x8192x8x64 .f32) : FVec Ideal S2x8192x8x64 .f32 :=
  concatenate S2x8192x8x64 3 [⟨S2x8192x8x32, subf (mulf (extractStridedSlice S2x8192x8x32 ![0, 0, 0, 0] y slices_S2x8192x8x64_S2x8192x8x32_0_0_0_0) (rTab (Host.cos rAng)))
      (mulf (extractStridedSlice S2x8192x8x32 ![0, 0, 0, 32] y slices_S2x8192x8x64_S2x8192x8x32_0_0_0_32) (rTab (Host.sin rAng)))⟩,
    ⟨S2x8192x8x32, addf (mulf (extractStridedSlice S2x8192x8x32 ![0, 0, 0, 0] y slices_S2x8192x8x64_S2x8192x8x32_0_0_0_0) (rTab (Host.sin rAng)))
      (mulf (extractStridedSlice S2x8192x8x32 ![0, 0, 0, 32] y slices_S2x8192x8x64_S2x8192x8x32_0_0_0_32) (rTab (Host.cos rAng)))⟩]
    concatenates_S2x8192x8x32_S2x8192x8x32_S2x8192x8x64_d3

theorem rCos_apply (b : Fin 2) (s : Fin 8192) (h : Fin 8) (l : Fin 32) : rTab (Host.cos rAng) (ix4 b s h l) = Ideal.cos (ang s l) := by
  rw [rTab_apply, ← rAng_apply]
  pointwise

theorem rSin_apply (b : Fin 2) (s : Fin 8192) (h : Fin 8) (l : Fin 32) : rTab (Host.sin rAng) (ix4 b s h l) = Ideal.sin (ang s l) := by
  rw [rTab_apply, ← rAng_apply]
  pointwise

theorem rRot_apply (y : FVec Ideal S2x8192x8x64 .f32) (p : ℕ → EReal) (b : Fin 2) (s : Fin 8192) (h : Fin 8)
    (hy : ∀ l : Fin 64, y (ix4 b s h l) = p (64 * h.val + l.val)) (l : Fin 64) :
    rRot y (ix4 b s h l) = rope p (fun l => Ideal.cos (ang s l)) (fun l => Ideal.sin (ang s l)) (64 * h.val + l.val) := by
  have Y : ∀ (n : ℕ) (hn : n < 64) (n' : ℕ), 64 * h.val + n = n' → y (ix4 b s h ⟨n, hn⟩) = p n' :=
    fun n hn _ e => (hy ⟨n, hn⟩).trans (congrArg p e)
  have A : ∀ (n : ℕ) (hn : n < 32), n = (64 * h.val + l.val) % 32 → (⟨n, hn⟩ : Fin 32) = Fin.ofNat 32 (64 * h.val + l.val) :=
    fun _ _ e => Fin.ext e
  have C : ∀ (n : ℕ) (hn : n < 32), n = (64 * h.val + l.val) % 32 →
      rTab (Host.cos rAng) (ix4 b s h ⟨n, hn⟩) = Ideal.cos (ang s (Fin.ofNat 32 (64 * h.val + l.val))) :=
    fun n hn e => (rCos_apply b s h _).trans (congrArg (fun a => Ideal.cos (ang s a)) (A n hn e))
  have S : ∀ (n : ℕ) (hn : n < 32), n = (64 * h.val + l.val) % 32 →
      rTab (Host.sin rAng) (ix4 b s h ⟨n, hn⟩) = Ideal.sin (ang s (Fin.ofNat 32 (64 * h.val + l.val))) :=
    fun n hn e => (rSin_apply b s h _).trans (congrArg (fun a => Ideal.sin (ang s a)) (A n hn e))
  have hl64 := l.isLt
  unfold rRot rope
  pointwise
  by_cases hl : l.val < 32
  · rw [if_pos (by omega : (64 * h.val + l.val) % 64 < 32)]
    refine (dif_pos hl).trans ?_
    exact congrArg₂ (· - ·) (congrArg₂ (· * ·) (Y _ _ _ rfl) (C _ _ (by omega)))
      (congrArg₂ (· * ·) (Y _ _ _ (by omega)) (S _ _ (by omega)))
  · rw [if_neg (by omega : ¬(64 * h.val + l.val) % 64 < 32)]
    refine (dif_neg hl).trans ?_
    exact congrArg₂ (· + ·) (congrArg₂ (· * ·) (Y _ _ _ (by omega)) (S _ _ (by omega)))
      (congrArg₂ (· * ·) (Y _ _ _ (by omega)) (C _ _ (by omega)))

/-- The heads of 512 columns. -/
def rH (o : ℕ) (ho : S2x8192x6656.Slices ![0, 0, o] S2x8192x512) : FVec Ideal S2x8192x8x64 .f32 :=
  shapeCast S2x8192x8x64 (extractStridedSlice S2x8192x512 ![0, 0, o] (rP x md g w) ho) shapeCasts_S2x8192x512_S2x8192x8x64

theorem rH_row (o : ℕ) (ho : S2x8192x6656.Slices ![0, 0, o] S2x8192x512) (b : Fin 2) (s : Fin 8192) (h : Fin 8) (l : Fin 64)
    (r : Fin 16384) (hb : b.val = r.val / 8192) (hs : s.val = r.val % 8192) :
    rH x md g w o ho (ix4 b s h l) = rpr x md g w r (o + (64 * h.val + l.val)) := by
  unfold rH
  pointwise
  exact rP_row x md g w _ _ _ r _ hb hs (by show o + _ = _; omega)

/-- The turned heads by the results' row. -/
theorem rRot_row (o : ℕ) (ho : S2x8192x6656.Slices ![0, 0, o] S2x8192x512) (b : Fin 2) (s : Fin 8192) (h : Fin 8) (l : Fin 64)
    (r : Fin 16384) (d : ℕ) (hb : b.val = r.val / 8192) (hs : s.val = r.val % 8192) (hd : 64 * h.val + l.val = d) :
    rRot (rH x md g w o ho) (ix4 b s h l)
      = rotated (fun b s k => x (ix3 b s k)) (fun b k => md (ix2 b k)) (fun k => g (ix1 k)) (fun k j => w (ix2 k j)) o r d := by
  subst hd
  have es : Fin.ofNat 8192 r.val = s := Fin.ext hs.symm
  refine (rRot_apply _ (fun j => rpr x md g w r (o + j)) b s h (fun l => rH_row x md g w o ho b s h l r hb hs) l).trans ?_
  unfold rotated
  rw [es]
  rfl

theorem ref_qr (ho : S2x8192x6656.Slices ![0, 0, 1536] S2x8192x512) (r : Fin 16384) (d : Fin 512) :
    (truncf .bf16 (shapeCast S16384x512 (rRot (rH x md g w 1536 ho)) shapeCasts_S2x8192x8x64_S16384x512) bitsLt_bf16_f32 : FVec Ideal S16384x512 .bf16) (ix2 r d)
      = rotated (fun b s k => x (ix3 b s k)) (fun b k => md (ix2 b k)) (fun k => g (ix1 k)) (fun k j => w (ix2 k j)) 1536 r d.val := by
  pointwise
  exact rRot_row x md g w 1536 ho _ _ _ _ r d.val rfl rfl (by simp only; omega)

theorem ref_kr (ho : S2x8192x6656.Slices ![0, 0, 2048] S2x8192x512) (r : Fin 16384) (d : Fin 512) :
    (truncf .bf16 (shapeCast S16384x512 (mulf (rRot (rH x md g w 2048 ho)) (broadcastInDim S2x8192x8x64 ![] bcast_S_S2x8192x8x64 (constant S_ .f32 0x3E000000#32))) shapeCasts_S2x8192x8x64_S16384x512) bitsLt_bf16_f32 : FVec Ideal S16384x512 .bf16) (ix2 r d)
      = rotated (fun b s k => x (ix3 b s k)) (fun b k => md (ix2 b k)) (fun k => g (ix1 k)) (fun k j => w (ix2 k j)) 2048 r d.val
        * Ideal.ofBits .f32 0x3E000000#32 := by
  pointwise
  exact congrArg (· * Ideal.ofBits .f32 0x3E000000#32) (rRot_row x md g w 2048 ho _ _ _ _ r d.val rfl rfl (by simp only; omega))

end Cert.Projections
-- ==== Proof.InAlg.lean ====
/- The input projections: the kernel's eleven results are the plain statement's, and the programs' frames. -/
module

public import proofs.«01_k».proof.Defs
public import proofs.«01_k».proof.Proof.InOut
public import proofs.«01_k».proof.Proof.InRef
public import proofs.«01_k».proof.Proof.Gen.Kernel2
public import proofs.«01_k».proof.Proof.Gen.Kernel2.Frame
public import proofs.«01_k».proof.Proof.Gen.Reference2Ideal
public import Idealize.ShloMosaic.Adequacy
public import Idealize.ShloMosaic.Init

@[expose] public section

set_option maxRecDepth 16384

noncomputable section

namespace Cert.Projections

open Idealize.ShloMosaic Idealize.ShloMosaic.TcCoe Idealize.SL.Sem
open Cert.Retention (ext2)

/-- The projections' plain statement runs and keeps its arguments. -/
theorem frame_reference2 : Cert.quiescent_Reference2Ideal := fun m ρ _ =>
  (θ_run Cert.Reference2Ideal.defs _ _).mono
    (fun r h => ⟨fun c => (h c).2.2.2.2.2.2.2.2.2.2.2, sem_eq_zero_of_no_sems (by decide) r.2⟩)
    (Cert.Reference2Ideal.Value.run (F := Ideal) m ρ)

/-- The named constant is the value it is named with. -/
theorem preserves2 : Cert.preserves_Kernel2_Kernel2Ideal := IdealRules.named_const.statement _ _ _ _ _ rfl

section
variable {m : (ℓ : Loc Cert.Kernel2Ideal.nD Cert.Kernel2Ideal.τ Cert.Kernel2Ideal.sig) → Buf (Elt Ideal) ℓ}
  {m' : (ℓ : Loc Cert.Reference2Ideal.nD Cert.Reference2Ideal.τ Cert.Reference2Ideal.sig) → Buf (Elt Ideal) ℓ}
  {c : Dev Cert.Kernel2Ideal.nD}

/-- Of equal arguments the projections are the same. -/
theorem rpr_eq
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (r : Fin 16384) (j : ℕ) : rpr (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) r j = pr m c r j := by
  rw [h0, h1, h2, h3]
  rfl

/-- And so are the rotated heads. -/
theorem rotated_eq
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (o : ℕ) (r : Fin 16384) (d : ℕ) :
    rotated (fun b s k => ((m' ((c.tc : Thread Cert.Reference2Ideal.nD Cert.Reference2Ideal.τ).loc Cert.Reference2Ideal.main_arg0)) : Vec Ideal Cert.Reference2Ideal.S2x8192x1024 .f32) (ix3 b s k))
      (fun b k => ((m' ((c.tc : Thread Cert.Reference2Ideal.nD Cert.Reference2Ideal.τ).loc Cert.Reference2Ideal.main_arg1)) : Vec Ideal Cert.Reference2Ideal.S2x6144 .f32) (ix2 b k))
      (fun k => ((m' ((c.tc : Thread Cert.Reference2Ideal.nD Cert.Reference2Ideal.τ).loc Cert.Reference2Ideal.main_arg2)) : Vec Ideal Cert.Reference2Ideal.S1024 .f32) (ix1 k))
      (fun k j => ((m' ((c.tc : Thread Cert.Reference2Ideal.nD Cert.Reference2Ideal.τ).loc Cert.Reference2Ideal.main_arg3)) : Vec Ideal Cert.Reference2Ideal.S1024x6656 .f32) (ix2 k j)) o r d
      = rot m c o r d := by
  rw [h0, h1, h2, h3]
  rfl
end

/-- The kernel's eleven results and the plain statement's are equal. -/
theorem algebraic2 : Cert.algebraic_Kernel2Ideal_Reference2Ideal := by
  intro m ρ m' ρ' _ hag
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N, fun c => (Cert.Kernel2Ideal.Gen.dats m 0 c).arrAt 8 Cert.Kernel2Ideal.cfg0.N, fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N,
    Cert.Kernel2Ideal.Value.run_blocks m ρ,
    (θ_run Cert.Reference2Ideal.defs _ _).mono (fun r h c => ?_) (Cert.Reference2Ideal.Value.run (F := Ideal) m' ρ')⟩
  obtain ⟨h0, h1, h2, h3⟩ := hag c
  obtain ⟨e6, e7, e8, e9, e10, e11, e12, e13, e14, e15, e16, ha⟩ := h c
  have P := fun r j => rpr_eq h0 h1 h2 h3 r j
  have R := fun o r d => rotated_eq h0 h1 h2 h3 o r d
  refine ⟨e6.trans (ext2 fun r d => ?_), e7.trans (ext2 fun r d => ?_), e8.trans (ext2 fun r d => ?_), e9.trans (ext2 fun r d => ?_), e10.trans (ext2 fun r d => ?_), e11.trans (ext2 fun r d => ?_), e12.trans (ext2 fun r d => ?_), e13.trans (ext2 fun r d => ?_), e14.trans (ext2 fun r d => ?_), e15.trans (ext2 fun r d => ?_), e16.trans (ext2 fun r d => ?_), ha⟩
  · exact (ref_q _ _ _ _ r d).trans ((congrArg (· * qs) (P r _)).trans (arr6 m c r d).symm)
  · exact (ref_part512 _ _ _ _ 512 _ r d).trans ((P r _).trans (arr7 m c r d).symm)
  · exact (ref_part512 _ _ _ _ 1024 _ r d).trans ((P r _).trans (arr8 m c r d).symm)
  · exact (ref_qr _ _ _ _ _ r d).trans ((((R _ r _).trans (by rw [Ideal.ofBits_one_f32, mul_one]))).trans (arr9 m c r d).symm)
  · exact (ref_kr _ _ _ _ _ r d).trans ((congrArg (· * Ideal.ofBits .f32 0x3E000000#32) (R _ r _)).trans (arr10 m c r d).symm)
  · exact (ref_part1024 _ _ _ _ 2560 _ r d).trans ((P r _).trans (arr11 m c r d).symm)
  · exact (ref_silu _ _ _ _ 3584 _ r d).trans ((congrArg (fun p => p * Ideal.logistic p) (P r _)).trans (arr12 m c r d).symm)
  · exact (ref_gate _ _ _ _ 4608 _ r d).trans ((congrArg Ideal.logistic (P r _)).trans (arr13 m c r d).symm)
  · exact (ref_gate _ _ _ _ 5632 _ r d).trans ((congrArg Ideal.logistic (P r _)).trans (arr14 m c r d).symm)
  · exact (ref_kept _ _ _ _ 512 _ r d).trans ((P (kept r) _).trans (arr15 m c r d).symm)
  · exact (ref_kept _ _ _ _ 1024 _ r d).trans ((P (kept r) _).trans (arr16 m c r d).symm)

end Cert.Projections
-- ==== Proof.SampBlock.lean ====
/- The projections of the sample rows: the rows that belong to one sequence have its modulation, and the positions go on from
   the 4096 rows of the past. -/
module

public import proofs.«01_k».proof.Proof.InRope
public import proofs.«01_k».proof.Proof.Gen.Kernel3Ideal.Frame
public import Idealize.ShloMosaic.Lib.Pipeline.Value
public import Idealize.ShloMosaic.Lib.Pointwise

@[expose] public section

set_option maxRecDepth 16384

noncomputable section

namespace Cert.Projections.Sample

open Idealize.ShloMosaic Idealize.ShloMosaic.TcCoe Idealize.SL.Sem
open Cert.Kernel3Ideal Cert.Kernel3Ideal.Gen

/-! ## The projections

Row `r` of the results is row `r % 16` of sequence `r / 16`. -/

/-- The angle of column `l` of a half head at row `s` of a sequence. -/
def ang (s : Fin 16) (l : Fin 32) : EReal :=
  (Ideal.ofBits .f32 0x45800000#32 + (FloatOps.sitofp .f32 (BitVec.ofNat 32 s.val) : Ideal .f32))
    * Ideal.pow (Ideal.ofBits .f32 0x461C4000#32)
      (Ideal.div (-(FloatOps.sitofp .f32 (BitVec.ofNat 32 l.val) : Ideal .f32)) (Ideal.ofBits .f32 0x42000000#32))

section
variable (x : Fin 32 → Fin 16 → Fin 1024 → EReal) (md : Fin 32 → Fin 6144 → EReal) (g : Fin 1024 → EReal)
  (w : Fin 1024 → Fin 6656 → EReal)

/-- Column `j` of the projection of row `r`. -/
def proj (r : Fin 512) (j : ℕ) : EReal := projAt x md g w (Fin.ofNat 32 (r.val / 16)) (Fin.ofNat 16 r.val) j

theorem proj_row (b : Fin 32) (s : Fin 16) (r : Fin 512) (j : ℕ) (hb : b.val = r.val / 16) (hs : s.val = r.val % 16) :
    projAt x md g w b s j = proj x md g w r j := by
  have eb : Fin.ofNat 32 (r.val / 16) = b := Fin.ext (by show r.val / 16 % 32 = b.val; omega)
  have es : Fin.ofNat 16 r.val = s := Fin.ext hs.symm
  unfold proj
  rw [eb, es]

/-- The rotated heads whose projection begins at column `o`. -/
def rotated (o : ℕ) (r : Fin 512) (d : ℕ) : EReal :=
  rope (fun j => proj x md g w r (o + j)) (fun l => Ideal.cos (ang (Fin.ofNat 16 r.val) l))
    (fun l => Ideal.sin (ang (Fin.ofNat 16 r.val) l)) d
end

/-! ## What one grid point writes -/

variable (x0 : Vec Ideal S256x1024 .f32) (x1 : Vec Ideal S1x6x256x1024 .f32) (x2 : Vec Ideal S1x1024 .f32)
  (x3 x4 : Vec Ideal S256x128 .f32) (x5 : Vec Ideal S1024x6656 .bf16)

/-- Row `i` of the block, normalised and modulated. -/
def bn (i : Fin 256) : Fin 1024 → EReal :=
  nrow (fun k => x0 (ix2 i k)) (fun k => x2 (ix2 0 k)) (fun k => x1 (ix4 0 1 i k)) (fun k => x1 (ix4 0 0 i k))

/-- Row `i` of the block times a column of the weights. -/
def bp (i : Fin 256) (j : ℕ) : EReal := prj (bn x0 x1 x2 i) (fun k j => x5 (ix2 k j)) j

theorem norm_apply (i : Fin 256) (k : Fin 1024) : k0_pay31 x0 x1 x2 x3 x4 x5 (ix2 i k) = bn x0 x1 x2 i k := by
  unfold k0_pay31 k0_pay2
  pointwise
  rfl

theorem qs_named : (Named.named (F := Ideal) κ "qs" 0x3E38AA3B#32 : Ideal .f32) = qs :=
  (IdealRules.named_const.ideal_named_scalar _ _ _ _ rfl).trans rfl

theorem out6 (i : Fin 256) (d : Fin 512) : out0_6 x0 x1 x2 x3 x4 x5 (ix2 i d) = bp x0 x1 x2 x5 i d.val * qs := by
  unfold out0_6
  rw [View.canon_unit_zero (S := S256x512) zero2]
  unfold k0_pay3
  pointwise
  rw [qs_named]
  exact congrArg (· * qs) (row_dot _ x5 _ i (norm_apply x0 x1 x2 x3 x4 x5 i) d.val (by omega))

theorem out7 (i : Fin 256) (d : Fin 512) : out0_7 x0 x1 x2 x3 x4 x5 (ix2 i d)
    = bp x0 x1 x2 x5 i (512 + d.val) := by
  unfold out0_7
  rw [View.canon_unit_zero (S := S256x512) zero2]
  exact row_k _ x5 _ i (norm_apply x0 x1 x2 x3 x4 x5 i) d

theorem out8 (i : Fin 256) (d : Fin 512) : out0_8 x0 x1 x2 x3 x4 x5 (ix2 i d)
    = bp x0 x1 x2 x5 i (1024 + d.val) := by
  unfold out0_8
  rw [View.canon_unit_zero (S := S256x512) zero2]
  exact row_v _ x5 _ i (norm_apply x0 x1 x2 x3 x4 x5 i) d

theorem out15 (i : Fin 256) (d : Fin 512) : out0_15 x0 x1 x2 x3 x4 x5 (ix2 i d)
    = bp x0 x1 x2 x5 i (512 + d.val) := by
  unfold out0_15
  rw [View.canon_unit_zero (S := S256x512) zero2]
  exact row_k _ x5 _ i (norm_apply x0 x1 x2 x3 x4 x5 i) d

theorem out16 (i : Fin 256) (d : Fin 512) : out0_16 x0 x1 x2 x3 x4 x5 (ix2 i d)
    = bp x0 x1 x2 x5 i (1024 + d.val) := by
  unfold out0_16
  rw [View.canon_unit_zero (S := S256x512) zero2]
  exact row_v _ x5 _ i (norm_apply x0 x1 x2 x3 x4 x5 i) d

theorem out11 (i : Fin 256) (d : Fin 1024) : out0_11 x0 x1 x2 x3 x4 x5 (ix2 i d)
    = bp x0 x1 x2 x5 i (2560 + d.val) := by
  unfold out0_11
  rw [View.canon_unit_zero (S := S256x1024) zero2]
  exact row_vr _ x5 _ i (norm_apply x0 x1 x2 x3 x4 x5 i) d

theorem out12 (i : Fin 256) (d : Fin 1024) : out0_12 x0 x1 x2 x3 x4 x5 (ix2 i d)
    = bp x0 x1 x2 x5 i (3584 + d.val) * Ideal.logistic (bp x0 x1 x2 x5 i (3584 + d.val)) := by
  unfold out0_12
  rw [View.canon_unit_zero (S := S256x1024) zero2]
  exact row_silu _ x5 _ i (norm_apply x0 x1 x2 x3 x4 x5 i) d

theorem out13 (i : Fin 256) (d : Fin 1024) : out0_13 x0 x1 x2 x3 x4 x5 (ix2 i d)
    = Ideal.logistic (bp x0 x1 x2 x5 i (4608 + d.val)) := by
  unfold out0_13
  rw [View.canon_unit_zero (S := S256x1024) zero2]
  exact row_gate_a _ x5 _ i (norm_apply x0 x1 x2 x3 x4 x5 i) d

theorem out14 (i : Fin 256) (d : Fin 1024) : out0_14 x0 x1 x2 x3 x4 x5 (ix2 i d)
    = Ideal.logistic (bp x0 x1 x2 x5 i (5632 + d.val)) := by
  unfold out0_14
  rw [View.canon_unit_zero (S := S256x1024) zero2]
  exact row_gate_b _ x5 _ i (norm_apply x0 x1 x2 x3 x4 x5 i) d

theorem out9 (i : Fin 256) (d : Fin 512) : out0_9 x0 x1 x2 x3 x4 x5 (ix2 i d)
    = turned 0x3F800000#32 x3 x4 (Cert.Kernel2Ideal.Gen.k0_pay13 (k0_pay31 x0 x1 x2 x3 x4 x5) (View.ld x5 r0_9)) i d := by
  have e3 : k0_pay33 x0 x1 x2 x3 x4 x5 = x3 := by
    unfold k0_pay33 k0_pay9; rw [View.ld_unit_zero (S := S256x128) zero2]; simp only [shapeCast_self]
  have e4 : k0_pay34 x0 x1 x2 x3 x4 x5 = x4 := by
    unfold k0_pay34 k0_pay10; rw [View.ld_unit_zero (S := S256x128) zero2]; simp only [shapeCast_self]
  unfold out0_9
  rw [e3, e4]
  exact four_pieces _ _ _ _ _ _ _ _ rfl rfl rfl rfl i d

theorem out10 (i : Fin 256) (d : Fin 512) : out0_10 x0 x1 x2 x3 x4 x5 (ix2 i d)
    = turned 0x3E000000#32 x3 x4 (Cert.Kernel2Ideal.Gen.k0_pay19 (k0_pay31 x0 x1 x2 x3 x4 x5) (View.ld x5 r0_14)) i d := by
  have e3 : k0_pay33 x0 x1 x2 x3 x4 x5 = x3 := by
    unfold k0_pay33 k0_pay9; rw [View.ld_unit_zero (S := S256x128) zero2]; simp only [shapeCast_self]
  have e4 : k0_pay34 x0 x1 x2 x3 x4 x5 = x4 := by
    unfold k0_pay34 k0_pay10; rw [View.ld_unit_zero (S := S256x128) zero2]; simp only [shapeCast_self]
  unfold out0_10
  rw [e3, e4]
  exact four_pieces _ _ _ _ _ _ _ _ rfl rfl rfl rfl i d

end Cert.Projections.Sample
-- ==== Proof.SampRun.lean ====
/- The sample rows' projection kernel: its input blocks as rows of the arguments. -/
module

public import proofs.«01_k».proof.Proof.SampBlock
public import proofs.«01_k».proof.Proof.Gen.Kernel3Ideal.Value
public import Idealize.ShloMosaic.Lib.Pipeline.ValueKit
public import Idealize.ShloMosaic.Lib.StableHlo.RunRead

@[expose] public section

set_option maxRecDepth 16384

noncomputable section

namespace Cert.Projections.Sample

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-! ## The arguments -/

def ax (b : Fin 32) (s : Fin 16) (k : Fin 1024) : EReal := (m ((c : Thread nD τ).loc main_arg0) : Vec Ideal S32x16x1024 .f32) (ix3 b s k)
def amd (b : Fin 32) (k : Fin 6144) : EReal := (m ((c : Thread nD τ).loc main_arg1) : Vec Ideal S32x6144 .f32) (ix2 b k)
def ag (k : Fin 1024) : EReal := (m ((c : Thread nD τ).loc main_arg2) : Vec Ideal S1024 .f32) (ix1 k)
def aw (k : Fin 1024) (j : Fin 6656) : EReal := (m ((c : Thread nD τ).loc main_arg3) : Vec Ideal S1024x6656 .f32) (ix2 k j)

/-! ## The arrays the kernel is called with -/

theorem V_x (r : Fin 512) (k : Fin 1024) :
    V m c main_v31 (ix2 r k) = ax m c (Fin.ofNat 32 (r.val / 16)) (Fin.ofNat 16 r.val) k := by
  entry_read
  pointwise
  exact congrArg (fun b => (m ((c : Thread nD τ).loc main_arg0) : Vec Ideal S32x16x1024 .f32) (ix3 b _ k))
    (Fin.ext (Nat.mod_eq_of_lt (by omega)).symm)

/-- Each sequence's modulation stands once for each of its 16 rows. -/
theorem V_md (o : Fin 6) (r : Fin 512) (k : Fin 1024) :
    V m c main_v4 (ix4 0 o r k) = amd m c (Fin.ofNat 32 (r.val / 16)) (Fin.ofNat 6144 (o.val * 1024 + k.val)) := by
  entry_read
  pointwise
  exact congrArg₂ (fun b j => (m ((c : Thread nD τ).loc main_arg1) : Vec Ideal S32x6144 .f32) (ix2 b j))
    (Fin.ext (by show _ = r.val / 16 % 32; simp only; omega)) (Fin.ext (Nat.mod_eq_of_lt (by omega)).symm)

theorem V_g (k : Fin 1024) : V m c main_v32 (ix2 0 k) = ag m c k := by
  entry_read
  pointwise
  rfl

theorem V_w (k : Fin 1024) (j : Fin 6656) : V m c main_v33 (ix2 k j) = aw m c k j := by
  entry_read
  pointwise
  rfl

/-- The table of angles. -/
def angT : FVec Ideal S16x32 .f32 :=
  mulf (broadcastInDim S16x32 ![0, 1] bcast_S16x1_S16x32_0_1 (broadcastInDim S16x1 ![0] bcast_S16_S16x1_0
      (addf (broadcastInDim S16 ![] bcast_S_S16 (constant S_ .f32 0x45800000#32)) (sitofp .f32 (iotaInDim S16 32 0)))))
    (broadcastInDim S16x32 ![0, 1] bcast_S1x32_S16x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angT_apply (s : Fin 16) (l : Fin 32) : angT (ix2 s l) = ang s l := by
  unfold angT
  pointwise
  rfl

/-- Four tables of 32 columns side by side, once for each of 16 sequences. -/
def cat4 (a b c d : FVec Ideal S16x32 .f32) : FVec Ideal S256x128 .f32 :=
  shapeCast S256x128 (broadcastInDim S16x16x1x128 ![0, 1, 2, 3] bcast_S1x16x1x128_S16x16x1x128_0_1_2_3
    (shapeCast S1x16x1x128 (concatenate S16x128 1 [⟨S16x32, a⟩, ⟨S16x32, b⟩, ⟨S16x32, c⟩, ⟨S16x32, d⟩]
      concatenates_S16x32_S16x32_S16x32_S16x32_S16x128_d1) shapeCasts_S16x128_S1x16x1x128)) shapeCasts_S16x16x1x128_S256x128

theorem cat4_apply (a b : FVec Ideal S16x32 .f32) (i : Fin 256) (l : Fin 128) :
    cat4 a b a b (ix2 i l) = if l.val % 64 < 32 then a (ix2 (Fin.ofNat 16 i.val) (Fin.ofNat 32 l.val))
      else b (ix2 (Fin.ofNat 16 i.val) (Fin.ofNat 32 l.val)) := by
  have at_ : ∀ (z : FVec Ideal S16x32 .f32) q (hq : q < 16) n (h : n < 32), q = i.val % 16 → n = l.val % 32 →
      z (ix2 ⟨q, hq⟩ ⟨n, h⟩) = z (ix2 (Fin.ofNat 16 i.val) (Fin.ofNat 32 l.val)) :=
    fun z q hq n h eq e => congrArg₂ (fun q n => z (ix2 q n)) (Fin.ext eq) (Fin.ext e)
  unfold cat4
  pointwise
  by_cases h : l.val % 64 < 32
  · rw [if_pos h]
    split_ifs <;> first | omega | (refine at_ _ _ _ _ _ ?_ ?_ <;> omega)
  · rw [if_neg h]
    split_ifs <;> first | omega | (refine at_ _ _ _ _ _ ?_ ?_ <;> omega)

theorem V_cos (i : Fin 256) (l : Fin 128) : V m c main_v27 (ix2 i l) = Ideal.cos (ang (Fin.ofNat 16 i.val) (Fin.ofNat 32 l.val)) := by
  have e : V m c main_v27 = cat4 (Host.cos angT) (Host.cos angT) (Host.cos angT) (Host.cos angT) := by
    unfold V hostOps0
    after_reads_simp
    rfl
  have h : ∀ s l, (Host.cos angT : FVec Ideal S16x32 .f32) (ix2 s l) = Ideal.cos (ang s l) := fun s l => by
    pointwise
    rw [angT_apply]
  rw [e, cat4_apply, h, ite_self]

theorem V_sin (i : Fin 256) (l : Fin 128) : V m c main_v30 (ix2 i l)
    = if l.val % 64 < 32 then -Ideal.sin (ang (Fin.ofNat 16 i.val) (Fin.ofNat 32 l.val))
      else Ideal.sin (ang (Fin.ofNat 16 i.val) (Fin.ofNat 32 l.val)) := by
  have e : V m c main_v30 = cat4 (Host.negf (Host.sin angT)) (Host.sin angT) (Host.negf (Host.sin angT)) (Host.sin angT) := by
    unfold V hostOps0
    after_reads_simp
    rfl
  have h : ∀ s l, (Host.sin angT : FVec Ideal S16x32 .f32) (ix2 s l) = Ideal.sin (ang s l) := fun s l => by
    pointwise
    rw [angT_apply]
  have h' : ∀ s l, (Host.negf (Host.sin angT) : FVec Ideal S16x32 .f32) (ix2 s l) = -Ideal.sin (ang s l) := fun s l => by
    pointwise
    rw [angT_apply]
  rw [e, cat4_apply, h, h']

/-! ## The input blocks -/

theorem pt_lt (t : Fin cfg0.N) : t.val < 2 := lt_of_lt_of_eq t.isLt (show cfg0.N = 2 from N_0)

/-- Row `i` of the block of grid point `t`, as a row of the array. -/
abbrev rowOf (t : Fin cfg0.N) (i : Fin 256) : Fin 512 := ⟨256 * t.val + i.val, by have := pt_lt t; omega⟩

theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 4) = 0 ∧ win0_1.index t (1 : Fin 4) = 0
    ∧ win0_1.index t (2 : Fin 4) = t.val ∧ win0_1.index t (3 : Fin 4) = 0 :=
  (by decide +kernel : ∀ t : Fin grid0.N, _)
theorem idx_in2 : ∀ t : Fin cfg0.N, win0_2.index t (0 : Fin 2) = 0 ∧ win0_2.index t (1 : Fin 2) = 0 :=
  (by decide +kernel : ∀ t : Fin grid0.N, _)
theorem idx_in3 : ∀ t : Fin cfg0.N, win0_3.index t (0 : Fin 2) = 0 ∧ win0_3.index t (1 : Fin 2) = 0 :=
  (by decide +kernel : ∀ t : Fin grid0.N, _)
theorem idx_in4 : ∀ t : Fin cfg0.N, win0_4.index t (0 : Fin 2) = 0 ∧ win0_4.index t (1 : Fin 2) = 0 :=
  (by decide +kernel : ∀ t : Fin grid0.N, _)
theorem idx_in5 : ∀ t : Fin cfg0.N, win0_5.index t (0 : Fin 2) = 0 ∧ win0_5.index t (1 : Fin 2) = 0 :=
  (by decide +kernel : ∀ t : Fin grid0.N, _)

theorem blk0 (t : Fin cfg0.N) (i : Fin 256) (k : Fin 1024) : iblk m c 0 t (ix2 i k) = V m c main_v31 (ix2 (rowOf t i) k) := by
  blk_point [iblk, idx_in0 t]
theorem blk1 (t : Fin cfg0.N) (o : Fin 6) (i : Fin 256) (k : Fin 1024) :
    iblk m c 1 t (ix4 0 o i k) = V m c main_v4 (ix4 0 o (rowOf t i) k) := by
  blk_point [iblk, idx_in1 t]
theorem blk2 (t : Fin cfg0.N) (k : Fin 1024) : iblk m c 2 t (ix2 0 k) = V m c main_v32 (ix2 0 k) := by
  blk_point [iblk, idx_in2 t]
theorem blk3 (t : Fin cfg0.N) (i : Fin 256) (l : Fin 128) : iblk m c 3 t (ix2 i l) = V m c main_v27 (ix2 i l) := by
  blk_point [iblk, idx_in3 t]
theorem blk4 (t : Fin cfg0.N) (i : Fin 256) (l : Fin 128) : iblk m c 4 t (ix2 i l) = V m c main_v30 (ix2 i l) := by
  blk_point [iblk, idx_in4 t]
theorem blk5 (t : Fin cfg0.N) (k : Fin 1024) (j : Fin 6656) : iblk m c 5 t (ix2 k j) = V m c main_v33 (ix2 k j) := by
  blk_point [iblk, idx_in5 t]

/-! ## A grid point's rows -/

/-- The projection of row `r`. -/
abbrev pr (r : Fin 512) (j : ℕ) : EReal := proj (ax m c) (amd m c) (ag m c) (aw m c) r j

/-- The rotated heads of row `r`, from column `o` of the projection on. -/
abbrev rot (o : ℕ) (r : Fin 512) (d : ℕ) : EReal := rotated (ax m c) (amd m c) (ag m c) (aw m c) o r d

theorem bp_row (t : Fin cfg0.N) (i : Fin 256) (j : ℕ) :
    bp (iblk m c 0 t) (iblk m c 1 t) (iblk m c 2 t) (iblk m c 5 t) i j = pr m c (rowOf t i) j := by
  have h0 : (fun k => iblk m c 0 t (ix2 i k)) = ax m c (Fin.ofNat 32 ((rowOf t i).val / 16)) (Fin.ofNat 16 (rowOf t i).val) :=
    funext fun k => (blk0 m c t i k).trans (V_x m c _ k)
  have h2 : (fun k => iblk m c 2 t (ix2 0 k)) = ag m c := funext fun k => (blk2 m c t k).trans (V_g m c k)
  have h1 : ∀ (o : Fin 6) (k : Fin 1024), iblk m c 1 t (ix4 0 o i k)
      = amd m c (Fin.ofNat 32 ((rowOf t i).val / 16)) (Fin.ofNat 6144 (o.val * 1024 + k.val)) :=
    fun o k => (blk1 m c t o i k).trans (V_md m c o _ k)
  have h11 : (fun k => iblk m c 1 t (ix4 0 1 i k))
      = fun k => amd m c (Fin.ofNat 32 ((rowOf t i).val / 16)) (Fin.ofNat 6144 (1024 + k.val)) :=
    funext fun k => h1 1 k
  have h10 : (fun k => iblk m c 1 t (ix4 0 0 i k))
      = fun k => amd m c (Fin.ofNat 32 ((rowOf t i).val / 16)) (Fin.ofNat 6144 k.val) :=
    funext fun k => (h1 0 k).trans (congrArg (fun n => amd m c _ (Fin.ofNat 6144 n)) (by show 0 * 1024 + k.val = k.val; omega))
  have h5 : (fun k j => iblk m c 5 t (ix2 k j)) = aw m c :=
    funext fun k => funext fun j => (blk5 m c t k j).trans (V_w m c k j)
  unfold bp bn
  rw [h0, h2, h11, h10, h5]
  rfl

theorem seq_row (t : Fin cfg0.N) (i : Fin 256) : Fin.ofNat 16 i.val = Fin.ofNat 16 (rowOf t i).val :=
  Fin.ext (by show i.val % 16 = (256 * t.val + i.val) % 16; omega)

theorem turned_row (b : BitVec 32) (X : FVec Ideal S256x512 .f32) (o : ℕ) (t : Fin cfg0.N) (i : Fin 256)
    (hX : ∀ d : Fin 512, X (ix2 i d) = bp (iblk m c 0 t) (iblk m c 1 t) (iblk m c 2 t) (iblk m c 5 t) i (o + d.val)) (d : Fin 512) :
    turned b (iblk m c 3 t) (iblk m c 4 t) X i d = rot m c o (rowOf t i) d.val * Ideal.ofBits .f32 b := by
  refine turned_rope b _ _ X _ _ _ i (fun d => (hX d).trans (bp_row m c t i _)) (fun l => ?_) (fun l => ?_) d
  · rw [blk3, V_cos, seq_row]
  · rw [blk4, V_sin, seq_row]

end Cert.Projections.Sample
-- ==== Proof.SampOut.lean ====
/- The eleven result arrays of the sample rows' projection kernel, entry by entry. -/
module

public import proofs.«01_k».proof.Proof.SampRun

@[expose] public section

set_option maxRecDepth 16384

noncomputable section

namespace Cert.Projections.Sample

open Idealize.ShloMosaic Idealize.ShloMosaic.TcCoe Idealize.SL.Sem
open Cert.Kernel3Ideal Cert.Kernel3Ideal.Gen

/-! ## Which block a grid point writes: its own -/

theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

/-- Every row lies in some grid point's block. -/
theorem row_cases (r : Fin 512) : ∃ (t : Fin cfg0.N) (i : Fin 256), r = rowOf t i :=
  ⟨⟨r.val / 256, lt_of_lt_of_eq (by omega) N_0.symm⟩, ⟨r.val % 256, by omega⟩,
    Fin.ext (by show r.val = 256 * (r.val / 256) + r.val % 256; omega)⟩

/-! ## The results -/

variable (m : (ℓ : Loc nD τ sig) → Buf (Elt Ideal) ℓ) (c : Dev nD)

/-- The scaled attention queries. -/
theorem arr6 (r : Fin 512) (d : Fin 512) : (dats m 0 c).arrAt 6 cfg0.N (ix2 r d)
    = pr m c r d.val * qs := by
  obtain ⟨t, i, rfl⟩ := row_cases r
  have e : ((cfg0.win 6).blk t).view.read (Elt Ideal) ((dats m 0 c).arrAt 6 cfg0.N) (ix2 i d)
      = (dats m 0 c).arrAt 6 cfg0.N (ix2 (rowOf t i) d) := by
    blk_point [idx6 t]
  refine e.symm.trans ((congrFun ((Value.blocks6 m c t (flush0_6 t)).trans (Value.flushed6 m c t)) (ix2 i d)).trans ?_)
  refine (out6 _ _ _ _ _ _ i d).trans ?_
  rw [bp_row]

/-- The attention keys. -/
theorem arr7 (r : Fin 512) (d : Fin 512) : (dats m 0 c).arrAt 7 cfg0.N (ix2 r d)
    = pr m c r (512 + d.val) := by
  obtain ⟨t, i, rfl⟩ := row_cases r
  have e : ((cfg0.win 7).blk t).view.read (Elt Ideal) ((dats m 0 c).arrAt 7 cfg0.N) (ix2 i d)
      = (dats m 0 c).arrAt 7 cfg0.N (ix2 (rowOf t i) d) := by
    blk_point [idx7 t]
  refine e.symm.trans ((congrFun ((Value.blocks7 m c t (flush0_7 t)).trans (Value.flushed7 m c t)) (ix2 i d)).trans ?_)
  refine (out7 _ _ _ _ _ _ i d).trans ?_
  rw [bp_row]

/-- The attention values. -/
theorem arr8 (r : Fin 512) (d : Fin 512) : (dats m 0 c).arrAt 8 cfg0.N (ix2 r d)
    = pr m c r (1024 + d.val) := by
  obtain ⟨t, i, rfl⟩ := row_cases r
  have e : ((cfg0.win 8).blk t).view.read (Elt Ideal) ((dats m 0 c).arrAt 8 cfg0.N) (ix2 i d)
      = (dats m 0 c).arrAt 8 cfg0.N (ix2 (rowOf t i) d) := by
    blk_point [idx8 t]
  refine e.symm.trans ((congrFun ((Value.blocks8 m c t (flush0_8 t)).trans (Value.flushed8 m c t)) (ix2 i d)).trans ?_)
  refine (out8 _ _ _ _ _ _ i d).trans ?_
  rw [bp_row]

/-- The retention queries, rotated. -/
theorem arr9 (r : Fin 512) (d : Fin 512) : (dats m 0 c).arrAt 9 cfg0.N (ix2 r d)
    = rot m c 1536 r d.val * Ideal.ofBits .f32 0x3F800000#32 := by
  obtain ⟨t, i, rfl⟩ := row_cases r
  have e : ((cfg0.win 9).blk t).view.read (Elt Ideal) ((dats m 0 c).arrAt 9 cfg0.N) (ix2 i d)
      = (dats m 0 c).arrAt 9 cfg0.N (ix2 (rowOf t i) d) := by
    blk_point [idx9 t]
  refine e.symm.trans ((congrFun ((Value.blocks9 m c t (flush0_9 t)).trans (Value.flushed9 m c t)) (ix2 i d)).trans ?_)
  exact (out9 _ _ _ _ _ _ i d).trans (turned_row m c _ _ 1536 t i
    (fun d => row_qr _ _ _ i (norm_apply _ _ _ _ _ _ i) d) d)

/-- The retention keys, rotated and scaled by an eighth. -/
theorem arr10 (r : Fin 512) (d : Fin 512) : (dats m 0 c).arrAt 10 cfg0.N (ix2 r d)
    = rot m c 2048 r d.val * Ideal.ofBits .f32 0x3E000000#32 := by
  obtain ⟨t, i, rfl⟩ := row_cases r
  have e : ((cfg0.win 10).blk t).view.read (Elt Ideal) ((dats m 0 c).arrAt 10 cfg0.N) (ix2 i d)
      = (dats m 0 c).arrAt 10 cfg0.N (ix2 (rowOf t i) d) := by
    blk_point [idx10 t]
  refine e.symm.trans ((congrFun ((Value.blocks10 m c t (flush0_10 t)).trans (Value.flushed10 m c t)) (ix2 i d)).trans ?_)
  exact (out10 _ _ _ _ _ _ i d).trans (turned_row m c _ _ 2048 t i
    (fun d => row_kr _ _ _ i (norm_apply _ _ _ _ _ _ i) d) d)

/-- The retention values. -/
theorem arr11 (r : Fin 512) (d : Fin 1024) : (dats m 0 c).arrAt 11 cfg0.N (ix2 r d)
    = pr m c r (2560 + d.val) := by
  obtain ⟨t, i, rfl⟩ := row_cases r
  have e : ((cfg0.win 11).blk t).view.read (Elt Ideal) ((dats m 0 c).arrAt 11 cfg0.N) (ix2 i d)
      = (dats m 0 c).arrAt 11 cfg0.N (ix2 (rowOf t i) d) := by
    blk_point [idx11 t]
  refine e.symm.trans ((congrFun ((Value.blocks11 m c t (flush0_11 t)).trans (Value.flushed11 m c t)) (ix2 i d)).trans ?_)
  refine (out11 _ _ _ _ _ _ i d).trans ?_
  rw [bp_row]

/-- The retention's gate. -/
theorem arr12 (r : Fin 512) (d : Fin 1024) : (dats m 0 c).arrAt 12 cfg0.N (ix2 r d)
    = pr m c r (3584 + d.val) * Ideal.logistic (pr m c r (3584 + d.val)) := by
  obtain ⟨t, i, rfl⟩ := row_cases r
  have e : ((cfg0.win 12).blk t).view.read (Elt Ideal) ((dats m 0 c).arrAt 12 cfg0.N) (ix2 i d)
      = (dats m 0 c).arrAt 12 cfg0.N (ix2 (rowOf t i) d) := by
    blk_point [idx12 t]
  refine e.symm.trans ((congrFun ((Value.blocks12 m c t (flush0_12 t)).trans (Value.flushed12 m c t)) (ix2 i d)).trans ?_)
  refine (out12 _ _ _ _ _ _ i d).trans ?_
  rw [bp_row]

/-- The attention's output gate. -/
theorem arr13 (r : Fin 512) (d : Fin 1024) : (dats m 0 c).arrAt 13 cfg0.N (ix2 r d)
    = Ideal.logistic (pr m c r (4608 + d.val)) := by
  obtain ⟨t, i, rfl⟩ := row_cases r
  have e : ((cfg0.win 13).blk t).view.read (Elt Ideal) ((dats m 0 c).arrAt 13 cfg0.N) (ix2 i d)
      = (dats m 0 c).arrAt 13 cfg0.N (ix2 (rowOf t i) d) := by
    blk_point [idx13 t]
  refine e.symm.trans ((congrFun ((Value.blocks13 m c t (flush0_13 t)).trans (Value.flushed13 m c t)) (ix2 i d)).trans ?_)
  refine (out13 _ _ _ _ _ _ i d).trans ?_
  rw [bp_row]

/-- The retention's output gate. -/
theorem arr14 (r : Fin 512) (d : Fin 1024) : (dats m 0 c).arrAt 14 cfg0.N (ix2 r d)
    = Ideal.logistic (pr m c r (5632 + d.val)) := by
  obtain ⟨t, i, rfl⟩ := row_cases r
  have e : ((cfg0.win 14).blk t).view.read (Elt Ideal) ((dats m 0 c).arrAt 14 cfg0.N) (ix2 i d)
      = (dats m 0 c).arrAt 14 cfg0.N (ix2 (rowOf t i) d) := by
    blk_point [idx14 t]
  refine e.symm.trans ((congrFun ((Value.blocks14 m c t (flush0_14 t)).trans (Value.flushed14 m c t)) (ix2 i d)).trans ?_)
  refine (out14 _ _ _ _ _ _ i d).trans ?_
  rw [bp_row]

/-- The new attention keys. -/
theorem arr15 (r : Fin 512) (d : Fin 512) : (dats m 0 c).arrAt 15 cfg0.N (ix2 r d)
    = pr m c r (512 + d.val) := by
  obtain ⟨t, i, rfl⟩ := row_cases r
  have e : ((cfg0.win 15).blk t).view.read (Elt Ideal) ((dats m 0 c).arrAt 15 cfg0.N) (ix2 i d)
      = (dats m 0 c).arrAt 15 cfg0.N (ix2 (rowOf t i) d) := by
    blk_point [idx15 t]
  refine e.symm.trans ((congrFun ((Value.blocks15 m c t (flush0_15 t)).trans (Value.flushed15 m c t)) (ix2 i d)).trans ?_)
  refine (out15 _ _ _ _ _ _ i d).trans ?_
  rw [bp_row]

/-- The new attention values. -/
theorem arr16 (r : Fin 512) (d : Fin 512) : (dats m 0 c).arrAt 16 cfg0.N (ix2 r d)
    = pr m c r (1024 + d.val) := by
  obtain ⟨t, i, rfl⟩ := row_cases r
  have e : ((cfg0.win 16).blk t).view.read (Elt Ideal) ((dats m 0 c).arrAt 16 cfg0.N) (ix2 i d)
      = (dats m 0 c).arrAt 16 cfg0.N (ix2 (rowOf t i) d) := by
    blk_point [idx16 t]
  refine e.symm.trans ((congrFun ((Value.blocks16 m c t (flush0_16 t)).trans (Value.flushed16 m c t)) (ix2 i d)).trans ?_)
  refine (out16 _ _ _ _ _ _ i d).trans ?_
  rw [bp_row]

end Cert.Projections.Sample
-- ==== Proof.SampRef.lean ====
/- The plain statement of the sample rows' projections: its arrays, entry by entry. -/
module

public import proofs.«01_k».proof.Proof.SampBlock
public import proofs.«01_k».proof.Proof.InRef
public import proofs.«01_k».proof.Proof.Inputs
public import proofs.«01_k».proof.Proof.Consts
public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Projections.Sample

open Idealize.ShloMosaic Idealize.ShloMosaic.TcCoe Idealize.SL.Sem
open Cert.Reference3Ideal Cert.Reference3Ideal.Gen

variable (x : FVec Ideal S32x16x1024 .f32) (md : FVec Ideal S32x6144 .f32) (g : FVec Ideal S1024 .f32)
  (w : FVec Ideal S1024x6656 .f32)

/-! ## The projections -/

/-- The normalised and modulated rows. -/
def rN : FVec Ideal S32x16x1024 .f32 :=
  (addf (mulf (mulf (mulf x (broadcastInDim S32x16x1024 ![0, 1, 2] bcast_S32x16x1_S32x16x1024_0_1_2 (Host.rsqrt (addf (Host.divf (broadcastInDim S32x16x1 ![0, 1] bcast_S32x16_S32x16x1_0_1 (Host.reduceAdd (mulf x x) (constant S_ .f32 0x00000000#32) reducesTo_S32x16x1024_S32x16_d2 h_S_)) (broadcastInDim S32x16x1 ![] bcast_S_S32x16x1 (constant S_ .f32 0x44800000#32))) (broadcastInDim S32x16x1 ![] bcast_S_S32x16x1 (constant S_ .f32 0x358637BD#32)))))) (broadcastInDim S32x16x1024 ![0, 1, 2] bcast_S1x1x1024_S32x16x1024_0_1_2 (broadcastInDim S1x1x1024 ![2] bcast_S1024_S1x1x1024_2 g))) (broadcastInDim S32x16x1024 ![0, 1, 2] bcast_S32x1x1024_S32x16x1024_0_1_2 (addf (broadcastInDim S32x1x1024 ![] bcast_S_S32x1x1024 (constant S_ .f32 0x3F800000#32)) (extractStridedSlice S32x1x1024 ![0, 0, 1024] (broadcastInDim S32x1x6144 ![0, 2] bcast_S32x6144_S32x1x6144_0_2 md) slices_S32x1x6144_S32x1x1024_0_0_1024)))) (broadcastInDim S32x16x1024 ![0, 1, 2] bcast_S32x1x1024_S32x16x1024_0_1_2 (extractStridedSlice S32x1x1024 ![0, 0, 0] (broadcastInDim S32x1x6144 ![0, 2] bcast_S32x6144_S32x1x6144_0_2 md) slices_S32x1x6144_S32x1x1024_0_0_0)))

/-- The projections. -/
def rP : FVec Ideal S32x16x6656 .f32 := Host.dotGeneral dot_S32x16x1024_S1024x6656_S32x16x6656_2_0_01_1_n_n none (rN x md g) w

theorem rN_apply (b : Fin 32) (s : Fin 16) (k : Fin 1024) : rN x md g (ix3 b s k)
    = nrow (fun k => x (ix3 b s k)) (fun k => g (ix1 k)) (fun k => md (ix2 b (Fin.ofNat 6144 (1024 + k.val))))
      (fun k => md (ix2 b (Fin.ofNat 6144 k.val))) k := by
  have e : ∀ (n : ℕ) (h : n < 6144), md (ix2 b ⟨n, h⟩) = md (ix2 b (Fin.ofNat 6144 n)) :=
    fun n h => congrArg (fun q => md (ix2 b q)) (Fin.ext (Nat.mod_eq_of_lt h).symm)
  unfold rN
  pointwise
  unfold nrow
  exact congrArg₂ (fun u v => _ * (1 + u) + v) (e _ _) (e _ _)

theorem rP_apply (b : Fin 32) (s : Fin 16) (j : Fin 6656) : rP x md g w (ix3 b s j)
    = projAt (fun b s k => x (ix3 b s k)) (fun b k => md (ix2 b k)) (fun k => g (ix1 k)) (fun k j => w (ix2 k j)) b s j.val := by
  unfold rP projAt prj
  pointwise
  refine Finset.sum_congr rfl fun k _ => ?_
  rw [rN_apply]
  exact congrArg (fun q => _ * w (ix2 k q)) (Fin.ext (Nat.mod_eq_of_lt j.isLt).symm)

/-- The projection of the given arguments by the results' row. -/
def rpr (r : Fin 512) (j : ℕ) : EReal :=
  proj (fun b s k => x (ix3 b s k)) (fun b k => md (ix2 b k)) (fun k => g (ix1 k)) (fun k j => w (ix2 k j)) r j

theorem rP_row (b : Fin 32) (s : Fin 16) (j : Fin 6656) (r : Fin 512) (n : ℕ) (hb : b.val = r.val / 16)
    (hs : s.val = r.val % 16) (hj : j.val = n) : rP x md g w (ix3 b s j) = rpr x md g w r n := by
  subst hj
  exact (rP_apply x md g w b s j).trans (proj_row _ _ _ _ b s r j.val hb hs)

/-! ## The results that are a projection, scaled or gated -/

theorem ref_q (r : Fin 512) (d : Fin 512) :
    (truncf .bf16 (shapeCast S512x512 (mulf (extractStridedSlice S32x16x512 ![0, 0, 0] (rP x md g w) slices_S32x16x6656_S32x16x512_0_0_0) (broadcastInDim S32x16x512 ![] bcast_S_S32x16x512 (id (Host.divf (constant S_ .f32 0x3E000000#32) (Host.log (constant S_ .f32 0x40000000#32)))))) shapeCasts_S32x16x512_S512x512) bitsLt_bf16_f32 : FVec Ideal S512x512 .bf16) (ix2 r d)
      = rpr x md g w r d.val * qs := by
  simp only [id_eq]
  pointwise
  exact congrArg₂ (· * ·) (rP_row x md g w _ _ _ r _ rfl rfl (by simp only)) div_log

/-- 512 columns. -/
theorem ref_part512 (o : ℕ) (ho : S32x16x6656.Slices ![0, 0, o] S32x16x512) (r : Fin 512) (d : Fin 512) :
    (truncf .bf16 (shapeCast S512x512 (extractStridedSlice S32x16x512 ![0, 0, o] (rP x md g w) ho) shapeCasts_S32x16x512_S512x512) bitsLt_bf16_f32 : FVec Ideal S512x512 .bf16) (ix2 r d)
      = rpr x md g w r (o + d.val) := by
  pointwise
  exact rP_row x md g w _ _ _ r _ rfl rfl rfl

/-- 1024 columns. -/
theorem ref_part1024 (o : ℕ) (ho : S32x16x6656.Slices ![0, 0, o] S32x16x1024) (r : Fin 512) (d : Fin 1024) :
    (truncf .bf16 (shapeCast S512x1024 (extractStridedSlice S32x16x1024 ![0, 0, o] (rP x md g w) ho) shapeCasts_S32x16x1024_S512x1024) bitsLt_bf16_f32 : FVec Ideal S512x1024 .bf16) (ix2 r d)
      = rpr x md g w r (o + d.val) := by
  pointwise
  exact rP_row x md g w _ _ _ r _ rfl rfl rfl

/-- A gate: the logistic function of 1024 columns. -/
theorem ref_gate (o : ℕ) (ho : S32x16x6656.Slices ![0, 0, o] S32x16x1024) (r : Fin 512) (d : Fin 1024) :
    (truncf .bf16 (shapeCast S512x1024 (Host.divf (broadcastInDim S32x16x1024 ![] bcast_S_S32x16x1024 (constant S_ .f32 0x3F800000#32)) (addf (broadcastInDim S32x16x1024 ![] bcast_S_S32x16x1024 (constant S_ .f32 0x3F800000#32)) (Host.exp (Host.negf (extractStridedSlice S32x16x1024 ![0, 0, o] (rP x md g w) ho))))) shapeCasts_S32x16x1024_S512x1024) bitsLt_bf16_f32 : FVec Ideal S512x1024 .bf16) (ix2 r d)
      = Ideal.logistic (rpr x md g w r (o + d.val)) := by
  pointwise
  exact congrArg Ideal.logistic (rP_row x md g w _ _ _ r _ rfl rfl rfl)

/-- 1024 columns times their logistic function. -/
theorem ref_silu (o : ℕ) (ho : S32x16x6656.Slices ![0, 0, o] S32x16x1024) (r : Fin 512) (d : Fin 1024) :
    (truncf .bf16 (shapeCast S512x1024 (mulf (extractStridedSlice S32x16x1024 ![0, 0, o] (rP x md g w) ho) (Host.divf (broadcastInDim S32x16x1024 ![] bcast_S_S32x16x1024 (constant S_ .f32 0x3F800000#32)) (addf (broadcastInDim S32x16x1024 ![] bcast_S_S32x16x1024 (constant S_ .f32 0x3F800000#32)) (Host.exp (Host.negf (extractStridedSlice S32x16x1024 ![0, 0, o] (rP x md g w) ho)))))) shapeCasts_S32x16x1024_S512x1024) bitsLt_bf16_f32 : FVec Ideal S512x1024 .bf16) (ix2 r d)
      = rpr x md g w r (o + d.val) * Ideal.logistic (rpr x md g w r (o + d.val)) := by
  pointwise
  exact congrArg (fun p => p * Ideal.logistic p) (rP_row x md g w _ _ _ r _ rfl rfl rfl)

/-- 512 columns, kept as they are. -/
theorem ref_kept (o : ℕ) (ho : S32x16x6656.Slices ![0, 0, o] S32x16x512) (r : Fin 512) (d : Fin 512) :
    (shapeCast S512x512 (extractStridedSlice S32x16x512 ![0, 0, o] (rP x md g w) ho) shapeCasts_S32x16x512_S512x512 : FVec Ideal S512x512 .f32) (ix2 r d)
      = rpr x md g w r (o + d.val) := by
  pointwise
  exact rP_row x md g w _ _ _ r _ rfl rfl rfl

/-! ## The rotary embedding -/

/-- The table of angles. -/
def rAng : FVec Ideal S16x32 .f32 :=
  mulf (broadcastInDim S16x32 ![0, 1] bcast_S16x1_S16x32_0_1 (broadcastInDim S16x1 ![0] bcast_S16_S16x1_0 (addf (broadcastInDim S16 ![] bcast_S_S16 (constant S_ .f32 0x45800000#32)) (sitofp .f32 (iotaInDim S16 32 0))))) (broadcastInDim S16x32 ![0, 1] bcast_S1x32_S16x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem rAng_apply (s : Fin 16) (l : Fin 32) : rAng (ix2 s l) = ang s l := by
  unfold rAng
  pointwise
  rfl

/-- A table of rows and half heads, the same for every sequence and head. -/
def rTab (t : FVec Ideal S16x32 .f32) : FVec Ideal S32x16x8x32 .f32 :=
  broadcastInDim S32x16x8x32 ![0, 1, 2, 3] bcast_S1x16x1x32_S32x16x8x32_0_1_2_3 (broadcastInDim S1x16x1x32 ![1, 3] bcast_S16x32_S1x16x1x32_1_3 t)

theorem rTab_apply (t : FVec Ideal S16x32 .f32) (b : Fin 32) (s : Fin 16) (h : Fin 8) (l : Fin 32) :
    rTab t (ix4 b s h l) = t (ix2 s l) := by
  unfold rTab
  pointwise

/-- The heads turned. -/
def rRot (y : FVec Ideal S32x16x8x64 .f32) : FVec Ideal S32x16x8x64 .f32 :=
  concatenate S32x16x8x64 3 [⟨S32x16x8x32, subf (mulf (extractStridedSlice S32x16x8x32 ![0, 0, 0, 0] y slices_S32x16x8x64_S32x16x8x32_0_0_0_0) (rTab (Host.cos rAng)))
      (mulf (extractStridedSlice S32x16x8x32 ![0, 0, 0, 32] y slices_S32x16x8x64_S32x16x8x32_0_0_0_32) (rTab (Host.sin rAng)))⟩,
    ⟨S32x16x8x32, addf (mulf (extractStridedSlice S32x16x8x32 ![0, 0, 0, 0] y slices_S32x16x8x64_S32x16x8x32_0_0_0_0) (rTab (Host.sin rAng)))
      (mulf (extractStridedSlice S32x16x8x32 ![0, 0, 0, 32] y slices_S32x16x8x64_S32x16x8x32_0_0_0_32) (rTab (Host.cos rAng)))⟩]
    concatenates_S32x16x8x32_S32x16x8x32_S32x16x8x64_d3

theorem rCos_apply (b : Fin 32) (s : Fin 16) (h : Fin 8) (l : Fin 32) : rTab (Host.cos rAng) (ix4 b s h l) = Ideal.cos (ang s l) := by
  rw [rTab_apply, ← rAng_apply]
  pointwise

theorem rSin_apply (b : Fin 32) (s : Fin 16) (h : Fin 8) (l : Fin 32) : rTab (Host.sin rAng) (ix4 b s h l) = Ideal.sin (ang s l) := by
  rw [rTab_apply, ← rAng_apply]
  pointwise

theorem rRot_apply (y : FVec Ideal S32x16x8x64 .f32) (p : ℕ → EReal) (b : Fin 32) (s : Fin 16) (h : Fin 8)
    (hy : ∀ l : Fin 64, y (ix4 b s h l) = p (64 * h.val + l.val)) (l : Fin 64) :
    rRot y (ix4 b s h l) = rope p (fun l => Ideal.cos (ang s l)) (fun l => Ideal.sin (ang s l)) (64 * h.val + l.val) := by
  have Y : ∀ (n : ℕ) (hn : n < 64) (n' : ℕ), 64 * h.val + n = n' → y (ix4 b s h ⟨n, hn⟩) = p n' :=
    fun n hn _ e => (hy ⟨n, hn⟩).trans (congrArg p e)
  have A : ∀ (n : ℕ) (hn : n < 32), n = (64 * h.val + l.val) % 32 → (⟨n, hn⟩ : Fin 32) = Fin.ofNat 32 (64 * h.val + l.val) :=
    fun _ _ e => Fin.ext e
  have C : ∀ (n : ℕ) (hn : n < 32), n = (64 * h.val + l.val) % 32 →
      rTab (Host.cos rAng) (ix4 b s h ⟨n, hn⟩) = Ideal.cos (ang s (Fin.ofNat 32 (64 * h.val + l.val))) :=
    fun n hn e => (rCos_apply b s h _).trans (congrArg (fun a => Ideal.cos (ang s a)) (A n hn e))
  have S : ∀ (n : ℕ) (hn : n < 32), n = (64 * h.val + l.val) % 32 →
      rTab (Host.sin rAng) (ix4 b s h ⟨n, hn⟩) = Ideal.sin (ang s (Fin.ofNat 32 (64 * h.val + l.val))) :=
    fun n hn e => (rSin_apply b s h _).trans (congrArg (fun a => Ideal.sin (ang s a)) (A n hn e))
  have hl64 := l.isLt
  unfold rRot rope
  pointwise
  by_cases hl : l.val < 32
  · rw [if_pos (by omega : (64 * h.val + l.val) % 64 < 32)]
    refine (dif_pos hl).trans ?_
    exact congrArg₂ (· - ·) (congrArg₂ (· * ·) (Y _ _ _ rfl) (C _ _ (by omega)))
      (congrArg₂ (· * ·) (Y _ _ _ (by omega)) (S _ _ (by omega)))
  · rw [if_neg (by omega : ¬(64 * h.val + l.val) % 64 < 32)]
    refine (dif_neg hl).trans ?_
    exact congrArg₂ (· + ·) (congrArg₂ (· * ·) (Y _ _ _ (by omega)) (S _ _ (by omega)))
      (congrArg₂ (· * ·) (Y _ _ _ (by omega)) (C _ _ (by omega)))

/-- The heads of 512 columns. -/
def rH (o : ℕ) (ho : S32x16x6656.Slices ![0, 0, o] S32x16x512) : FVec Ideal S32x16x8x64 .f32 :=
  shapeCast S32x16x8x64 (extractStridedSlice S32x16x512 ![0, 0, o] (rP x md g w) ho) shapeCasts_S32x16x512_S32x16x8x64

theorem rH_row (o : ℕ) (ho : S32x16x6656.Slices ![0, 0, o] S32x16x512) (b : Fin 32) (s : Fin 16) (h : Fin 8) (l : Fin 64)
    (r : Fin 512) (hb : b.val = r.val / 16) (hs : s.val = r.val % 16) :
    rH x md g w o ho (ix4 b s h l) = rpr x md g w r (o + (64 * h.val + l.val)) := by
  unfold rH
  pointwise
  exact rP_row x md g w _ _ _ r _ hb hs (by show o + _ = _; omega)

/-- The turned heads by the results' row. -/
theorem rRot_row (o : ℕ) (ho : S32x16x6656.Slices ![0, 0, o] S32x16x512) (b : Fin 32) (s : Fin 16) (h : Fin 8) (l : Fin 64)
    (r : Fin 512) (d : ℕ) (hb : b.val = r.val / 16) (hs : s.val = r.val % 16) (hd : 64 * h.val + l.val = d) :
    rRot (rH x md g w o ho) (ix4 b s h l)
      = rotated (fun b s k => x (ix3 b s k)) (fun b k => md (ix2 b k)) (fun k => g (ix1 k)) (fun k j => w (ix2 k j)) o r d := by
  subst hd
  have es : Fin.ofNat 16 r.val = s := Fin.ext hs.symm
  refine (rRot_apply _ (fun j => rpr x md g w r (o + j)) b s h (fun l => rH_row x md g w o ho b s h l r hb hs) l).trans ?_
  unfold rotated
  rw [es]
  rfl

theorem ref_qr (ho : S32x16x6656.Slices ![0, 0, 1536] S32x16x512) (r : Fin 512) (d : Fin 512) :
    (truncf .bf16 (shapeCast S512x512 (rRot (rH x md g w 1536 ho)) shapeCasts_S32x16x8x64_S512x512) bitsLt_bf16_f32 : FVec Ideal S512x512 .bf16) (ix2 r d)
      = rotated (fun b s k => x (ix3 b s k)) (fun b k => md (ix2 b k)) (fun k => g (ix1 k)) (fun k j => w (ix2 k j)) 1536 r d.val := by
  pointwise
  exact rRot_row x md g w 1536 ho _ _ _ _ r d.val rfl rfl (by simp only; omega)

theorem ref_kr (ho : S32x16x6656.Slices ![0, 0, 2048] S32x16x512) (r : Fin 512) (d : Fin 512) :
    (truncf .bf16 (shapeCast S512x512 (mulf (rRot (rH x md g w 2048 ho)) (broadcastInDim S32x16x8x64 ![] bcast_S_S32x16x8x64 (constant S_ .f32 0x3E000000#32))) shapeCasts_S32x16x8x64_S512x512) bitsLt_bf16_f32 : FVec Ideal S512x512 .bf16) (ix2 r d)
      = rotated (fun b s k => x (ix3 b s k)) (fun b k => md (ix2 b k)) (fun k => g (ix1 k)) (fun k j => w (ix2 k j)) 2048 r d.val
        * Ideal.ofBits .f32 0x3E000000#32 := by
  pointwise
  exact congrArg (· * Ideal.ofBits .f32 0x3E000000#32) (rRot_row x md g w 2048 ho _ _ _ _ r d.val rfl rfl (by simp only; omega))

end Cert.Projections.Sample
-- ==== Proof.SampAlg.lean ====
/- The sample rows' projections: the kernel's eleven results are the plain statement's, and the programs' frames. -/
module

public import proofs.«01_k».proof.Defs
public import proofs.«01_k».proof.Proof.SampOut
public import proofs.«01_k».proof.Proof.SampRef
public import proofs.«01_k».proof.Proof.Gen.Kernel3
public import proofs.«01_k».proof.Proof.Gen.Kernel3.Frame
public import proofs.«01_k».proof.Proof.Gen.Reference3Ideal
public import Idealize.ShloMosaic.Adequacy
public import Idealize.ShloMosaic.Init

@[expose] public section

set_option maxRecDepth 16384

noncomputable section

namespace Cert.Projections.Sample

open Idealize.ShloMosaic Idealize.ShloMosaic.TcCoe Idealize.SL.Sem
open Cert.Retention (ext2)

/-- The sample rows' plain statement runs and keeps its arguments. -/
theorem frame_reference : Cert.quiescent_Reference3Ideal := fun m ρ _ =>
  (θ_run Cert.Reference3Ideal.defs _ _).mono
    (fun r h => ⟨fun c => (h c).2.2.2.2.2.2.2.2.2.2.2, sem_eq_zero_of_no_sems (by decide) r.2⟩)
    (Cert.Reference3Ideal.Value.run (F := Ideal) m ρ)

/-- The named constant is the value it is named with. -/
theorem preserves : Cert.preserves_Kernel3_Kernel3Ideal := IdealRules.named_const.statement _ _ _ _ _ rfl

theorem times_one (z : EReal) : z = z * Ideal.ofBits .f32 0x3F800000#32 := by rw [Ideal.ofBits_one_f32, mul_one]

section
variable {m : (ℓ : Loc Cert.Kernel3Ideal.nD Cert.Kernel3Ideal.τ Cert.Kernel3Ideal.sig) → Buf (Elt Ideal) ℓ}
  {m' : (ℓ : Loc Cert.Reference3Ideal.nD Cert.Reference3Ideal.τ Cert.Reference3Ideal.sig) → Buf (Elt Ideal) ℓ}
  {c : Dev Cert.Kernel3Ideal.nD}

/-- Of equal arguments the projections are the same. -/
theorem rpr_eq
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (r : Fin 512) (j : ℕ) : rpr (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) r j = pr m c r j := by
  rw [h0, h1, h2, h3]
  rfl

/-- And so are the rotated heads. -/
theorem rotated_eq
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (o : ℕ) (r : Fin 512) (d : ℕ) :
    rotated (fun b s k => ((m' ((c.tc : Thread Cert.Reference3Ideal.nD Cert.Reference3Ideal.τ).loc Cert.Reference3Ideal.main_arg0)) : Vec Ideal Cert.Reference3Ideal.S32x16x1024 .f32) (ix3 b s k))
      (fun b k => ((m' ((c.tc : Thread Cert.Reference3Ideal.nD Cert.Reference3Ideal.τ).loc Cert.Reference3Ideal.main_arg1)) : Vec Ideal Cert.Reference3Ideal.S32x6144 .f32) (ix2 b k))
      (fun k => ((m' ((c.tc : Thread Cert.Reference3Ideal.nD Cert.Reference3Ideal.τ).loc Cert.Reference3Ideal.main_arg2)) : Vec Ideal Cert.Reference3Ideal.S1024 .f32) (ix1 k))
      (fun k j => ((m' ((c.tc : Thread Cert.Reference3Ideal.nD Cert.Reference3Ideal.τ).loc Cert.Reference3Ideal.main_arg3)) : Vec Ideal Cert.Reference3Ideal.S1024x6656 .f32) (ix2 k j)) o r d
      = rot m c o r d := by
  rw [h0, h1, h2, h3]
  rfl
end

set_option maxHeartbeats 600000 in
/-- The kernel's eleven results and the plain statement's are equal. -/
theorem algebraic : Cert.algebraic_Kernel3Ideal_Reference3Ideal := by
  intro m ρ m' ρ' _ hag
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N,
    Cert.Kernel3Ideal.Value.run_blocks m ρ,
    (θ_run Cert.Reference3Ideal.defs _ _).mono (fun r h c => ?_) (Cert.Reference3Ideal.Value.run (F := Ideal) m' ρ')⟩
  obtain ⟨h0, h1, h2, h3⟩ := hag c
  obtain ⟨e6, e7, e8, e9, e10, e11, e12, e13, e14, e15, e16, ha⟩ := h c
  have P := fun r j => rpr_eq h0 h1 h2 h3 r j
  have R := fun o r d => rotated_eq h0 h1 h2 h3 o r d
  refine ⟨e6.trans (ext2 fun r d => ?_), e7.trans (ext2 fun r d => ?_), e8.trans (ext2 fun r d => ?_), e9.trans (ext2 fun r d => ?_), e10.trans (ext2 fun r d => ?_), e11.trans (ext2 fun r d => ?_), e12.trans (ext2 fun r d => ?_), e13.trans (ext2 fun r d => ?_), e14.trans (ext2 fun r d => ?_), e15.trans (ext2 fun r d => ?_), e16.trans (ext2 fun r d => ?_), ha⟩
  · exact (ref_q _ _ _ _ r d).trans ((congrArg (· * qs) (P r _)).trans (arr6 m c r d).symm)
  · exact (ref_part512 _ _ _ _ 512 _ r d).trans ((P r _).trans (arr7 m c r d).symm)
  · exact (ref_part512 _ _ _ _ 1024 _ r d).trans ((P r _).trans (arr8 m c r d).symm)
  · exact (ref_qr _ _ _ _ _ r d).trans (((R _ r _).trans (times_one _)).trans (arr9 m c r d).symm)
  · exact (ref_kr _ _ _ _ _ r d).trans ((congrArg (· * Ideal.ofBits .f32 0x3E000000#32) (R _ r _)).trans (arr10 m c r d).symm)
  · exact (ref_part1024 _ _ _ _ 2560 _ r d).trans ((P r _).trans (arr11 m c r d).symm)
  · exact (ref_silu _ _ _ _ 3584 _ r d).trans ((congrArg (fun p => p * Ideal.logistic p) (P r _)).trans (arr12 m c r d).symm)
  · exact (ref_gate _ _ _ _ 4608 _ r d).trans ((congrArg Ideal.logistic (P r _)).trans (arr13 m c r d).symm)
  · exact (ref_gate _ _ _ _ 5632 _ r d).trans ((congrArg Ideal.logistic (P r _)).trans (arr14 m c r d).symm)
  · exact (ref_kept _ _ _ _ 512 _ r d).trans ((P r _).trans (arr15 m c r d).symm)
  · exact (ref_kept _ _ _ _ 1024 _ r d).trans ((P r _).trans (arr16 m c r d).symm)

end Cert.Projections.Sample
-- ==== Proof.PostMath.lean ====
/- What follows the mixing as functions of a row: the two branches' outputs gated and projected, the residual row, its
   normalised and modulated form, and the shared expert added to it. -/
module

public import proofs.«01_k».proof.Proof.InMath

@[expose] public section

noncomputable section

namespace Cert.AfterMixing

open Idealize.ShloMosaic

/-- The weights: the branches' output projections, the mixing's, the norm's gain, and the shared expert's three. -/
structure Weights where
  oa : Fin 512 → Fin 1024 → EReal
  or : Fin 1024 → Fin 1024 → EReal
  out : Fin 1024 → Fin 1024 → EReal
  g : Fin 1024 → EReal
  gate : Fin 1024 → Fin 256 → EReal
  up : Fin 1024 → Fin 256 → EReal
  down : Fin 256 → Fin 1024 → EReal

/-- A token's row: the attention's and the retention's outputs, the two gates, the residual, and the modulation. -/
structure Row where
  oa : Fin 512 → EReal
  yr : Fin 1024 → EReal
  ga : Fin 1024 → EReal
  gb : Fin 1024 → EReal
  x : Fin 1024 → EReal
  md : Fin 6 → Fin 1024 → EReal

variable (r : Row) (w : Weights)

/-- The gated sum of the two branches. -/
def gated (k : Fin 1024) : EReal := r.ga k * (∑ l, r.oa l * w.oa l k) + r.gb k * ∑ l, r.yr l * w.or l k

/-- The row with the mixing added. -/
def hrow (d : Fin 1024) : EReal := r.x d + r.md 2 d * ∑ k, gated r w k * w.out k d

/-- That row normalised and modulated. -/
def n2 (k : Fin 1024) : EReal := Projections.nrow (hrow r w) w.g (r.md 4) (r.md 3) k

/-- The shared expert's hidden row. -/
def hid (j : Fin 256) : EReal :=
  (∑ k, n2 r w k * w.gate k j) * Ideal.logistic (∑ k, n2 r w k * w.gate k j) * ∑ k, n2 r w k * w.up k j

/-- The row with the shared expert added. -/
def shared (d : Fin 1024) : EReal := hrow r w d + r.md 5 d * ∑ j, hid r w j * w.down j d

/-! ## The rows of the whole input -/

section
variable {N B S : ℕ} (oa : Fin N → Fin 512 → EReal) (yr ga gb : Fin N → Fin 1024 → EReal)
  (x : Fin B → Fin S → Fin 1024 → EReal) (md : Fin B → Fin 6144 → EReal)

/-- Row `s` of sequence `b`, which is row `n` of the arrays without sequences. -/
def rowAt (b : Fin B) (s : Fin S) (n : Fin N) : Row :=
  ⟨oa n, yr n, ga n, gb n, x b s, fun o k => md b (Fin.ofNat 6144 (o.val * 1024 + k.val))⟩
end

end Cert.AfterMixing
-- ==== Proof.PostRow.lean ====
/- The kernel's arithmetic on a block of 512 rows, row by row. -/
module

public import proofs.«01_k».proof.Proof.PostMath
public import proofs.«01_k».proof.Proof.Gen.Kernel4Ideal.Skeleton
public import Idealize.ShloMosaic.Lib.Pointwise

@[expose] public section

set_option maxRecDepth 16384

noncomputable section

namespace Cert.AfterMixing

open Idealize.ShloMosaic Idealize.ShloMosaic.TcCoe Idealize.SL.Sem
open Cert.Kernel4Ideal Cert.Kernel4Ideal.Gen

variable (oa : FVec Ideal S512x512 .bf16) (woa : FVec Ideal S512x1024 .bf16) (yr : FVec Ideal S512x1024 .bf16)
  (wor : FVec Ideal S1024x1024 .bf16) (ga gb : FVec Ideal S512x1024 .bf16) (wout : FVec Ideal S1024x1024 .bf16)
  (x : FVec Ideal S512x1024 .f32) (m2 m3 m4 m5 : FVec Ideal S1x1x1x1024 .f32) (g : FVec Ideal S1x1024 .f32)
  (wg wu : FVec Ideal S1024x256 .bf16) (wd : FVec Ideal S256x1024 .bf16)

variable (i : Fin 512) (r : Row) (w : Weights)
  (hoa : ∀ l, oa (ix2 i l) = r.oa l) (hyr : ∀ l, yr (ix2 i l) = r.yr l) (hga : ∀ l, ga (ix2 i l) = r.ga l)
  (hgb : ∀ l, gb (ix2 i l) = r.gb l) (hx : ∀ l, x (ix2 i l) = r.x l)
  (hm2 : ∀ l, m2 (ix4 0 0 0 l) = r.md 2 l) (hm3 : ∀ l, m3 (ix4 0 0 0 l) = r.md 3 l) (hm4 : ∀ l, m4 (ix4 0 0 0 l) = r.md 4 l)
  (hm5 : ∀ l, m5 (ix4 0 0 0 l) = r.md 5 l) (hwoa : ∀ k l, woa (ix2 k l) = w.oa k l) (hwor : ∀ k l, wor (ix2 k l) = w.or k l)
  (hwout : ∀ k l, wout (ix2 k l) = w.out k l) (hg : ∀ l, g (ix2 0 l) = w.g l) (hwg : ∀ k l, wg (ix2 k l) = w.gate k l)
  (hwu : ∀ k l, wu (ix2 k l) = w.up k l) (hwd : ∀ k l, wd (ix2 k l) = w.down k l)

include hoa hyr hga hgb hx hm2 hwoa hwor hwout in
/-- The row with the mixing added. -/
theorem pay_h (d : Fin 1024) : k0_pay2 (F := Ideal) oa woa yr wor ga gb wout x m2 (ix2 i d) = hrow r w d := by
  unfold k0_pay2
  pointwise
  simp only [hoa, hyr, hga, hgb, hx, hm2, hwoa, hwor, hwout]
  rfl

include hm3 hm4 hg in
/-- The normalised and modulated row, of any row `H` and its sum of squares. -/
theorem pay_n2 (H : FVec Ideal S512x1024 .f32) (Q : FVec Ideal S512x1 .f32) (hH : ∀ d, H (ix2 i d) = hrow r w d)
    (hQ : Q (ix2 i 0) = ∑ l, hrow r w l * hrow r w l) (k : Fin 1024) : k0_pay4 H Q g m4 m3 (ix2 i k) = n2 r w k := by
  unfold k0_pay4
  pointwise
  simp only [hH, hQ, hm3, hm4, hg]
  rfl

include hoa hyr hga hgb hx hm2 hwoa hwor hwout in
theorem pay_sq : k0_pay3 (F := Ideal) oa woa yr wor ga gb wout x m2 (ix2 i 0) = ∑ l, hrow r w l * hrow r w l := by
  unfold k0_pay3
  pointwise
  simp only [pay_h oa woa yr wor ga gb wout x m2 i r w hoa hyr hga hgb hx hm2 hwoa hwor hwout]

include hm3 hm4 hg hwg hwu in
theorem pay_hid (H : FVec Ideal S512x1024 .f32) (Q : FVec Ideal S512x1 .f32) (hH : ∀ d, H (ix2 i d) = hrow r w d)
    (hQ : Q (ix2 i 0) = ∑ l, hrow r w l * hrow r w l) (j : Fin 256) : k0_pay7 H Q g m4 m3 wg wu (ix2 i j) = hid r w j := by
  unfold k0_pay7 k0_pay5
  pointwise
  simp only [pay_n2 m3 m4 g i r w hm3 hm4 hg H Q hH hQ, hwg, hwu]
  rfl

include hm5 hwd in
theorem pay_shared (H : FVec Ideal S512x1024 .f32) (D : FVec Ideal S512x256 .f32) (hH : ∀ d, H (ix2 i d) = hrow r w d)
    (hD : ∀ j, D (ix2 i j) = hid r w j) (d : Fin 1024) : k0_pay8 H D m5 wd (ix2 i d) = shared r w d := by
  unfold k0_pay8
  pointwise
  simp only [hH, hD, hm5, hwd]
  rfl

end Cert.AfterMixing
-- ==== Proof.PostCase.lean ====
/- What a grid point leaves of the rows with the shared expert added, at the first point and at the later ones. -/
module

public import proofs.«01_k».proof.Proof.PostRow
public import proofs.«01_k».proof.Proof.Gen.Kernel4Ideal.Frame
public import Idealize.ShloMosaic.Lib.Pipeline.Value

@[expose] public section

set_option maxRecDepth 16384

noncomputable section

namespace Cert.AfterMixing

open Idealize.ShloMosaic Idealize.ShloMosaic.TcCoe Idealize.SL.Sem
open Cert.Kernel4Ideal Cert.Kernel4Ideal.Gen

theorem zero2 : (![0, 0] : Fin 2 → Nat) = fun _ => 0 := funext fun a => by fin_cases a <;> rfl

variable {F : FTy → Type} [FloatOps F] [Named F]

section
variable (x0 : Vec F S512x512 .bf16) (x1 x2 x3 : Vec F S512x1024 .bf16) (x4 : Vec F S512x1024 .f32) (x5 : Vec F S1x6x1x1024 .f32)
  (x6 : Vec F S1x1024 .f32) (x7 : Vec F S512x1024 .bf16) (x8 x9 : Vec F S1024x1024 .bf16) (x12 x13 : Vec F S1024x256 .bf16)
  (x14 : Vec F S256x1024 .bf16)

/-- The block with the mixing added. -/
def H : FVec F S512x1024 .f32 :=
  k0_pay2 x0 x7 x1 x8 x2 x3 x9 x4 (View.ld x5 (Rect.unit (s := S1x6x1x1024) ![0, 2, 0, 0] S1x1x1x1024.size inb_S1x6x1x1024_S1x1x1x1024_0_2_0_0))

/-- Its rows' sums of squares. -/
def Q : FVec F S512x1 .f32 :=
  k0_pay3 x0 x7 x1 x8 x2 x3 x9 x4 (View.ld x5 (Rect.unit (s := S1x6x1x1024) ![0, 2, 0, 0] S1x1x1x1024.size inb_S1x6x1x1024_S1x1x1x1024_0_2_0_0))

/-- The normalised and modulated block. -/
def N2 : FVec F S512x1024 .bf16 :=
  k0_pay6 (H x0 x1 x2 x3 x4 x5 x7 x8 x9) (Q x0 x1 x2 x3 x4 x5 x7 x8 x9) x6
    (View.ld x5 (Rect.unit (s := S1x6x1x1024) ![0, 4, 0, 0] S1x1x1x1024.size inb_S1x6x1x1024_S1x1x1x1024_0_4_0_0))
    (View.ld x5 (Rect.unit (s := S1x6x1x1024) ![0, 3, 0, 0] S1x1x1x1024.size inb_S1x6x1x1024_S1x1x1x1024_0_3_0_0))

/-- The block with the shared expert added. -/
def Hs : FVec F S512x1024 .f32 :=
  k0_pay8 (H x0 x1 x2 x3 x4 x5 x7 x8 x9)
    (k0_pay7 (H x0 x1 x2 x3 x4 x5 x7 x8 x9) (Q x0 x1 x2 x3 x4 x5 x7 x8 x9) x6
      (View.ld x5 (Rect.unit (s := S1x6x1x1024) ![0, 4, 0, 0] S1x1x1x1024.size inb_S1x6x1x1024_S1x1x1x1024_0_4_0_0))
      (View.ld x5 (Rect.unit (s := S1x6x1x1024) ![0, 3, 0, 0] S1x1x1x1024.size inb_S1x6x1x1024_S1x1x1x1024_0_3_0_0)) x12 x13)
    (View.ld x5 (Rect.unit (s := S1x6x1x1024) ![0, 5, 0, 0] S1x1x1x1024.size inb_S1x6x1x1024_S1x1x1x1024_0_5_0_0)) x14
end

variable (c : Dev nD) (i : grid0.Coords)
  (arg1 : Memref sig .tc .vmem S512x512 .bf16) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .f32) (harg5 : arg5.IsWhole)
  (arg6 : Memref sig .tc .vmem S1x6x1x1024 .f32) (harg6 : arg6.IsWhole)
  (arg7 : Memref sig .tc .vmem S1x1024 .f32) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S256x1024 .bf16) (harg11 : arg11.IsWhole)
  (arg12 : Memref sig .tc .vmem S256x1 .f32) (harg12 : arg12.IsWhole)
  (arg13 : Memref sig .tc .vmem S1024x256 .bf16) (harg13 : arg13.IsWhole)
  (arg14 : Memref sig .tc .vmem S1024x256 .bf16) (harg14 : arg14.IsWhole)
  (arg15 : Memref sig .tc .vmem S256x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S8x512 .i32) (harg18 : arg18.IsWhole)
  (arg19 : Memref sig .tc .vmem S8x512 .f32) (harg19 : arg19.IsWhole)
  (arg20 : Memref sig .tc .vmem S8x512 .i32) (harg20 : arg20.IsWhole)
  (arg21 : Memref sig .tc .vmem S256x1 .f32) (harg21 : arg21.IsWhole)
  (arg22 : Memref sig .tc .vmem S256x1 .f32) (harg22 : arg22.IsWhole)
  (x0 : Vec F S512x512 .bf16) (x1 : Vec F S512x1024 .bf16) (x2 : Vec F S512x1024 .bf16) (x3 : Vec F S512x1024 .bf16) (x4 : Vec F S512x1024 .f32) (x5 : Vec F S1x6x1x1024 .f32) (x6 : Vec F S1x1024 .f32) (x7 : Vec F S512x1024 .bf16) (x8 : Vec F S1024x1024 .bf16) (x9 : Vec F S1024x1024 .bf16) (x10 : Vec F S256x1024 .bf16) (x11 : Vec F S256x1 .f32) (x12 : Vec F S1024x256 .bf16) (x13 : Vec F S1024x256 .bf16) (x14 : Vec F S256x1024 .bf16)

/-- What a first point leaves of the rows with the shared expert added. -/
theorem hs_A (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = Hs x0 x1 x2 x3 x4 x5 x6 x7 x8 x9 x12 x13 x14 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  dsimp only
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x512) zero2, View.ld_unit_zero (S := S512x1024) zero2, View.ld_unit_zero (S := S1x1024) zero2, View.ld_unit_zero (S := S1024x1024) zero2, View.ld_unit_zero (S := S1024x256) zero2, View.ld_unit_zero (S := S256x1024) zero2]
  rfl

/-- What a later point leaves of the rows with the shared expert added. -/
theorem hs_B (hc0 : ¬cond0_0 i) (xs0 : Vec F S256x1 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0 = Hs x0 x1 x2 x3 x4 x5 x6 x7 x8 x9 x12 x13 x14 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs0)]
  unfold kernelRun0_B
  dsimp only
  sl_unfold_words
  dsimp only
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x512) zero2, View.ld_unit_zero (S := S512x1024) zero2, View.ld_unit_zero (S := S1x1024) zero2, View.ld_unit_zero (S := S1024x1024) zero2, View.ld_unit_zero (S := S1024x256) zero2, View.ld_unit_zero (S := S256x1024) zero2]
  rfl

end Cert.AfterMixing
-- ==== Proof.PostRun.lean ====
/- The kernel after the mixing: its input blocks as rows of the arguments, and its result, entry by entry. -/
module

public import proofs.«01_k».proof.Proof.PostCase
public import proofs.«01_k».proof.Proof.Gen.Kernel4Ideal.Value
public import Idealize.ShloMosaic.Lib.Pipeline.ValueKit
public import Idealize.ShloMosaic.Lib.StableHlo.RunRead

@[expose] public section

set_option maxRecDepth 16384

noncomputable section

namespace Cert.AfterMixing

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-! ## The arguments -/

def aoa (n : Fin 16384) (l : Fin 512) : EReal := (m ((c : Thread nD τ).loc main_arg0) : Vec Ideal S16384x512 .bf16) (ix2 n l)
def ayr (n : Fin 16384) (l : Fin 1024) : EReal := (m ((c : Thread nD τ).loc main_arg1) : Vec Ideal S16384x1024 .bf16) (ix2 n l)
def aga (n : Fin 16384) (l : Fin 1024) : EReal := (m ((c : Thread nD τ).loc main_arg2) : Vec Ideal S16384x1024 .bf16) (ix2 n l)
def agb (n : Fin 16384) (l : Fin 1024) : EReal := (m ((c : Thread nD τ).loc main_arg3) : Vec Ideal S16384x1024 .bf16) (ix2 n l)
def ax (b : Fin 2) (s : Fin 8192) (k : Fin 1024) : EReal := (m ((c : Thread nD τ).loc main_arg4) : Vec Ideal S2x8192x1024 .f32) (ix3 b s k)
def amd (b : Fin 2) (k : Fin 6144) : EReal := (m ((c : Thread nD τ).loc main_arg5) : Vec Ideal S2x6144 .f32) (ix2 b k)
def ag (k : Fin 1024) : EReal := (m ((c : Thread nD τ).loc main_arg6) : Vec Ideal S1024 .f32) (ix1 k)
def awoa (k : Fin 512) (l : Fin 1024) : EReal := (m ((c : Thread nD τ).loc main_arg7) : Vec Ideal S512x1024 .f32) (ix2 k l)
def awor (k : Fin 1024) (l : Fin 1024) : EReal := (m ((c : Thread nD τ).loc main_arg8) : Vec Ideal S1024x1024 .f32) (ix2 k l)
def awout (k : Fin 1024) (l : Fin 1024) : EReal := (m ((c : Thread nD τ).loc main_arg9) : Vec Ideal S1024x1024 .f32) (ix2 k l)
def awg (k : Fin 1024) (l : Fin 256) : EReal := (m ((c : Thread nD τ).loc main_arg12) : Vec Ideal S1024x256 .f32) (ix2 k l)
def awu (k : Fin 1024) (l : Fin 256) : EReal := (m ((c : Thread nD τ).loc main_arg13) : Vec Ideal S1024x256 .f32) (ix2 k l)
def awd (k : Fin 256) (l : Fin 1024) : EReal := (m ((c : Thread nD τ).loc main_arg14) : Vec Ideal S256x1024 .f32) (ix2 k l)

/-! ## The arrays the kernel is called with -/

theorem V_x (r : Fin 16384) (k : Fin 1024) :
    V m c main_v0 (ix2 r k) = ax m c (Fin.ofNat 2 (r.val / 8192)) (Fin.ofNat 8192 r.val) k := by
  entry_read
  pointwise
  exact congrArg (fun b => (m ((c : Thread nD τ).loc main_arg4) : Vec Ideal S2x8192x1024 .f32) (ix3 b _ k))
    (Fin.ext (Nat.mod_eq_of_lt (by omega)).symm)

theorem V_md (b : Fin 2) (o : Fin 6) (k : Fin 1024) :
    V m c main_v1 (ix4 b o 0 k) = amd m c b (Fin.ofNat 6144 (o.val * 1024 + k.val)) := by
  entry_read
  pointwise
  exact congrArg (fun j => (m ((c : Thread nD τ).loc main_arg5) : Vec Ideal S2x6144 .f32) (ix2 b j))
    (Fin.ext (Nat.mod_eq_of_lt (by omega)).symm)

theorem V_g (k : Fin 1024) : V m c main_v2 (ix2 0 k) = ag m c k := by
  entry_read
  pointwise
  rfl

theorem V_awoa (k : Fin 512) (l : Fin 1024) : V m c main_v3 (ix2 k l) = awoa m c k l := by
  entry_read
  pointwise
  rfl
theorem V_awor (k : Fin 1024) (l : Fin 1024) : V m c main_v4 (ix2 k l) = awor m c k l := by
  entry_read
  pointwise
  rfl
theorem V_awout (k : Fin 1024) (l : Fin 1024) : V m c main_v5 (ix2 k l) = awout m c k l := by
  entry_read
  pointwise
  rfl
theorem V_awg (k : Fin 1024) (l : Fin 256) : V m c main_v9 (ix2 k l) = awg m c k l := by
  entry_read
  pointwise
  rfl
theorem V_awu (k : Fin 1024) (l : Fin 256) : V m c main_v10 (ix2 k l) = awu m c k l := by
  entry_read
  pointwise
  rfl
theorem V_awd (k : Fin 256) (l : Fin 1024) : V m c main_v11 (ix2 k l) = awd m c k l := by
  entry_read
  pointwise
  rfl

/-! ## The input blocks -/

theorem pt_lt (t : Fin cfg0.N) : t.val < 32 := lt_of_lt_of_eq t.isLt (show cfg0.N = 32 from N_0)

/-- Row `i` of the block of grid point `t`, as a row of the array. -/
abbrev rowOf (t : Fin cfg0.N) (i : Fin 512) : Fin 16384 := ⟨512 * t.val + i.val, by have := pt_lt t; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx5 : ∀ t : Fin cfg0.N, win0_5.index t (0 : Fin 4) = t.val / 16 ∧ win0_5.index t (1 : Fin 4) = 0
    ∧ win0_5.index t (2 : Fin 4) = 0 ∧ win0_5.index t (3 : Fin 4) = 0 :=
  (by decide +kernel : ∀ t : Fin grid0.N, _)

theorem blk0 (t : Fin cfg0.N) (i : Fin 512) (l : Fin 512) : iblk m c 0 t (ix2 i l) = aoa m c (rowOf t i) l := by
  have e : iblk m c 0 t (ix2 i l) = V m c main_arg0 (ix2 (rowOf t i) l) := by blk_point [iblk, idx0 t]
  exact e.trans (congrFun (V_main_arg0 m c) _)
theorem blk1 (t : Fin cfg0.N) (i : Fin 512) (l : Fin 1024) : iblk m c 1 t (ix2 i l) = ayr m c (rowOf t i) l := by
  have e : iblk m c 1 t (ix2 i l) = V m c main_arg1 (ix2 (rowOf t i) l) := by blk_point [iblk, idx1 t]
  exact e.trans (congrFun (V_main_arg1 m c) _)
theorem blk2 (t : Fin cfg0.N) (i : Fin 512) (l : Fin 1024) : iblk m c 2 t (ix2 i l) = aga m c (rowOf t i) l := by
  have e : iblk m c 2 t (ix2 i l) = V m c main_arg2 (ix2 (rowOf t i) l) := by blk_point [iblk, idx2 t]
  exact e.trans (congrFun (V_main_arg2 m c) _)
theorem blk3 (t : Fin cfg0.N) (i : Fin 512) (l : Fin 1024) : iblk m c 3 t (ix2 i l) = agb m c (rowOf t i) l := by
  have e : iblk m c 3 t (ix2 i l) = V m c main_arg3 (ix2 (rowOf t i) l) := by blk_point [iblk, idx3 t]
  exact e.trans (congrFun (V_main_arg3 m c) _)
theorem blk4 (t : Fin cfg0.N) (i : Fin 512) (l : Fin 1024) : iblk m c 4 t (ix2 i l) = V m c main_v0 (ix2 (rowOf t i) l) := by
  blk_point [iblk, idx4 t]
theorem blk5 (t : Fin cfg0.N) (o : Fin 6) (k : Fin 1024) :
    iblk m c 5 t (ix4 0 o 0 k) = V m c main_v1 (ix4 (⟨t.val / 16, by have := pt_lt t; omega⟩ : Fin 2) o 0 k) := by
  blk_point [iblk, idx5 t]
theorem blk6 (t : Fin cfg0.N) (k : Fin 1024) : iblk m c 6 t (ix2 0 k) = V m c main_v2 (ix2 0 k) := by
  blk_point [iblk, idx6 t]
theorem blk7 (t : Fin cfg0.N) (k : Fin 512) (l : Fin 1024) : iblk m c 7 t (ix2 k l) = V m c main_v3 (ix2 k l) := by
  blk_point [iblk, idx7 t]
theorem blk8 (t : Fin cfg0.N) (k : Fin 1024) (l : Fin 1024) : iblk m c 8 t (ix2 k l) = V m c main_v4 (ix2 k l) := by
  blk_point [iblk, idx8 t]
theorem blk9 (t : Fin cfg0.N) (k : Fin 1024) (l : Fin 1024) : iblk m c 9 t (ix2 k l) = V m c main_v5 (ix2 k l) := by
  blk_point [iblk, idx9 t]
theorem blk12 (t : Fin cfg0.N) (k : Fin 1024) (l : Fin 256) : iblk m c 12 t (ix2 k l) = V m c main_v9 (ix2 k l) := by
  blk_point [iblk, idx12 t]
theorem blk13 (t : Fin cfg0.N) (k : Fin 1024) (l : Fin 256) : iblk m c 13 t (ix2 k l) = V m c main_v10 (ix2 k l) := by
  blk_point [iblk, idx13 t]
theorem blk14 (t : Fin cfg0.N) (k : Fin 256) (l : Fin 1024) : iblk m c 14 t (ix2 k l) = V m c main_v11 (ix2 k l) := by
  blk_point [iblk, idx14 t]

/-! ## A grid point's rows -/

/-- The arguments' row `n`. -/
def arow (n : Fin 16384) : Row :=
  rowAt (aoa m c) (ayr m c) (aga m c) (agb m c) (ax m c) (amd m c) (Fin.ofNat 2 (n.val / 8192)) (Fin.ofNat 8192 n.val) n

/-- The arguments' weights. -/
def aweights : Weights := ⟨awoa m c, awor m c, awout m c, ag m c, awg m c, awu m c, awd m c⟩

theorem blk_x (t : Fin cfg0.N) (i : Fin 512) (l : Fin 1024) : iblk m c 4 t (ix2 i l) = (arow m c (rowOf t i)).x l :=
  (blk4 m c t i l).trans (V_x m c (rowOf t i) l)

theorem blk_md (t : Fin cfg0.N) (i : Fin 512) (o : Fin 6) (l : Fin 1024) :
    iblk m c 5 t (ix4 0 o 0 l) = (arow m c (rowOf t i)).md o l := by
  have := pt_lt t
  have eb : (⟨t.val / 16, by omega⟩ : Fin 2) = Fin.ofNat 2 ((rowOf t i).val / 8192) :=
    Fin.ext (by show t.val / 16 = (512 * t.val + i.val) / 8192 % 2; omega)
  rw [blk5, V_md, eb]
  rfl

/-- One of the six parts of a block's modulation. -/
theorem ld_md (x : Vec Ideal S1x6x1x1024 .f32) (o : Fin 6)
    (inb : ∀ a, (![0, o.val, 0, 0] : Fin 4 → ℕ) a + S1x1x1x1024.size a ≤ S1x6x1x1024.size a) (l : Fin 1024) :
    View.ld x (Rect.unit (s := S1x6x1x1024) ![0, o.val, 0, 0] S1x1x1x1024.size inb) (ix4 0 0 0 l) = x (ix4 0 o 0 l) := by
  refine View.ld_unit_apply_of x _ _ _ _ _ fun a => ?_
  fin_cases a <;> simp [ix4]

theorem row_hs (t : Fin cfg0.N) (i : Fin 512) (d : Fin 1024) :
    Hs (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) (iblk m c 14 t) (ix2 i d)
      = shared (arow m c (rowOf t i)) (aweights m c) d := by
  have hm : ∀ (o : Fin 6) inb (l : Fin 1024), View.ld (iblk m c 5 t) (Rect.unit (s := S1x6x1x1024) ![0, o.val, 0, 0] S1x1x1x1024.size inb) (ix4 0 0 0 l)
      = (arow m c (rowOf t i)).md o l := fun o inb l => (ld_md _ o inb l).trans (blk_md m c t i o l)
  have h7 : ∀ k l, iblk m c 7 t (ix2 k l) = (aweights m c).oa k l := fun k l => (blk7 m c t k l).trans (V_awoa m c k l)
  have h8 : ∀ k l, iblk m c 8 t (ix2 k l) = (aweights m c).or k l := fun k l => (blk8 m c t k l).trans (V_awor m c k l)
  have h9 : ∀ k l, iblk m c 9 t (ix2 k l) = (aweights m c).out k l := fun k l => (blk9 m c t k l).trans (V_awout m c k l)
  have h12 : ∀ k l, iblk m c 12 t (ix2 k l) = (aweights m c).gate k l := fun k l => (blk12 m c t k l).trans (V_awg m c k l)
  have h13 : ∀ k l, iblk m c 13 t (ix2 k l) = (aweights m c).up k l := fun k l => (blk13 m c t k l).trans (V_awu m c k l)
  have h14 : ∀ k l, iblk m c 14 t (ix2 k l) = (aweights m c).down k l := fun k l => (blk14 m c t k l).trans (V_awd m c k l)
  have h6 : ∀ l, iblk m c 6 t (ix2 0 l) = (aweights m c).g l := fun l => (blk6 m c t l).trans (V_g m c l)
  have hH := pay_h _ _ _ _ _ _ _ _ _ i _ _ (blk0 m c t i) (blk1 m c t i) (blk2 m c t i) (blk3 m c t i) (blk_x m c t i) (hm 2 inb_S1x6x1x1024_S1x1x1x1024_0_2_0_0) h7 h8 h9
  have hQ := pay_sq _ _ _ _ _ _ _ _ _ i _ _ (blk0 m c t i) (blk1 m c t i) (blk2 m c t i) (blk3 m c t i) (blk_x m c t i) (hm 2 inb_S1x6x1x1024_S1x1x1x1024_0_2_0_0) h7 h8 h9
  exact pay_shared _ _ i _ _ (hm 5 inb_S1x6x1x1024_S1x1x1x1024_0_5_0_0) h14 _ _ hH (pay_hid _ _ _ _ _ i _ _ (hm 3 inb_S1x6x1x1024_S1x1x1x1024_0_3_0_0) (hm 4 inb_S1x6x1x1024_S1x1x1x1024_0_4_0_0) h6 h12 h13 _ _ hH hQ) d

/-! ## The result -/

theorem flushed_row (t : Fin cfg0.N) (i : Fin 512) (d : Fin 1024) :
    (dats m 0 c).flushed 16 t (ix2 i d) = shared (arow m c (rowOf t i)) (aweights m c) d := by
  refine Eq.trans ?_ (row_hs m c t i d)
  by_cases h0 : t.val % 32 = 0
  · exact congrFun ((Value.flushed16_A m c t h0).trans (congrArg _ (hs_A ..))) (ix2 i d)
  · exact congrFun ((Value.flushed16_B m c t h0).trans (congrArg _ (hs_B ..))) (ix2 i d)

/-- The kernel's result. -/
theorem arr16 (r : Fin 16384) (d : Fin 1024) :
    (dats m 0 c).arrAt 16 cfg0.N (ix2 r d) = shared (arow m c r) (aweights m c) d := by
  obtain ⟨t, i, rfl⟩ : ∃ (t : Fin cfg0.N) (i : Fin 512), rowOf t i = r :=
    ⟨⟨r.val / 512, by rw [show cfg0.N = 32 from N_0]; omega⟩, ⟨r.val % 512, by omega⟩,
      Fin.ext (by show 512 * (r.val / 512) + r.val % 512 = r.val; omega)⟩
  have e : ((cfg0.win 16).blk t).view.read (Elt Ideal) ((dats m 0 c).arrAt 16 cfg0.N) (ix2 i d)
      = (dats m 0 c).arrAt 16 cfg0.N (ix2 (rowOf t i) d) := by blk_point [idx16 t]
  exact e.symm.trans ((congrFun (Value.blocks16 m c t (flush0_16 t)) (ix2 i d)).trans (flushed_row m c t i d))

end Cert.AfterMixing
-- ==== Proof.PostRef.lean ====
/- The plain statement of the rows after the mixing: its arrays, entry by entry. -/
module

public import proofs.«01_k».proof.Proof.PostMath
public import proofs.«01_k».proof.Proof.Consts
public import proofs.«01_k».proof.Proof.Gen.Reference4Ideal.Run
public import Idealize.ShloMosaic.Lib.Pointwise
public import Idealize.ShloMosaic.Lib.Tactic.CleanTypes

@[expose] public section

set_option maxRecDepth 16384

noncomputable section

namespace Cert.AfterMixing

open Idealize.ShloMosaic Idealize.ShloMosaic.TcCoe Idealize.SL.Sem
open Cert.Reference4Ideal Cert.Reference4Ideal.Gen

variable (oa : FVec Ideal S16384x512 .bf16) (yr ga gb : FVec Ideal S16384x1024 .bf16) (x : FVec Ideal S2x8192x1024 .f32)
  (md : FVec Ideal S2x6144 .f32) (g : FVec Ideal S1024 .f32) (woa : FVec Ideal S512x1024 .f32)
  (wor wout : FVec Ideal S1024x1024 .f32) (wg wu : FVec Ideal S1024x256 .f32) (wd : FVec Ideal S256x1024 .f32)

/-! ## The arguments' rows and weights -/

def refRow (b : Fin 2) (s : Fin 8192) : Row :=
  rowAt (fun n l => oa (ix2 n l)) (fun n l => yr (ix2 n l)) (fun n l => ga (ix2 n l)) (fun n l => gb (ix2 n l))
    (fun b s k => x (ix3 b s k)) (fun b k => md (ix2 b k)) b s ⟨b.val * 8192 + s.val, by omega⟩

def refWeights : Weights :=
  ⟨fun k l => woa (ix2 k l), fun k l => wor (ix2 k l), fun k l => wout (ix2 k l), fun k => g (ix1 k),
    fun k l => wg (ix2 k l), fun k l => wu (ix2 k l), fun k l => wd (ix2 k l)⟩

/-! ## The arrays -/

/-- The rows with the mixing added. -/
def rH : FVec Ideal S2x8192x1024 .f32 :=
  (addf x (mulf (broadcastInDim S2x8192x1024 ![0, 1, 2] bcast_S2x1x1024_S2x8192x1024_0_1_2 (extractStridedSlice S2x1x1024 ![0, 0, 2048] (broadcastInDim S2x1x6144 ![0, 2] bcast_S2x6144_S2x1x6144_0_2 md) slices_S2x1x6144_S2x1x1024_0_0_2048)) (Host.dotGeneral dot_S2x8192x1024_S1024x1024_S2x8192x1024_2_0_01_1_n_n none (addf (mulf (extf .f32 (shapeCast _ ga shapeCasts_S16384x1024_S2x8192x1024) bitsLt_bf16_f32) (Host.dotGeneral dot_S2x8192x512_S512x1024_S2x8192x1024_2_0_01_1_n_n none (extf .f32 (shapeCast _ oa shapeCasts_S16384x512_S2x8192x512) bitsLt_bf16_f32) woa)) (mulf (extf .f32 (shapeCast _ gb shapeCasts_S16384x1024_S2x8192x1024) bitsLt_bf16_f32) (Host.dotGeneral dot_S2x8192x1024_S1024x1024_S2x8192x1024_2_0_01_1_n_n none (extf .f32 (shapeCast _ yr shapeCasts_S16384x1024_S2x8192x1024) bitsLt_bf16_f32) wor))) wout)))

/-- The rows normalised and modulated. -/
def rN2 : FVec Ideal S2x8192x1024 .f32 :=
  (addf (mulf (mulf (mulf (rH oa yr ga gb x md woa wor wout) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (rH oa yr ga gb x md woa wor wout) (rH oa yr ga gb x md woa wor wout)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] (broadcastInDim S2x1x6144 ![0, 2] bcast_S2x6144_S2x1x6144_0_2 md) slices_S2x1x6144_S2x1x1024_0_0_4096)))) (broadcastInDim S2x8192x1024 ![0, 1, 2] bcast_S2x1x1024_S2x8192x1024_0_1_2 (extractStridedSlice S2x1x1024 ![0, 0, 3072] (broadcastInDim S2x1x6144 ![0, 2] bcast_S2x6144_S2x1x6144_0_2 md) slices_S2x1x6144_S2x1x1024_0_0_3072)))

/-- The shared expert's hidden rows. -/
def rHid : FVec Ideal S2x8192x256 .f32 :=
  (mulf (mulf (Host.dotGeneral dot_S2x8192x1024_S1024x256_S2x8192x256_2_0_01_1_n_n none (rN2 oa yr ga gb x md g woa wor wout) wg) (Host.divf (broadcastInDim S2x8192x256 ![] bcast_S_S2x8192x256 (constant S_ .f32 0x3F800000#32)) (addf (broadcastInDim S2x8192x256 ![] bcast_S_S2x8192x256 (constant S_ .f32 0x3F800000#32)) (Host.exp (Host.negf (Host.dotGeneral dot_S2x8192x1024_S1024x256_S2x8192x256_2_0_01_1_n_n none (rN2 oa yr ga gb x md g woa wor wout) wg)))))) (Host.dotGeneral dot_S2x8192x1024_S1024x256_S2x8192x256_2_0_01_1_n_n none (rN2 oa yr ga gb x md g woa wor wout) wu))

/-- The rows with the shared expert added. -/
def rHs : FVec Ideal S2x8192x1024 .f32 :=
  (addf (rH oa yr ga gb x md woa wor wout) (mulf (broadcastInDim S2x8192x1024 ![0, 1, 2] bcast_S2x1x1024_S2x8192x1024_0_1_2 (extractStridedSlice S2x1x1024 ![0, 0, 5120] (broadcastInDim S2x1x6144 ![0, 2] bcast_S2x6144_S2x1x6144_0_2 md) slices_S2x1x6144_S2x1x1024_0_0_5120)) (Host.dotGeneral dot_S2x8192x256_S256x1024_S2x8192x1024_2_0_01_1_n_n none (rHid oa yr ga gb x md g woa wor wout wg wu) wd)))

theorem md_at (b : Fin 2) (n : ℕ) (h : n < 6144) : md (ix2 b ⟨n, h⟩) = md (ix2 b (Fin.ofNat 6144 n)) :=
  congrArg (fun q => md (ix2 b q)) (Fin.ext (Nat.mod_eq_of_lt h).symm)

theorem rH_apply (b : Fin 2) (s : Fin 8192) (d : Fin 1024) : rH oa yr ga gb x md woa wor wout (ix3 b s d) = hrow (refRow oa yr ga gb x md b s) (refWeights g woa wor wout wg wu wd) d := by
  unfold rH
  pointwise
  exact congrArg₂ (fun u v => x (ix3 b s d) + u * v) (md_at md b _ _) rfl

theorem rN2_apply (b : Fin 2) (s : Fin 8192) (k : Fin 1024) :
    rN2 oa yr ga gb x md g woa wor wout (ix3 b s k) = n2 (refRow oa yr ga gb x md b s) (refWeights g woa wor wout wg wu wd) k := by
  unfold rN2
  pointwise
  simp only [rH_apply oa yr ga gb x md g woa wor wout wg wu wd]
  exact congrArg₂ (fun u v => _ * (1 + u) + v) (md_at md b _ _) (md_at md b _ _)

theorem rHid_apply (b : Fin 2) (s : Fin 8192) (j : Fin 256) :
    rHid oa yr ga gb x md g woa wor wout wg wu (ix3 b s j) = hid (refRow oa yr ga gb x md b s) (refWeights g woa wor wout wg wu wd) j := by
  unfold rHid
  pointwise
  simp only [rN2_apply oa yr ga gb x md g woa wor wout wg wu wd]
  rfl

theorem rHs_apply (b : Fin 2) (s : Fin 8192) (d : Fin 1024) :
    rHs oa yr ga gb x md g woa wor wout wg wu wd (ix3 b s d) = shared (refRow oa yr ga gb x md b s) (refWeights g woa wor wout wg wu wd) d := by
  unfold rHs
  pointwise
  simp only [rH_apply oa yr ga gb x md g woa wor wout wg wu wd, rHid_apply oa yr ga gb x md g woa wor wout wg wu wd]
  exact congrArg (fun u => _ + u * _) (md_at md b _ _)

end Cert.AfterMixing
-- ==== Proof.PostAlg.lean ====
/- The rows after the mixing: the kernel's result and the plain statement's are equal. -/
module

public import proofs.«01_k».proof.Proof.PostRun
public import proofs.«01_k».proof.Proof.PostRef
public import proofs.«01_k».proof.Proof.Inputs
public import proofs.«01_k».proof.Defs
public import proofs.«01_k».proof.Proof.Gen.Kernel4
public import proofs.«01_k».proof.Proof.Gen.Kernel4.Frame
public import proofs.«01_k».proof.Proof.Gen.Reference4Ideal
public import Idealize.ShloMosaic.Adequacy
public import Idealize.ShloMosaic.Init

@[expose] public section

set_option maxRecDepth 16384

noncomputable section

namespace Cert.AfterMixing

open Idealize.ShloMosaic Idealize.ShloMosaic.TcCoe Idealize.SL.Sem

section
open Cert.Reference4Ideal Cert.Reference4Ideal.Gen
variable (m : (ℓ : Loc nD τ sig) → Buf (Elt Ideal) ℓ) (c : Dev nD)

/-- The plain statement's result, entry by entry. -/
theorem ref_hs (r : Fin 16384) (d : Fin 1024) : (Value.res_main_v52 m c : Vec Ideal S16384x1024 .f32) (ix2 r d)
    = shared (refRow (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) ⟨r.val / 8192, by omega⟩ ⟨r.val % 8192, by omega⟩)
        (refWeights (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))) d := by
  have e : Value.res_main_v52 m c = shapeCast S16384x1024 (rHs (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))) shapeCasts_S2x8192x1024_S16384x1024 := rfl
  rw [e]
  pointwise
  exact rHs_apply ..
end

section
variable {m : (ℓ : Loc Cert.Kernel4Ideal.nD Cert.Kernel4Ideal.τ Cert.Kernel4Ideal.sig) → Buf (Elt Ideal) ℓ}
  {m' : (ℓ : Loc Cert.Reference4Ideal.nD Cert.Reference4Ideal.τ Cert.Reference4Ideal.sig) → Buf (Elt Ideal) ℓ}
  {c : Dev Cert.Kernel4Ideal.nD}

/-- A row of equal arguments is the same. -/
theorem row_eq
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (r : Fin 16384) :
    refRow (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) ⟨r.val / 8192, by omega⟩ ⟨r.val % 8192, by omega⟩ = arow m c r := by
  rw [h0, h1, h2, h3, h4, h5]
  have eb : (⟨r.val / 8192, by omega⟩ : Fin 2) = Fin.ofNat 2 (r.val / 8192) := Fin.ext (Nat.mod_eq_of_lt (by omega)).symm
  have es : (⟨r.val % 8192, by omega⟩ : Fin 8192) = Fin.ofNat 8192 r.val := rfl
  have en : (⟨r.val / 8192 * 8192 + r.val % 8192, by omega⟩ : Fin 16384) = r := Fin.ext (by show r.val / 8192 * 8192 + r.val % 8192 = r.val; omega)
  refine (congrArg (fun b => rowAt (aoa m c) (ayr m c) (aga m c) (agb m c) (ax m c) (amd m c) b _ _) eb).trans ?_
  exact congrArg (fun n => rowAt (aoa m c) (ayr m c) (aga m c) (agb m c) (ax m c) (amd m c) _ _ n) en

/-- And so are equal weights. -/
theorem weights_eq
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7))
    (h8 : m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8))
    (h9 : m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9))
    (h12 : m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12))
    (h13 : m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13))
    (h14 : m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) :
    refWeights (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) = aweights m c := by
  rw [h6, h7, h8, h9, h12, h13, h14]
  rfl
end

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- The kernel's result and the plain statement's are equal. -/
theorem algebraic : Cert.algebraic_Kernel4Ideal_Reference4Ideal := by
  intro m ρ m' ρ' _ hag
  refine ⟨fun c => (Cert.Kernel4Ideal.Gen.dats m 0 c).arrAt 16 Cert.Kernel4Ideal.cfg0.N,
    (θ_run Cert.Kernel4Ideal.defs _ _).mono (fun r h c => ?_) (Cert.Kernel4Ideal.Value.run_blocks m ρ),
    (θ_run Cert.Reference4Ideal.defs _ _).mono (fun r h c => ?_) (Cert.Reference4Ideal.Value.run (F := Ideal) m' ρ')⟩
  · obtain ⟨-, e, -, -, -, -, ha⟩ := h c
    exact ⟨e, ha⟩
  · obtain ⟨h0, h1, h2, h3, h4, h5, h6, h7, h8, h9, h10, h11, h12, h13, h14⟩ := hag c
    obtain ⟨e, ha⟩ := h c
    refine ⟨e.trans (Retention.ext2 fun r d => ?_), ha⟩
    refine (ref_hs m' c r d).trans (Eq.trans ?_ (arr16 m c r d).symm)
    rw [row_eq h0 h1 h2 h3 h4 h5, weights_eq h6 h7 h8 h9 h12 h13 h14]

end Cert.AfterMixing
-- ==== Proof.SampPostRow.lean ====
/- The kernel's arithmetic on a block of 512 rows of the sample, row by row. -/
module

public import proofs.«01_k».proof.Proof.PostMath
public import proofs.«01_k».proof.Proof.Gen.Kernel5Ideal.Skeleton
public import Idealize.ShloMosaic.Lib.Pointwise

@[expose] public section

set_option maxRecDepth 16384

noncomputable section

namespace Cert.AfterMixing.Sample

open Idealize.ShloMosaic Idealize.ShloMosaic.TcCoe Idealize.SL.Sem
open Cert.Kernel5Ideal Cert.Kernel5Ideal.Gen

variable (oa : FVec Ideal S512x512 .bf16) (woa : FVec Ideal S512x1024 .bf16) (yr : FVec Ideal S512x1024 .bf16)
  (wor : FVec Ideal S1024x1024 .bf16) (ga gb : FVec Ideal S512x1024 .bf16) (wout : FVec Ideal S1024x1024 .bf16)
  (x : FVec Ideal S512x1024 .f32) (m2 m3 m4 m5 : FVec Ideal S1x1x512x1024 .f32) (g : FVec Ideal S1x1024 .f32)
  (wg wu : FVec Ideal S1024x256 .bf16) (wd : FVec Ideal S256x1024 .bf16)

variable (i : Fin 512) (r : Row) (w : Weights)
  (hoa : ∀ l, oa (ix2 i l) = r.oa l) (hyr : ∀ l, yr (ix2 i l) = r.yr l) (hga : ∀ l, ga (ix2 i l) = r.ga l)
  (hgb : ∀ l, gb (ix2 i l) = r.gb l) (hx : ∀ l, x (ix2 i l) = r.x l)
  (hm2 : ∀ l, m2 (ix4 0 0 i l) = r.md 2 l) (hm3 : ∀ l, m3 (ix4 0 0 i l) = r.md 3 l) (hm4 : ∀ l, m4 (ix4 0 0 i l) = r.md 4 l)
  (hm5 : ∀ l, m5 (ix4 0 0 i l) = r.md 5 l) (hwoa : ∀ k l, woa (ix2 k l) = w.oa k l) (hwor : ∀ k l, wor (ix2 k l) = w.or k l)
  (hwout : ∀ k l, wout (ix2 k l) = w.out k l) (hg : ∀ l, g (ix2 0 l) = w.g l) (hwg : ∀ k l, wg (ix2 k l) = w.gate k l)
  (hwu : ∀ k l, wu (ix2 k l) = w.up k l) (hwd : ∀ k l, wd (ix2 k l) = w.down k l)

include hoa hyr hga hgb hx hm2 hwoa hwor hwout in
/-- The row with the mixing added. -/
theorem pay_h (d : Fin 1024) : k0_pay2 (F := Ideal) oa woa yr wor ga gb wout x m2 (ix2 i d) = hrow r w d := by
  unfold k0_pay2
  pointwise
  simp only [hoa, hyr, hga, hgb, hx, hm2, hwoa, hwor, hwout]
  rfl

include hm3 hm4 hg in
/-- The normalised and modulated row, of any row `H` and its sum of squares. -/
theorem pay_n2 (H : FVec Ideal S512x1024 .f32) (Q : FVec Ideal S512x1 .f32) (hH : ∀ d, H (ix2 i d) = hrow r w d)
    (hQ : Q (ix2 i 0) = ∑ l, hrow r w l * hrow r w l) (k : Fin 1024) : k0_pay4 H Q (Scalar.ofBits .f32 0x44800000#32) g m4 m3 (ix2 i k) = n2 r w k := by
  unfold k0_pay4
  pointwise
  simp only [hH, hQ, hm3, hm4, hg]
  rfl

include hoa hyr hga hgb hx hm2 hwoa hwor hwout in
theorem pay_sq : k0_pay3 (F := Ideal) oa woa yr wor ga gb wout x m2 (ix2 i 0) = ∑ l, hrow r w l * hrow r w l := by
  unfold k0_pay3
  pointwise
  simp only [pay_h oa woa yr wor ga gb wout x m2 i r w hoa hyr hga hgb hx hm2 hwoa hwor hwout]

include hm3 hm4 hg hwg hwu in
theorem pay_hid (H : FVec Ideal S512x1024 .f32) (Q : FVec Ideal S512x1 .f32) (hH : ∀ d, H (ix2 i d) = hrow r w d)
    (hQ : Q (ix2 i 0) = ∑ l, hrow r w l * hrow r w l) (j : Fin 256) : k0_pay8 H Q (Scalar.ofBits .f32 0x44800000#32) g m4 m3 wg wu (ix2 i j) = hid r w j := by
  have hn : ∀ k, k0_pay4 H Q (Ideal.ofBits .f32 0x44800000#32) g m4 m3 (ix2 i k) = n2 r w k :=
    pay_n2 m3 m4 g i r w hm3 hm4 hg H Q hH hQ
  unfold k0_pay8 k0_pay5
  pointwise
  simp only [hn, hwg, hwu]
  rfl

include hm5 hwd in
theorem pay_shared (H : FVec Ideal S512x1024 .f32) (D : FVec Ideal S512x256 .bf16) (hH : ∀ d, H (ix2 i d) = hrow r w d)
    (hD : ∀ j, D (ix2 i j) = hid r w j) (d : Fin 1024) : k0_pay9 H (k0_pay7 m5) D wd (ix2 i d) = shared r w d := by
  unfold k0_pay9 k0_pay7
  pointwise
  simp only [hH, hD, hm5, hwd]
  rfl

end Cert.AfterMixing.Sample
-- ==== Proof.SampPostCase.lean ====
/- What the sample's grid point leaves of the normalised rows and of the rows with the shared expert added. -/
module

public import proofs.«01_k».proof.Proof.SampPostRow
public import proofs.«01_k».proof.Proof.Gen.Kernel5Ideal.Frame
public import Idealize.ShloMosaic.Lib.Pipeline.Value

@[expose] public section

set_option maxRecDepth 16384

noncomputable section

namespace Cert.AfterMixing.Sample

open Idealize.ShloMosaic Idealize.ShloMosaic.TcCoe Idealize.SL.Sem
open Cert.Kernel5Ideal Cert.Kernel5Ideal.Gen

theorem zero2 : (![0, 0] : Fin 2 → Nat) = fun _ => 0 := funext fun a => by fin_cases a <;> rfl

variable {F : FTy → Type} [FloatOps F] [Named F]

section
variable (x0 : Vec F S512x512 .bf16) (x1 x2 x3 : Vec F S512x1024 .bf16) (x4 : Vec F S512x1024 .f32) (x5 : Vec F S1x6x512x1024 .f32)
  (x6 : Vec F S1x1024 .f32) (x7 : Vec F S512x1024 .bf16) (x8 x9 : Vec F S1024x1024 .bf16) (x12 x13 : Vec F S1024x256 .bf16)
  (x14 : Vec F S256x1024 .bf16)

/-- The block with the mixing added. -/
def H : FVec F S512x1024 .f32 :=
  k0_pay2 x0 x7 x1 x8 x2 x3 x9 x4 (View.ld x5 (Rect.unit (s := S1x6x512x1024) ![0, 2, 0, 0] S1x1x512x1024.size inb_S1x6x512x1024_S1x1x512x1024_0_2_0_0))

/-- Its rows' sums of squares. -/
def Q : FVec F S512x1 .f32 :=
  k0_pay3 x0 x7 x1 x8 x2 x3 x9 x4 (View.ld x5 (Rect.unit (s := S1x6x512x1024) ![0, 2, 0, 0] S1x1x512x1024.size inb_S1x6x512x1024_S1x1x512x1024_0_2_0_0))

/-- The normalised and modulated block. -/
def N2 : FVec F S512x1024 .bf16 :=
  k0_pay6 (H x0 x1 x2 x3 x4 x5 x7 x8 x9) (Q x0 x1 x2 x3 x4 x5 x7 x8 x9) (Scalar.ofBits .f32 0x44800000#32) x6
    (View.ld x5 (Rect.unit (s := S1x6x512x1024) ![0, 4, 0, 0] S1x1x512x1024.size inb_S1x6x512x1024_S1x1x512x1024_0_4_0_0))
    (View.ld x5 (Rect.unit (s := S1x6x512x1024) ![0, 3, 0, 0] S1x1x512x1024.size inb_S1x6x512x1024_S1x1x512x1024_0_3_0_0))

/-- The block with the shared expert added. -/
def Hs : FVec F S512x1024 .f32 :=
  k0_pay9 (H x0 x1 x2 x3 x4 x5 x7 x8 x9) (k0_pay7 (View.ld x5 (Rect.unit (s := S1x6x512x1024) ![0, 5, 0, 0] S1x1x512x1024.size inb_S1x6x512x1024_S1x1x512x1024_0_5_0_0)))
    (k0_pay8 (H x0 x1 x2 x3 x4 x5 x7 x8 x9) (Q x0 x1 x2 x3 x4 x5 x7 x8 x9) (Scalar.ofBits .f32 0x44800000#32) x6
      (View.ld x5 (Rect.unit (s := S1x6x512x1024) ![0, 4, 0, 0] S1x1x512x1024.size inb_S1x6x512x1024_S1x1x512x1024_0_4_0_0))
      (View.ld x5 (Rect.unit (s := S1x6x512x1024) ![0, 3, 0, 0] S1x1x512x1024.size inb_S1x6x512x1024_S1x1x512x1024_0_3_0_0)) x12 x13) x14
end

variable (c : Dev nD) (i : grid0.Coords)
  (arg1 : Memref sig .tc .vmem S512x512 .bf16) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .f32) (harg5 : arg5.IsWhole)
  (arg6 : Memref sig .tc .vmem S1x6x512x1024 .f32) (harg6 : arg6.IsWhole)
  (arg7 : Memref sig .tc .vmem S1x1024 .f32) (harg7 : arg7.IsWhole)
  (arg8 : Memref sig .tc .vmem S512x1024 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S256x1024 .bf16) (harg11 : arg11.IsWhole)
  (arg12 : Memref sig .tc .vmem S256x1 .f32) (harg12 : arg12.IsWhole)
  (arg13 : Memref sig .tc .vmem S1024x256 .bf16) (harg13 : arg13.IsWhole)
  (arg14 : Memref sig .tc .vmem S1024x256 .bf16) (harg14 : arg14.IsWhole)
  (arg15 : Memref sig .tc .vmem S256x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S8x512 .i32) (harg18 : arg18.IsWhole)
  (arg19 : Memref sig .tc .vmem S8x512 .f32) (harg19 : arg19.IsWhole)
  (arg20 : Memref sig .tc .vmem S8x512 .i32) (harg20 : arg20.IsWhole)
  (arg21 : Memref sig .tc .vmem S256x1 .f32) (harg21 : arg21.IsWhole)
  (arg22 : Memref sig .tc .vmem S256x1 .f32) (harg22 : arg22.IsWhole)
  (x0 : Vec F S512x512 .bf16) (x1 : Vec F S512x1024 .bf16) (x2 : Vec F S512x1024 .bf16) (x3 : Vec F S512x1024 .bf16) (x4 : Vec F S512x1024 .f32) (x5 : Vec F S1x6x512x1024 .f32) (x6 : Vec F S1x1024 .f32) (x7 : Vec F S512x1024 .bf16) (x8 : Vec F S1024x1024 .bf16) (x9 : Vec F S1024x1024 .bf16) (x10 : Vec F S256x1024 .bf16) (x11 : Vec F S256x1 .f32) (x12 : Vec F S1024x256 .bf16) (x13 : Vec F S1024x256 .bf16) (x14 : Vec F S256x1024 .bf16)

/-- What a first point leaves of the normalised rows. -/
theorem n2_A (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = N2 x0 x1 x2 x3 x4 x5 x6 x7 x8 x9 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  dsimp only
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x512) zero2, View.ld_unit_zero (S := S512x1024) zero2, View.ld_unit_zero (S := S1x1024) zero2, View.ld_unit_zero (S := S1024x1024) zero2, View.ld_unit_zero (S := S1024x256) zero2, View.ld_unit_zero (S := S256x1024) zero2]
  rfl

/-- What a first point leaves of the rows with the shared expert added. -/
theorem hs_A (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 = Hs x0 x1 x2 x3 x4 x5 x6 x7 x8 x9 x12 x13 x14 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  dsimp only
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S512x512) zero2, View.ld_unit_zero (S := S512x1024) zero2, View.ld_unit_zero (S := S1x1024) zero2, View.ld_unit_zero (S := S1024x1024) zero2, View.ld_unit_zero (S := S1024x256) zero2, View.ld_unit_zero (S := S256x1024) zero2]
  rfl

end Cert.AfterMixing.Sample
-- ==== Proof.SampPostRun.lean ====
/- The kernel after the mixing, on the sample: its input blocks as rows of the arguments, and its results, entry by entry. -/
module

public import proofs.«01_k».proof.Proof.SampPostCase
public import proofs.«01_k».proof.Proof.Gen.Kernel5Ideal.Value
public import Idealize.ShloMosaic.Lib.Pipeline.ValueKit
public import Idealize.ShloMosaic.Lib.StableHlo.RunRead

@[expose] public section

set_option maxRecDepth 16384

noncomputable section

namespace Cert.AfterMixing.Sample

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-! ## The arguments -/

def aoa (n : Fin 512) (l : Fin 512) : EReal := (m ((c : Thread nD τ).loc main_arg0) : Vec Ideal S512x512 .bf16) (ix2 n l)
def ayr (n : Fin 512) (l : Fin 1024) : EReal := (m ((c : Thread nD τ).loc main_arg1) : Vec Ideal S512x1024 .bf16) (ix2 n l)
def aga (n : Fin 512) (l : Fin 1024) : EReal := (m ((c : Thread nD τ).loc main_arg2) : Vec Ideal S512x1024 .bf16) (ix2 n l)
def agb (n : Fin 512) (l : Fin 1024) : EReal := (m ((c : Thread nD τ).loc main_arg3) : Vec Ideal S512x1024 .bf16) (ix2 n l)
def ax (b : Fin 32) (s : Fin 16) (k : Fin 1024) : EReal := (m ((c : Thread nD τ).loc main_arg4) : Vec Ideal S32x16x1024 .f32) (ix3 b s k)
def amd (b : Fin 32) (k : Fin 6144) : EReal := (m ((c : Thread nD τ).loc main_arg5) : Vec Ideal S32x6144 .f32) (ix2 b k)
def ag (k : Fin 1024) : EReal := (m ((c : Thread nD τ).loc main_arg6) : Vec Ideal S1024 .f32) (ix1 k)
def awoa (k : Fin 512) (l : Fin 1024) : EReal := (m ((c : Thread nD τ).loc main_arg7) : Vec Ideal S512x1024 .f32) (ix2 k l)
def awor (k : Fin 1024) (l : Fin 1024) : EReal := (m ((c : Thread nD τ).loc main_arg8) : Vec Ideal S1024x1024 .f32) (ix2 k l)
def awout (k : Fin 1024) (l : Fin 1024) : EReal := (m ((c : Thread nD τ).loc main_arg9) : Vec Ideal S1024x1024 .f32) (ix2 k l)
def awg (k : Fin 1024) (l : Fin 256) : EReal := (m ((c : Thread nD τ).loc main_arg12) : Vec Ideal S1024x256 .f32) (ix2 k l)
def awu (k : Fin 1024) (l : Fin 256) : EReal := (m ((c : Thread nD τ).loc main_arg13) : Vec Ideal S1024x256 .f32) (ix2 k l)
def awd (k : Fin 256) (l : Fin 1024) : EReal := (m ((c : Thread nD τ).loc main_arg14) : Vec Ideal S256x1024 .f32) (ix2 k l)

/-! ## The arrays the kernel is called with -/

theorem V_x (r : Fin 512) (k : Fin 1024) :
    V m c main_v5 (ix2 r k) = ax m c (Fin.ofNat 32 (r.val / 16)) (Fin.ofNat 16 r.val) k := by
  entry_read
  pointwise
  exact congrArg (fun b => (m ((c : Thread nD τ).loc main_arg4) : Vec Ideal S32x16x1024 .f32) (ix3 b _ k))
    (Fin.ext (Nat.mod_eq_of_lt (by omega)).symm)

/-- Each sequence's modulation stands once for each of its 16 rows. -/
theorem V_md (o : Fin 6) (r : Fin 512) (k : Fin 1024) :
    V m c main_v4 (ix4 0 o r k) = amd m c (Fin.ofNat 32 (r.val / 16)) (Fin.ofNat 6144 (o.val * 1024 + k.val)) := by
  entry_read
  pointwise
  exact congrArg₂ (fun b j => (m ((c : Thread nD τ).loc main_arg5) : Vec Ideal S32x6144 .f32) (ix2 b j))
    (Fin.ext (by show _ = r.val / 16 % 32; simp only; omega)) (Fin.ext (Nat.mod_eq_of_lt (by omega)).symm)

theorem V_g (k : Fin 1024) : V m c main_v6 (ix2 0 k) = ag m c k := by
  entry_read
  pointwise
  rfl

theorem V_awoa (k : Fin 512) (l : Fin 1024) : V m c main_v7 (ix2 k l) = awoa m c k l := by
  entry_read
  pointwise
  rfl
theorem V_awor (k : Fin 1024) (l : Fin 1024) : V m c main_v8 (ix2 k l) = awor m c k l := by
  entry_read
  pointwise
  rfl
theorem V_awout (k : Fin 1024) (l : Fin 1024) : V m c main_v9 (ix2 k l) = awout m c k l := by
  entry_read
  pointwise
  rfl
theorem V_awg (k : Fin 1024) (l : Fin 256) : V m c main_v13 (ix2 k l) = awg m c k l := by
  entry_read
  pointwise
  rfl
theorem V_awu (k : Fin 1024) (l : Fin 256) : V m c main_v14 (ix2 k l) = awu m c k l := by
  entry_read
  pointwise
  rfl
theorem V_awd (k : Fin 256) (l : Fin 1024) : V m c main_v15 (ix2 k l) = awd m c k l := by
  entry_read
  pointwise
  rfl

/-! ## The input blocks -/

theorem pt_lt (t : Fin cfg0.N) : t.val < 1 := lt_of_lt_of_eq t.isLt (show cfg0.N = 1 from N_0)

/-- Row `i` of the block of grid point `t`, as a row of the array. -/
abbrev rowOf (t : Fin cfg0.N) (i : Fin 512) : Fin 512 := ⟨512 * t.val + i.val, by have := pt_lt t; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx15 : ∀ t : Fin cfg0.N, win0_15.index t (0 : Fin 2) = 32 + t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx5 : ∀ t : Fin cfg0.N, win0_5.index t (0 : Fin 4) = 0 ∧ win0_5.index t (1 : Fin 4) = 0
    ∧ win0_5.index t (2 : Fin 4) = t.val ∧ win0_5.index t (3 : Fin 4) = 0 :=
  (by decide +kernel : ∀ t : Fin grid0.N, _)

theorem blk0 (t : Fin cfg0.N) (i : Fin 512) (l : Fin 512) : iblk m c 0 t (ix2 i l) = aoa m c (rowOf t i) l := by
  have e : iblk m c 0 t (ix2 i l) = V m c main_arg0 (ix2 (rowOf t i) l) := by blk_point [iblk, idx0 t]
  exact e.trans (congrFun (V_main_arg0 m c) _)
theorem blk1 (t : Fin cfg0.N) (i : Fin 512) (l : Fin 1024) : iblk m c 1 t (ix2 i l) = ayr m c (rowOf t i) l := by
  have e : iblk m c 1 t (ix2 i l) = V m c main_arg1 (ix2 (rowOf t i) l) := by blk_point [iblk, idx1 t]
  exact e.trans (congrFun (V_main_arg1 m c) _)
theorem blk2 (t : Fin cfg0.N) (i : Fin 512) (l : Fin 1024) : iblk m c 2 t (ix2 i l) = aga m c (rowOf t i) l := by
  have e : iblk m c 2 t (ix2 i l) = V m c main_arg2 (ix2 (rowOf t i) l) := by blk_point [iblk, idx2 t]
  exact e.trans (congrFun (V_main_arg2 m c) _)
theorem blk3 (t : Fin cfg0.N) (i : Fin 512) (l : Fin 1024) : iblk m c 3 t (ix2 i l) = agb m c (rowOf t i) l := by
  have e : iblk m c 3 t (ix2 i l) = V m c main_arg3 (ix2 (rowOf t i) l) := by blk_point [iblk, idx3 t]
  exact e.trans (congrFun (V_main_arg3 m c) _)
theorem blk4 (t : Fin cfg0.N) (i : Fin 512) (l : Fin 1024) : iblk m c 4 t (ix2 i l) = V m c main_v5 (ix2 (rowOf t i) l) := by
  blk_point [iblk, idx4 t]
theorem blk5 (t : Fin cfg0.N) (o : Fin 6) (i : Fin 512) (k : Fin 1024) :
    iblk m c 5 t (ix4 0 o i k) = V m c main_v4 (ix4 0 o (rowOf t i) k) := by
  blk_point [iblk, idx5 t]
theorem blk6 (t : Fin cfg0.N) (k : Fin 1024) : iblk m c 6 t (ix2 0 k) = V m c main_v6 (ix2 0 k) := by
  blk_point [iblk, idx6 t]
theorem blk7 (t : Fin cfg0.N) (k : Fin 512) (l : Fin 1024) : iblk m c 7 t (ix2 k l) = V m c main_v7 (ix2 k l) := by
  blk_point [iblk, idx7 t]
theorem blk8 (t : Fin cfg0.N) (k : Fin 1024) (l : Fin 1024) : iblk m c 8 t (ix2 k l) = V m c main_v8 (ix2 k l) := by
  blk_point [iblk, idx8 t]
theorem blk9 (t : Fin cfg0.N) (k : Fin 1024) (l : Fin 1024) : iblk m c 9 t (ix2 k l) = V m c main_v9 (ix2 k l) := by
  blk_point [iblk, idx9 t]
theorem blk12 (t : Fin cfg0.N) (k : Fin 1024) (l : Fin 256) : iblk m c 12 t (ix2 k l) = V m c main_v13 (ix2 k l) := by
  blk_point [iblk, idx12 t]
theorem blk13 (t : Fin cfg0.N) (k : Fin 1024) (l : Fin 256) : iblk m c 13 t (ix2 k l) = V m c main_v14 (ix2 k l) := by
  blk_point [iblk, idx13 t]
theorem blk14 (t : Fin cfg0.N) (k : Fin 256) (l : Fin 1024) : iblk m c 14 t (ix2 k l) = V m c main_v15 (ix2 k l) := by
  blk_point [iblk, idx14 t]

/-! ## A grid point's rows -/

/-- The arguments' row `n`. -/
def arow (n : Fin 512) : Row :=
  rowAt (aoa m c) (ayr m c) (aga m c) (agb m c) (ax m c) (amd m c) (Fin.ofNat 32 (n.val / 16)) (Fin.ofNat 16 n.val) n

/-- The arguments' weights. -/
def aweights : Weights := ⟨awoa m c, awor m c, awout m c, ag m c, awg m c, awu m c, awd m c⟩

theorem blk_x (t : Fin cfg0.N) (i : Fin 512) (l : Fin 1024) : iblk m c 4 t (ix2 i l) = (arow m c (rowOf t i)).x l :=
  (blk4 m c t i l).trans (V_x m c (rowOf t i) l)

theorem blk_md (t : Fin cfg0.N) (i : Fin 512) (o : Fin 6) (l : Fin 1024) :
    iblk m c 5 t (ix4 0 o i l) = (arow m c (rowOf t i)).md o l :=
  (blk5 m c t o i l).trans (V_md m c o (rowOf t i) l)

/-- One of the six parts of a block's modulation. -/
theorem ld_md (x : Vec Ideal S1x6x512x1024 .f32) (o : Fin 6)
    (inb : ∀ a, (![0, o.val, 0, 0] : Fin 4 → ℕ) a + S1x1x512x1024.size a ≤ S1x6x512x1024.size a) (i : Fin 512) (l : Fin 1024) :
    View.ld x (Rect.unit (s := S1x6x512x1024) ![0, o.val, 0, 0] S1x1x512x1024.size inb) (ix4 0 0 i l) = x (ix4 0 o i l) := by
  refine View.ld_unit_apply_of x _ _ _ _ _ fun a => ?_
  fin_cases a <;> simp [ix4]

theorem row_hs (t : Fin cfg0.N) (i : Fin 512) (d : Fin 1024) :
    Hs (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) (iblk m c 14 t) (ix2 i d)
      = shared (arow m c (rowOf t i)) (aweights m c) d := by
  have hm : ∀ (o : Fin 6) inb (l : Fin 1024), View.ld (iblk m c 5 t) (Rect.unit (s := S1x6x512x1024) ![0, o.val, 0, 0] S1x1x512x1024.size inb) (ix4 0 0 i l)
      = (arow m c (rowOf t i)).md o l := fun o inb l => (ld_md _ o inb i l).trans (blk_md m c t i o l)
  have h7 : ∀ k l, iblk m c 7 t (ix2 k l) = (aweights m c).oa k l := fun k l => (blk7 m c t k l).trans (V_awoa m c k l)
  have h8 : ∀ k l, iblk m c 8 t (ix2 k l) = (aweights m c).or k l := fun k l => (blk8 m c t k l).trans (V_awor m c k l)
  have h9 : ∀ k l, iblk m c 9 t (ix2 k l) = (aweights m c).out k l := fun k l => (blk9 m c t k l).trans (V_awout m c k l)
  have h12 : ∀ k l, iblk m c 12 t (ix2 k l) = (aweights m c).gate k l := fun k l => (blk12 m c t k l).trans (V_awg m c k l)
  have h13 : ∀ k l, iblk m c 13 t (ix2 k l) = (aweights m c).up k l := fun k l => (blk13 m c t k l).trans (V_awu m c k l)
  have h14 : ∀ k l, iblk m c 14 t (ix2 k l) = (aweights m c).down k l := fun k l => (blk14 m c t k l).trans (V_awd m c k l)
  have h6 : ∀ l, iblk m c 6 t (ix2 0 l) = (aweights m c).g l := fun l => (blk6 m c t l).trans (V_g m c l)
  have hH := pay_h _ _ _ _ _ _ _ _ _ i _ _ (blk0 m c t i) (blk1 m c t i) (blk2 m c t i) (blk3 m c t i) (blk_x m c t i) (hm 2 inb_S1x6x512x1024_S1x1x512x1024_0_2_0_0) h7 h8 h9
  have hQ := pay_sq _ _ _ _ _ _ _ _ _ i _ _ (blk0 m c t i) (blk1 m c t i) (blk2 m c t i) (blk3 m c t i) (blk_x m c t i) (hm 2 inb_S1x6x512x1024_S1x1x512x1024_0_2_0_0) h7 h8 h9
  exact pay_shared _ _ i _ _ (hm 5 inb_S1x6x512x1024_S1x1x512x1024_0_5_0_0) h14 _ _ hH (pay_hid _ _ _ _ _ i _ _ (hm 3 inb_S1x6x512x1024_S1x1x512x1024_0_3_0_0) (hm 4 inb_S1x6x512x1024_S1x1x512x1024_0_4_0_0) h6 h12 h13 _ _ hH hQ) d

theorem row_n2 (t : Fin cfg0.N) (i : Fin 512) (d : Fin 1024) :
    N2 (iblk m c 0 t) (iblk m c 1 t) (iblk m c 2 t) (iblk m c 3 t) (iblk m c 4 t) (iblk m c 5 t) (iblk m c 6 t) (iblk m c 7 t) (iblk m c 8 t) (iblk m c 9 t) (ix2 i d)
      = n2 (arow m c (rowOf t i)) (aweights m c) d := by
  have hm : ∀ (o : Fin 6) inb (l : Fin 1024), View.ld (iblk m c 5 t) (Rect.unit (s := S1x6x512x1024) ![0, o.val, 0, 0] S1x1x512x1024.size inb) (ix4 0 0 i l)
      = (arow m c (rowOf t i)).md o l := fun o inb l => (ld_md _ o inb i l).trans (blk_md m c t i o l)
  have h7 : ∀ k l, iblk m c 7 t (ix2 k l) = (aweights m c).oa k l := fun k l => (blk7 m c t k l).trans (V_awoa m c k l)
  have h8 : ∀ k l, iblk m c 8 t (ix2 k l) = (aweights m c).or k l := fun k l => (blk8 m c t k l).trans (V_awor m c k l)
  have h9 : ∀ k l, iblk m c 9 t (ix2 k l) = (aweights m c).out k l := fun k l => (blk9 m c t k l).trans (V_awout m c k l)
  have h6 : ∀ l, iblk m c 6 t (ix2 0 l) = (aweights m c).g l := fun l => (blk6 m c t l).trans (V_g m c l)
  have hH := pay_h _ _ _ _ _ _ _ _ _ i _ _ (blk0 m c t i) (blk1 m c t i) (blk2 m c t i) (blk3 m c t i) (blk_x m c t i) (hm 2 inb_S1x6x512x1024_S1x1x512x1024_0_2_0_0) h7 h8 h9
  have hQ := pay_sq _ _ _ _ _ _ _ _ _ i _ _ (blk0 m c t i) (blk1 m c t i) (blk2 m c t i) (blk3 m c t i) (blk_x m c t i) (hm 2 inb_S1x6x512x1024_S1x1x512x1024_0_2_0_0) h7 h8 h9
  exact pay_n2 _ _ _ i _ _ (hm 3 inb_S1x6x512x1024_S1x1x512x1024_0_3_0_0) (hm 4 inb_S1x6x512x1024_S1x1x512x1024_0_4_0_0) h6 _ _ hH hQ d

/-! ## The results -/

/-- The normalised rows' new part. -/
theorem arr15_new (i : Fin 512) (d : Fin 1024) :
    (dats m 0 c).arrAt 15 cfg0.N (ix2 (⟨16384 + i.val, by omega⟩ : Fin 16896) d) = n2 (arow m c i) (aweights m c) d := by
  let t : Fin cfg0.N := ⟨0, by rw [show cfg0.N = 1 from N_0]; omega⟩
  have e : ((cfg0.win 15).blk t).view.read (Elt Ideal) ((dats m 0 c).arrAt 15 cfg0.N) (ix2 i d)
      = (dats m 0 c).arrAt 15 cfg0.N (ix2 (⟨16384 + i.val, by omega⟩ : Fin 16896) d) := by blk_point [idx15 t]
  have er : rowOf t i = i := Fin.ext (by show 512 * 0 + i.val = i.val; omega)
  refine e.symm.trans ((congrFun (Value.blocks15 m c t (flush0_15 t)) (ix2 i d)).trans ?_)
  refine (congrFun ((Value.flushed15_A m c t).trans (congrArg _ (n2_A ..))) (ix2 i d)).trans ?_
  exact (row_n2 m c t i d).trans (by rw [er])

/-- The rows before it are the argument's. -/
theorem arr15_old (r : Fin 16896) (h : r.val < 16384) (d : Fin 1024) :
    (dats m 0 c).arrAt 15 cfg0.N (ix2 r d) = (m ((c : Thread nD τ).loc main_arg15) : Vec Ideal S16896x1024 .bf16) (ix2 r d) := by
  refine (Value.entry15 m c (ix2 r d) fun t _ hm => ?_).trans ?_
  · have ht := pt_lt t
    mem_blk [idx15 t] at hm
    have h1 : (32 + t.val) * 512 ≤ r.val := hm.1.1
    omega
  · show V m c main_v16_0 (ix2 r d) = _
    entry_read
    rfl

/-- The rows with the shared expert added. -/
theorem arr16 (r : Fin 512) (d : Fin 1024) :
    (dats m 0 c).arrAt 16 cfg0.N (ix2 r d) = shared (arow m c r) (aweights m c) d := by
  let t : Fin cfg0.N := ⟨0, by rw [show cfg0.N = 1 from N_0]; omega⟩
  have e : ((cfg0.win 16).blk t).view.read (Elt Ideal) ((dats m 0 c).arrAt 16 cfg0.N) (ix2 r d)
      = (dats m 0 c).arrAt 16 cfg0.N (ix2 (rowOf t r) d) := by blk_point [idx16 t]
  have er : rowOf t r = r := Fin.ext (by show 512 * 0 + r.val = r.val; omega)
  rw [er] at e
  refine e.symm.trans ((congrFun (Value.blocks16 m c t (flush0_16 t)) (ix2 r d)).trans ?_)
  refine (congrFun ((Value.flushed16_A m c t).trans (congrArg _ (hs_A ..))) (ix2 r d)).trans ?_
  exact (row_hs m c t r d).trans (by rw [er])

end Cert.AfterMixing.Sample
-- ==== Proof.SampPostRef.lean ====
/- The plain statement of the rows after the mixing of the sample: its arrays, entry by entry. -/
module

public import proofs.«01_k».proof.Proof.PostMath
public import proofs.«01_k».proof.Proof.Consts
public import proofs.«01_k».proof.Proof.Gen.Reference5Ideal.Run
public import Idealize.ShloMosaic.Lib.Pointwise
public import Idealize.ShloMosaic.Lib.Tactic.CleanTypes

@[expose] public section

set_option maxRecDepth 16384

noncomputable section

namespace Cert.AfterMixing.Sample

open Idealize.ShloMosaic Idealize.ShloMosaic.TcCoe Idealize.SL.Sem
open Cert.Reference5Ideal Cert.Reference5Ideal.Gen

variable (oa : FVec Ideal S512x512 .bf16) (yr ga gb : FVec Ideal S512x1024 .bf16) (x : FVec Ideal S32x16x1024 .f32)
  (md : FVec Ideal S32x6144 .f32) (g : FVec Ideal S1024 .f32) (woa : FVec Ideal S512x1024 .f32)
  (wor wout : FVec Ideal S1024x1024 .f32) (wg wu : FVec Ideal S1024x256 .f32) (wd : FVec Ideal S256x1024 .f32)

/-! ## The arguments' rows and weights -/

def refRow (b : Fin 32) (s : Fin 16) : Row :=
  rowAt (fun n l => oa (ix2 n l)) (fun n l => yr (ix2 n l)) (fun n l => ga (ix2 n l)) (fun n l => gb (ix2 n l))
    (fun b s k => x (ix3 b s k)) (fun b k => md (ix2 b k)) b s ⟨b.val * 16 + s.val, by omega⟩

def refWeights : Weights :=
  ⟨fun k l => woa (ix2 k l), fun k l => wor (ix2 k l), fun k l => wout (ix2 k l), fun k => g (ix1 k),
    fun k l => wg (ix2 k l), fun k l => wu (ix2 k l), fun k l => wd (ix2 k l)⟩

/-! ## The arrays -/

/-- The rows with the mixing added. -/
def rH : FVec Ideal S32x16x1024 .f32 :=
  (addf x (mulf (broadcastInDim S32x16x1024 ![0, 1, 2] bcast_S32x1x1024_S32x16x1024_0_1_2 (extractStridedSlice S32x1x1024 ![0, 0, 2048] (broadcastInDim S32x1x6144 ![0, 2] bcast_S32x6144_S32x1x6144_0_2 md) slices_S32x1x6144_S32x1x1024_0_0_2048)) (Host.dotGeneral dot_S32x16x1024_S1024x1024_S32x16x1024_2_0_01_1_n_n none (addf (mulf (extf .f32 (shapeCast _ ga shapeCasts_S512x1024_S32x16x1024) bitsLt_bf16_f32) (Host.dotGeneral dot_S32x16x512_S512x1024_S32x16x1024_2_0_01_1_n_n none (extf .f32 (shapeCast _ oa shapeCasts_S512x512_S32x16x512) bitsLt_bf16_f32) woa)) (mulf (extf .f32 (shapeCast _ gb shapeCasts_S512x1024_S32x16x1024) bitsLt_bf16_f32) (Host.dotGeneral dot_S32x16x1024_S1024x1024_S32x16x1024_2_0_01_1_n_n none (extf .f32 (shapeCast _ yr shapeCasts_S512x1024_S32x16x1024) bitsLt_bf16_f32) wor))) wout)))

/-- The rows normalised and modulated. -/
def rN2 : FVec Ideal S32x16x1024 .f32 :=
  (addf (mulf (mulf (mulf (rH oa yr ga gb x md woa wor wout) (broadcastInDim S32x16x1024 ![0, 1, 2] bcast_S32x16x1_S32x16x1024_0_1_2 (Host.rsqrt (addf (Host.divf (broadcastInDim S32x16x1 ![0, 1] bcast_S32x16_S32x16x1_0_1 (Host.reduceAdd (mulf (rH oa yr ga gb x md woa wor wout) (rH oa yr ga gb x md woa wor wout)) (constant S_ .f32 0x00000000#32) reducesTo_S32x16x1024_S32x16_d2 h_S_)) (broadcastInDim S32x16x1 ![] bcast_S_S32x16x1 (constant S_ .f32 0x44800000#32))) (broadcastInDim S32x16x1 ![] bcast_S_S32x16x1 (constant S_ .f32 0x358637BD#32)))))) (broadcastInDim S32x16x1024 ![0, 1, 2] bcast_S1x1x1024_S32x16x1024_0_1_2 (broadcastInDim S1x1x1024 ![2] bcast_S1024_S1x1x1024_2 g))) (broadcastInDim S32x16x1024 ![0, 1, 2] bcast_S32x1x1024_S32x16x1024_0_1_2 (addf (broadcastInDim S32x1x1024 ![] bcast_S_S32x1x1024 (constant S_ .f32 0x3F800000#32)) (extractStridedSlice S32x1x1024 ![0, 0, 4096] (broadcastInDim S32x1x6144 ![0, 2] bcast_S32x6144_S32x1x6144_0_2 md) slices_S32x1x6144_S32x1x1024_0_0_4096)))) (broadcastInDim S32x16x1024 ![0, 1, 2] bcast_S32x1x1024_S32x16x1024_0_1_2 (extractStridedSlice S32x1x1024 ![0, 0, 3072] (broadcastInDim S32x1x6144 ![0, 2] bcast_S32x6144_S32x1x6144_0_2 md) slices_S32x1x6144_S32x1x1024_0_0_3072)))

/-- The shared expert's hidden rows. -/
def rHid : FVec Ideal S32x16x256 .f32 :=
  (mulf (mulf (Host.dotGeneral dot_S32x16x1024_S1024x256_S32x16x256_2_0_01_1_n_n none (rN2 oa yr ga gb x md g woa wor wout) wg) (Host.divf (broadcastInDim S32x16x256 ![] bcast_S_S32x16x256 (constant S_ .f32 0x3F800000#32)) (addf (broadcastInDim S32x16x256 ![] bcast_S_S32x16x256 (constant S_ .f32 0x3F800000#32)) (Host.exp (Host.negf (Host.dotGeneral dot_S32x16x1024_S1024x256_S32x16x256_2_0_01_1_n_n none (rN2 oa yr ga gb x md g woa wor wout) wg)))))) (Host.dotGeneral dot_S32x16x1024_S1024x256_S32x16x256_2_0_01_1_n_n none (rN2 oa yr ga gb x md g woa wor wout) wu))

/-- The rows with the shared expert added. -/
def rHs : FVec Ideal S32x16x1024 .f32 :=
  (addf (rH oa yr ga gb x md woa wor wout) (mulf (broadcastInDim S32x16x1024 ![0, 1, 2] bcast_S32x1x1024_S32x16x1024_0_1_2 (extractStridedSlice S32x1x1024 ![0, 0, 5120] (broadcastInDim S32x1x6144 ![0, 2] bcast_S32x6144_S32x1x6144_0_2 md) slices_S32x1x6144_S32x1x1024_0_0_5120)) (Host.dotGeneral dot_S32x16x256_S256x1024_S32x16x1024_2_0_01_1_n_n none (rHid oa yr ga gb x md g woa wor wout wg wu) wd)))

theorem md_at (b : Fin 32) (n : ℕ) (h : n < 6144) : md (ix2 b ⟨n, h⟩) = md (ix2 b (Fin.ofNat 6144 n)) :=
  congrArg (fun q => md (ix2 b q)) (Fin.ext (Nat.mod_eq_of_lt h).symm)

theorem rH_apply (b : Fin 32) (s : Fin 16) (d : Fin 1024) : rH oa yr ga gb x md woa wor wout (ix3 b s d) = hrow (refRow oa yr ga gb x md b s) (refWeights g woa wor wout wg wu wd) d := by
  unfold rH
  pointwise
  exact congrArg₂ (fun u v => x (ix3 b s d) + u * v) (md_at md b _ _) rfl

theorem rN2_apply (b : Fin 32) (s : Fin 16) (k : Fin 1024) :
    rN2 oa yr ga gb x md g woa wor wout (ix3 b s k) = n2 (refRow oa yr ga gb x md b s) (refWeights g woa wor wout wg wu wd) k := by
  unfold rN2
  pointwise
  simp only [rH_apply oa yr ga gb x md g woa wor wout wg wu wd]
  exact congrArg₂ (fun u v => _ * (1 + u) + v) (md_at md b _ _) (md_at md b _ _)

theorem rHid_apply (b : Fin 32) (s : Fin 16) (j : Fin 256) :
    rHid oa yr ga gb x md g woa wor wout wg wu (ix3 b s j) = hid (refRow oa yr ga gb x md b s) (refWeights g woa wor wout wg wu wd) j := by
  unfold rHid
  pointwise
  simp only [rN2_apply oa yr ga gb x md g woa wor wout wg wu wd]
  rfl

theorem rHs_apply (b : Fin 32) (s : Fin 16) (d : Fin 1024) :
    rHs oa yr ga gb x md g woa wor wout wg wu wd (ix3 b s d) = shared (refRow oa yr ga gb x md b s) (refWeights g woa wor wout wg wu wd) d := by
  unfold rHs
  pointwise
  simp only [rH_apply oa yr ga gb x md g woa wor wout wg wu wd, rHid_apply oa yr ga gb x md g woa wor wout wg wu wd]
  exact congrArg (fun u => _ + u * _) (md_at md b _ _)

end Cert.AfterMixing.Sample
-- ==== Proof.SampPostAlg.lean ====
/- The sample's rows after the mixing: the kernel's two results and the plain statement's are equal. -/
module

public import proofs.«01_k».proof.Proof.SampPostRun
public import proofs.«01_k».proof.Proof.SampPostRef
public import proofs.«01_k».proof.Proof.Inputs
public import proofs.«01_k».proof.Defs
public import proofs.«01_k».proof.Proof.Gen.Kernel5
public import proofs.«01_k».proof.Proof.Gen.Kernel5.Frame
public import proofs.«01_k».proof.Proof.Gen.Reference5Ideal
public import Idealize.ShloMosaic.Adequacy
public import Idealize.ShloMosaic.Init

@[expose] public section

set_option maxRecDepth 16384

noncomputable section

namespace Cert.AfterMixing.Sample

open Idealize.ShloMosaic Idealize.ShloMosaic.TcCoe Idealize.SL.Sem

section
open Cert.Reference5Ideal Cert.Reference5Ideal.Gen
variable (m : (ℓ : Loc nD τ sig) → Buf (Elt Ideal) ℓ) (c : Dev nD)

/-- The plain statement's rows with the shared expert added, entry by entry. -/
theorem ref_hs (r : Fin 512) (d : Fin 1024) : (Value.res_main_v52 m c : Vec Ideal S512x1024 .f32) (ix2 r d)
    = shared (refRow (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) ⟨r.val / 16, by omega⟩ ⟨r.val % 16, by omega⟩)
        (refWeights (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))) d := by
  have e : Value.res_main_v52 m c = shapeCast S512x1024 (rHs (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))) shapeCasts_S32x16x1024_S512x1024 := rfl
  rw [e]
  pointwise
  exact rHs_apply ..
/-- Its normalised rows: those given, and the new ones after them. -/
theorem ref_n2 : Value.res_main_v55 m c = concatenate S16896x1024 0
    [⟨S16384x1024, extractStridedSlice S16384x1024 ![0, 0] (m ((c.tc : Thread Cert.Reference5Ideal.nD Cert.Reference5Ideal.τ).loc Cert.Reference5Ideal.main_arg15)) slices_S16896x1024_S16384x1024_0_0⟩,
      ⟨S512x1024, (truncf .bf16 (shapeCast S512x1024 (rN2 (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) shapeCasts_S32x16x1024_S512x1024) bitsLt_bf16_f32 : FVec Ideal S512x1024 .bf16)⟩]
    concatenates_S16384x1024_S512x1024_S16896x1024_d0 := rfl

theorem ref_n2_old (r : Fin 16896) (h : r.val < 16384) (d : Fin 1024) :
    (Value.res_main_v55 m c : Vec Ideal S16896x1024 .bf16) (ix2 r d) = ((m ((c.tc : Thread Cert.Reference5Ideal.nD Cert.Reference5Ideal.τ).loc Cert.Reference5Ideal.main_arg15)) : Vec Ideal S16896x1024 .bf16) (ix2 r d) := by
  rw [ref_n2]
  pointwise
  rw [dif_pos h]

theorem ref_n2_new (i : Fin 512) (d : Fin 1024) :
    (Value.res_main_v55 m c : Vec Ideal S16896x1024 .bf16) (ix2 (⟨16384 + i.val, by omega⟩ : Fin 16896) d)
    = n2 (refRow (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) ⟨i.val / 16, by omega⟩ ⟨i.val % 16, by omega⟩)
        (refWeights (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14))) d := by
  rw [ref_n2]
  pointwise
  exact rN2_apply ..
end

section
variable {m : (ℓ : Loc Cert.Kernel5Ideal.nD Cert.Kernel5Ideal.τ Cert.Kernel5Ideal.sig) → Buf (Elt Ideal) ℓ}
  {m' : (ℓ : Loc Cert.Reference5Ideal.nD Cert.Reference5Ideal.τ Cert.Reference5Ideal.sig) → Buf (Elt Ideal) ℓ}
  {c : Dev Cert.Kernel5Ideal.nD}

/-- A row of equal arguments is the same. -/
theorem row_eq
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (r : Fin 512) :
    refRow (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) ⟨r.val / 16, by omega⟩ ⟨r.val % 16, by omega⟩ = arow m c r := by
  rw [h0, h1, h2, h3, h4, h5]
  have eb : (⟨r.val / 16, by omega⟩ : Fin 32) = Fin.ofNat 32 (r.val / 16) := Fin.ext (Nat.mod_eq_of_lt (by omega)).symm
  have es : (⟨r.val % 16, by omega⟩ : Fin 16) = Fin.ofNat 16 r.val := rfl
  have en : (⟨r.val / 16 * 16 + r.val % 16, by omega⟩ : Fin 512) = r := Fin.ext (by show r.val / 16 * 16 + r.val % 16 = r.val; omega)
  refine (congrArg (fun b => rowAt (aoa m c) (ayr m c) (aga m c) (agb m c) (ax m c) (amd m c) b _ _) eb).trans ?_
  exact congrArg (fun n => rowAt (aoa m c) (ayr m c) (aga m c) (agb m c) (ax m c) (amd m c) _ _ n) en

/-- And so are equal weights. -/
theorem weights_eq
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
    (h7 : m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7))
    (h8 : m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8))
    (h9 : m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9))
    (h12 : m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12))
    (h13 : m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13))
    (h14 : m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) :
    refWeights (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13)) (m' ((c.tc : Thread Cert.Reference5Ideal.nD Cert.Reference5Ideal.τ).loc Cert.Reference5Ideal.main_arg14)) = aweights m c := by
  rw [h6, h7, h8, h9, h12, h13, h14]
  rfl
end

theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem preserves : Cert.preserves_Kernel5_Kernel5Ideal := trivial

/-- The kernel's two results and the plain statement's are equal. -/
theorem algebraic : Cert.algebraic_Kernel5Ideal_Reference5Ideal := by
  intro m ρ m' ρ' _ hag
  refine ⟨fun c => (Cert.Kernel5Ideal.Gen.dats m 0 c).arrAt 15 Cert.Kernel5Ideal.cfg0.N,
    fun c => (Cert.Kernel5Ideal.Gen.dats m 0 c).arrAt 16 Cert.Kernel5Ideal.cfg0.N,
    (θ_run Cert.Kernel5Ideal.defs _ _).mono (fun r h c => ?_) (Cert.Kernel5Ideal.Value.run_blocks m ρ),
    (θ_run Cert.Reference5Ideal.defs _ _).mono (fun r h c => ?_) (Cert.Reference5Ideal.Value.run (F := Ideal) m' ρ')⟩
  · obtain ⟨en, e, -, -, -, -, ha⟩ := h c
    exact ⟨en, e, ha⟩
  · obtain ⟨h0, h1, h2, h3, h4, h5, h6, h7, h8, h9, h10, h11, h12, h13, h14, h15⟩ := hag c
    obtain ⟨en, e, ha⟩ := h c
    refine ⟨en.trans (Retention.ext2 fun r d => ?_), e.trans (Retention.ext2 fun r d => ?_), ha⟩
    · by_cases hr : r.val < 16384
      · exact (ref_n2_old m' c r hr d).trans ((congrFun h15 _).trans (arr15_old m c r hr d).symm)
      · obtain ⟨i, hi⟩ : ∃ i : Fin 512, (⟨16384 + i.val, by omega⟩ : Fin 16896) = r :=
          ⟨⟨r.val - 16384, by omega⟩, Fin.ext (by show 16384 + (r.val - 16384) = r.val; omega)⟩
        rw [← hi]
        refine (ref_n2_new m' c i d).trans (Eq.trans ?_ (arr15_new m c i d).symm)
        rw [row_eq h0 h1 h2 h3 h4 h5, weights_eq h6 h7 h8 h9 h12 h13 h14]
    · refine (ref_hs m' c r d).trans (Eq.trans ?_ (arr16 m c r d).symm)
      rw [row_eq h0 h1 h2 h3 h4 h5, weights_eq h6 h7 h8 h9 h12 h13 h14]

end Cert.AfterMixing.Sample
-- ==== Proof.FinalMath.lean ====
/- The last step as functions of a row: the chosen experts' rows weighted and added, and the final norm. -/
module

public import Idealize.ShloMosaic.PureOps.Ideal
public import Idealize.ShloMosaic.Lib.Pointwise.Index

@[expose] public section

noncomputable section

namespace Cert.Final

open Idealize.ShloMosaic

/-- Column `d` of a row of 512 words: the lower halves are the first 512 columns, the upper halves the others, each
    read as the upper half of a float's word. -/
def half (p : Fin 512 → BitVec 32) (d : Fin 1024) : EReal :=
  if h : d.val < 512 then Ideal.ofBits .f32 (p ⟨d.val, h⟩ <<< 16#32)
  else Ideal.ofBits .f32 (p ⟨d.val - 512, by omega⟩ &&& 4294901760#32)

theorem half_lower (p : Fin 512 → BitVec 32) (x : Fin 512) (h : x.val < 1024) :
    half p ⟨x.val, h⟩ = Ideal.ofBits .f32 (p x <<< 16#32) := dif_pos x.isLt

theorem half_upper (p : Fin 512 → BitVec 32) (x : Fin 512) (h : 512 + x.val < 1024) :
    half p ⟨512 + x.val, h⟩ = Ideal.ofBits .f32 (p x &&& 4294901760#32) := by
  refine (dif_neg (Nat.not_lt.2 (Nat.le_add_right ..))).trans ?_
  exact congrArg (fun l => Ideal.ofBits .f32 (p l &&& 4294901760#32)) (Fin.ext (Nat.add_sub_cancel_left ..))

/-- A sum over the columns is that over the first half and that over the second. -/
theorem sum_halves (f : Fin 1024 → EReal) :
    ∑ l, f l = ∑ x : Fin 512, f ⟨x.val, by omega⟩ + ∑ x : Fin 512, f ⟨512 + x.val, by omega⟩ :=
  Fin.sum_univ_add (a := 512) (b := 512) f

/-- A token's row: its eight experts' rows as words, their weights, the row they are added to, and the scale. -/
structure Row where
  ye : Fin 8 → Fin 512 → BitVec 32
  w : Fin 8 → EReal
  hs : Fin 1024 → EReal
  sc : Fin 1024 → EReal

variable (r : Row)

/-- The row with the experts added. -/
def hrow (d : Fin 1024) : EReal := r.hs d + r.sc d * ∑ k, r.w k * half (r.ye k) d

/-- That row divided by its root mean square, times the gain. -/
def out (g : Fin 1024 → EReal) (d : Fin 1024) : EReal :=
  hrow r d * Ideal.rsqrt (Ideal.div (∑ l, hrow r l * hrow r l) (Ideal.ofBits .f32 0x44800000#32) + Ideal.ofBits .f32 0x358637BD#32)
    * g d

end Cert.Final
-- ==== Proof.FinalRow.lean ====
/- The last step's arithmetic on a block of 512 rows, row by row. -/
module

public import proofs.«01_k».proof.Proof.FinalMath
public import proofs.«01_k».proof.Proof.Gen.Kernel6Ideal.Skeleton
public import Idealize.ShloMosaic.Lib.Pointwise

@[expose] public section

set_option maxRecDepth 16384

noncomputable section

namespace Cert.Final

open Idealize.ShloMosaic Idealize.ShloMosaic.TcCoe Idealize.SL.Sem
open Cert.Kernel6Ideal Cert.Kernel6Ideal.Gen

variable (v0 : FVec Ideal S512x8 .f32) (P : Fin 8 → Vec Ideal S1x512x512 .i32) (x : FVec Ideal S512x1024 .f32)
  (m5 : FVec Ideal S1x1x512x1024 .f32) (g : FVec Ideal S1x1024 .f32) (i : Fin 512) (r : Row) (G : Fin 1024 → EReal)
  (hw : ∀ k, v0 (ix2 i k) = r.w k) (hP : ∀ k l, P k (ix3 0 i l) = r.ye k l) (hx : ∀ l, x (ix2 i l) = r.hs l)
  (hm : ∀ l, m5 (ix4 0 0 i l) = r.sc l) (hg : ∀ l, g (ix2 0 l) = G l)

include hw hP in
theorem pay1_apply (d : Fin 1024) : k0_pay1 v0 (P 0) (P 1) (P 2) (ix2 i d)
    = r.w 0 * half (r.ye 0) d + r.w 1 * half (r.ye 1) d + r.w 2 * half (r.ye 2) d := by
  unfold k0_pay1
  pointwise
  simp only [hw, hP]
  rfl

include hw hP in
theorem pay3_apply (d : Fin 1024) :
    k0_pay3 v0 (k0_pay1 v0 (P 0) (P 1) (P 2)) (k0_pay2 v0) (P 3) (P 4) (P 5) (ix2 i d)
      = r.w 0 * half (r.ye 0) d + r.w 1 * half (r.ye 1) d + r.w 2 * half (r.ye 2) d + r.w 3 * half (r.ye 3) d
        + r.w 4 * half (r.ye 4) d + r.w 5 * half (r.ye 5) d := by
  unfold k0_pay3 k0_pay2
  pointwise
  simp only [pay1_apply v0 P i r hw hP, hw, hP]
  rfl

/-- The eight products in the kernel's order are their sum. -/
theorem sum8 (f : Fin 8 → EReal) : f 0 + f 1 + f 2 + f 3 + f 4 + f 5 + f 6 + f 7 = ∑ k, f k :=
  (Fin.sum_univ_eight f).symm

include hP hw in
/-- The last two experts, of any sum `A` of the ones before. -/
theorem acc_apply (A : FVec Ideal S512x1024 .f32)
    (hA : ∀ d, A (ix2 i d) = r.w 0 * half (r.ye 0) d + r.w 1 * half (r.ye 1) d + r.w 2 * half (r.ye 2) d
      + r.w 3 * half (r.ye 3) d + r.w 4 * half (r.ye 4) d + r.w 5 * half (r.ye 5) d) (d : Fin 1024) :
    A (ix2 i d) + v0 (ix2 i 6) * half (fun l => P 6 (ix3 0 i l)) d + v0 (ix2 i 7) * half (fun l => P 7 (ix3 0 i l)) d
      = ∑ k, r.w k * half (r.ye k) d := by
  rw [hA, ← sum8 fun k => r.w k * half (r.ye k) d]
  simp only [hw, hP]

include hw hP hx hm hg in
/-- The row the block's arithmetic leaves. -/
theorem pay_out (d : Fin 1024) :
    k0_pay7 v0 (k0_pay3 v0 (k0_pay1 v0 (P 0) (P 1) (P 2)) (k0_pay2 v0) (P 3) (P 4) (P 5)) (k0_pay4 v0) (k0_pay5 (P 6))
      (k0_pay6 (P 6)) (P 7) x m5 g (ix2 i d) = out r G d := by
  have hA := pay3_apply v0 P i r hw hP
  generalize k0_pay3 v0 (k0_pay1 v0 (P 0) (P 1) (P 2)) (k0_pay2 v0) (P 3) (P 4) (P 5) = A at hA ⊢
  have hr : ∀ d, hrow r d = x (ix2 i d) + m5 (ix4 0 0 i d) * (A (ix2 i d) + v0 (ix2 i 6) * half (fun l => P 6 (ix3 0 i l)) d
      + v0 (ix2 i 7) * half (fun l => P 7 (ix3 0 i l)) d) := fun d => by
    rw [acc_apply v0 P i r hw hP A hA, hx, hm]
    rfl
  unfold out
  simp only [hr, ← hg, sum_halves, half_lower, half_upper]
  unfold k0_pay7 k0_pay6 k0_pay5 k0_pay4
  pointwise
  rfl

end Cert.Final
-- ==== Proof.FinalRun.lean ====
/- The last step on the sample: its input blocks as rows of the arguments, and its result, entry by entry. -/
module

public import proofs.«01_k».proof.Proof.FinalRow
public import proofs.«01_k».proof.Proof.Gen.Kernel6Ideal.Value
public import Idealize.ShloMosaic.Lib.Pipeline.ValueKit
public import Idealize.ShloMosaic.Lib.StableHlo.RunRead

@[expose] public section

set_option maxRecDepth 16384

noncomputable section

namespace Cert.Final

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-! ## The arguments -/

def aye (k : Fin 8) (n : Fin 4608) (l : Fin 512) : BitVec 32 :=
  (m ((c : Thread nD τ).loc main_arg0) : Vec Ideal S8x4608x512 .i32) (ix3 k n l)
def aw (n : Fin 16896) (k : Fin 8) : EReal := (m ((c : Thread nD τ).loc main_arg1) : Vec Ideal S16896x8 .f32) (ix2 n k)
def ahs (n : Fin 512) (l : Fin 1024) : EReal := (m ((c : Thread nD τ).loc main_arg2) : Vec Ideal S512x1024 .f32) (ix2 n l)
def amd (b : Fin 32) (k : Fin 6144) : EReal := (m ((c : Thread nD τ).loc main_arg3) : Vec Ideal S32x6144 .f32) (ix2 b k)
def ag (k : Fin 1024) : EReal := (m ((c : Thread nD τ).loc main_arg4) : Vec Ideal S1024 .f32) (ix1 k)

/-- The arguments' row `n`: the sample's rows come last in the experts' rows and in the weights. -/
def arow (n : Fin 512) : Row :=
  ⟨fun k => aye m c k ⟨4096 + n.val, by omega⟩, aw m c ⟨16384 + n.val, by omega⟩, ahs m c n,
    fun k => amd m c (Fin.ofNat 32 (n.val / 16)) (Fin.ofNat 6144 (5120 + k.val))⟩

/-! ## The arrays the kernel is called with -/

/-- Each sequence's modulation stands once for each of its 16 rows. -/
theorem V_md (r : Fin 512) (k : Fin 1024) : V m c main_v4 (ix4 0 5 r k) = (arow m c r).sc k := by
  entry_read
  pointwise
  exact congrArg₂ (fun b j => (m ((c : Thread nD τ).loc main_arg3) : Vec Ideal S32x6144 .f32) (ix2 b j))
    (Fin.ext (by show _ = r.val / 16 % 32; simp only; omega)) (Fin.ext (Nat.mod_eq_of_lt (by omega)).symm)

theorem V_g (k : Fin 1024) : V m c main_v5 (ix2 0 k) = ag m c k := by
  entry_read
  pointwise
  rfl

/-! ## The input blocks -/

theorem pt_zero (t : Fin cfg0.N) : t.val = 0 := by
  have := lt_of_lt_of_eq t.isLt (show cfg0.N = 1 from N_0)
  omega

theorem idx0 : ∀ t : Fin cfg0.N, win0_0.index t (0 : Fin 3) = 0 ∧ win0_0.index t (1 : Fin 3) = 8 ∧ win0_0.index t (2 : Fin 3) = 0 :=
  (by decide +kernel : ∀ t : Fin grid0.N, _)
theorem idx1 : ∀ t : Fin cfg0.N, win0_1.index t (0 : Fin 2) = 32 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 4) = 0 ∧ win0_3.index t (1 : Fin 4) = 0
    ∧ win0_3.index t (2 : Fin 4) = 0 ∧ win0_3.index t (3 : Fin 4) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (t : Fin cfg0.N) (k : Fin 8) (i : Fin 512) (l : Fin 512) :
    (iblk m c 0 t : Vec Ideal S8x512x512 .i32) (ix3 k i l) = (arow m c i).ye k l := by
  have e : iblk m c 0 t (ix3 k i l) = V m c main_arg0 (ix3 k (⟨4096 + i.val, by omega⟩ : Fin 4608) l) := by blk_point [iblk, idx0 t]
  exact e.trans (congrFun (V_main_arg0 m c) _)
theorem blk1 (t : Fin cfg0.N) (i : Fin 512) (k : Fin 8) : iblk m c 1 t (ix2 i k) = (arow m c i).w k := by
  have e : iblk m c 1 t (ix2 i k) = V m c main_arg1 (ix2 (⟨16384 + i.val, by omega⟩ : Fin 16896) k) := by blk_point [iblk, idx1 t]
  exact e.trans (congrFun (V_main_arg1 m c) _)
theorem blk2 (t : Fin cfg0.N) (i : Fin 512) (l : Fin 1024) : iblk m c 2 t (ix2 i l) = (arow m c i).hs l := by
  have e : iblk m c 2 t (ix2 i l) = V m c main_arg2 (ix2 i l) := by blk_point [iblk, idx2 t]
  exact e.trans (congrFun (V_main_arg2 m c) _)
theorem blk3 (t : Fin cfg0.N) (i : Fin 512) (l : Fin 1024) : iblk m c 3 t (ix4 0 5 i l) = (arow m c i).sc l := by
  have e : iblk m c 3 t (ix4 0 5 i l) = V m c main_v4 (ix4 0 5 i l) := by blk_point [iblk, idx3 t]
  exact e.trans (V_md m c i l)
theorem blk4 (t : Fin cfg0.N) (l : Fin 1024) : iblk m c 4 t (ix2 0 l) = ag m c l := by
  have e : iblk m c 4 t (ix2 0 l) = V m c main_v5 (ix2 0 l) := by blk_point [iblk, idx4 t]
  exact e.trans (V_g m c l)

/-! ## What the grid point leaves -/

theorem zero2 : (![0, 0] : Fin 2 → Nat) = fun _ => 0 := funext fun a => by fin_cases a <;> rfl

theorem inb (k : Fin 8) : ∀ a, (![k.val, 0, 0] : Fin 3 → ℕ) a + S1x512x512.size a ≤ S8x512x512.size a := by
  intro a
  fin_cases a
  · show k.val + 1 ≤ 8
    omega
  · exact le_refl 512
  · exact le_refl 512

/-- Expert `k`'s rows of a block. -/
def expert (x0 : Vec Ideal S8x512x512 .i32) (k : Fin 8) : Vec Ideal S1x512x512 .i32 :=
  View.ld x0 (Rect.unit (s := S8x512x512) ![k.val, 0, 0] S1x512x512.size (inb k))

theorem expert_apply (x0 : Vec Ideal S8x512x512 .i32) (k : Fin 8) (i l : Fin 512) : expert x0 k (ix3 0 i l) = x0 (ix3 k i l) := by
  refine View.ld_unit_apply_of x0 _ _ _ _ _ fun a => ?_
  fin_cases a <;> simp [ix3]

/-- The last part of a block's modulation. -/
theorem ld_md (x : Vec Ideal S1x6x512x1024 .f32) (i : Fin 512) (l : Fin 1024) :
    View.ld x r0_10 (ix4 0 0 i l) = x (ix4 0 5 i l) := by
  refine View.ld_unit_apply_of x _ _ _ _ _ fun a => ?_
  fin_cases a <;> simp [ix4]

theorem out_eq (x0 : Vec Ideal S8x512x512 .i32) (x1 : Vec Ideal S512x8 .f32) (x2 : Vec Ideal S512x1024 .f32)
    (x3 : Vec Ideal S1x6x512x1024 .f32) (x4 : Vec Ideal S1x1024 .f32) :
    out0_5 x0 x1 x2 x3 x4 = k0_pay7 x1 (k0_pay3 x1 (k0_pay1 x1 (expert x0 0) (expert x0 1) (expert x0 2)) (k0_pay2 x1)
      (expert x0 3) (expert x0 4) (expert x0 5)) (k0_pay4 x1) (k0_pay5 (expert x0 6)) (k0_pay6 (expert x0 6)) (expert x0 7)
      x2 (View.ld x3 r0_10) x4 := by
  unfold out0_5
  rw [View.canon_unit_zero zero2]
  simp only [View.ld_unit_zero (S := S512x8) zero2, View.ld_unit_zero (S := S512x1024) zero2, View.ld_unit_zero (S := S1x1024) zero2]
  rfl

theorem row_out (t : Fin cfg0.N) (i : Fin 512) (d : Fin 1024) :
    out0_5 (iblk m c 0 t) (iblk m c 1 t) (iblk m c 2 t) (iblk m c 3 t) (iblk m c 4 t) (ix2 i d)
      = out (arow m c i) (ag m c) d := by
  rw [out_eq]
  exact pay_out _ (expert (iblk m c 0 t)) _ _ _ i _ _ (blk1 m c t i) (fun k l => (expert_apply _ k i l).trans (blk0 m c t k i l))
    (blk2 m c t i) (fun l => (ld_md _ i l).trans (blk3 m c t i l)) (blk4 m c t) d

/-! ## The result -/

theorem arr5 (r : Fin 512) (d : Fin 1024) :
    (dats m 0 c).arrAt 5 cfg0.N (ix2 r d) = out (arow m c r) (ag m c) d := by
  let t : Fin cfg0.N := ⟨0, by rw [show cfg0.N = 1 from N_0]; omega⟩
  have e : ((cfg0.win 5).blk t).view.read (Elt Ideal) ((dats m 0 c).arrAt 5 cfg0.N) (ix2 r d)
      = (dats m 0 c).arrAt 5 cfg0.N (ix2 r d) := by blk_point [idx5 t]
  refine e.symm.trans ((congrFun (Value.blocks5 m c t (flush0_5 t)) (ix2 r d)).trans ?_)
  refine (congrFun (Value.flushed5 m c t) (ix2 r d)).trans ?_
  exact row_out m c t r d

end Cert.Final
-- ==== Proof.FinalRef.lean ====
/- The plain statement of the last step on the sample: its result, entry by entry. -/
module

public import proofs.«01_k».proof.Proof.FinalMath
public import proofs.«01_k».proof.Proof.Gen.Reference6Ideal.Run
public import Idealize.ShloMosaic.Lib.Pointwise
public import Idealize.ShloMosaic.Lib.Tactic.CleanTypes

@[expose] public section

set_option maxRecDepth 16384

noncomputable section

namespace Cert.Final

open Idealize.ShloMosaic Idealize.ShloMosaic.TcCoe Idealize.SL.Sem
open Cert.Reference6Ideal Cert.Reference6Ideal.Gen

variable (ye : Vec Ideal S8x4608x512 .i32) (w : FVec Ideal S16896x8 .f32) (hs : FVec Ideal S512x1024 .f32)
  (md : FVec Ideal S32x6144 .f32) (g : FVec Ideal S1024 .f32)

/-- The arguments' row `s` of sequence `b`. -/
def refRow (b : Fin 32) (s : Fin 16) : Row :=
  ⟨fun k l => ye (ix3 k (⟨4096 + (b.val * 16 + s.val), by omega⟩ : Fin 4608) l),
    fun k => w (ix2 (⟨16384 + (b.val * 16 + s.val), by omega⟩ : Fin 16896) k),
    fun l => hs (ix2 (⟨b.val * 16 + s.val, by omega⟩ : Fin 512) l), fun l => md (ix2 b (Fin.ofNat 6144 (5120 + l.val)))⟩

/-- The eight experts' rows, weighted and added. -/
def rY : FVec Ideal S512x1024 .f32 :=
  Host.reduceAdd (mulf (concatenate S8x512x1024 2 [⟨S8x512x512, (bitcastToFloat (F := Ideal) .f32 (Host.shli (extractStridedSlice S8x512x512 ![0, 4096, 0] ye slices_S8x4608x512_S8x512x512_0_4096_0) (broadcastInDim S8x512x512 ![] bcast_S_S8x512x512 (constantI S_ 32 16#32))))⟩, ⟨S8x512x512, (bitcastToFloat (F := Ideal) .f32 (andi (extractStridedSlice S8x512x512 ![0, 4096, 0] ye slices_S8x4608x512_S8x512x512_0_4096_0) (broadcastInDim S8x512x512 ![] bcast_S_S8x512x512 (constantI S_ 32 4294901760#32))))⟩] concatenates_S8x512x512_S8x512x512_S8x512x1024_d2) (broadcastInDim S8x512x1024 ![0, 1, 2] bcast_S8x512x1_S8x512x1024_0_1_2 (broadcastInDim S8x512x1 ![0, 1] bcast_S8x512_S8x512x1_0_1 (transpose S8x512 [1, 0] (extractStridedSlice S512x8 ![16384, 0] w slices_S16896x8_S512x8_16384_0) transposes_S512x8_S8x512_1_0)))) (constant S_ .f32 0x00000000#32) reducesTo_S8x512x1024_S512x1024_d0 h_S_

/-- The rows with the experts added. -/
def rH : FVec Ideal S32x16x1024 .f32 :=
  addf (shapeCast _ hs shapeCasts_S512x1024_S32x16x1024) (mulf (broadcastInDim S32x16x1024 ![0, 1, 2] bcast_S32x1x1024_S32x16x1024_0_1_2 (extractStridedSlice S32x1x1024 ![0, 0, 5120] (broadcastInDim S32x1x6144 ![0, 2] bcast_S32x6144_S32x1x6144_0_2 md) slices_S32x1x6144_S32x1x1024_0_0_5120)) (shapeCast _ (rY ye w) shapeCasts_S512x1024_S32x16x1024))

theorem rY_apply (n : Fin 512) (d : Fin 1024) : rY ye w (ix2 n d)
    = ∑ k, w (ix2 (⟨16384 + n.val, by omega⟩ : Fin 16896) k) * half (fun l => ye (ix3 k (⟨4096 + n.val, by omega⟩ : Fin 4608) l)) d := by
  unfold rY
  pointwise
  refine Finset.sum_congr rfl fun k _ => ?_
  rw [mul_comm]
  rfl

theorem rH_apply (b : Fin 32) (s : Fin 16) (d : Fin 1024) : rH ye w hs md (ix3 b s d) = hrow (refRow ye w hs md b s) d := by
  unfold rH
  pointwise
  simp only [rY_apply ye w]
  exact congrArg (fun q => _ + md (ix2 b q) * _) (Fin.ext (Nat.mod_eq_of_lt (by omega)).symm)

end Cert.Final
-- ==== Proof.FinalAlg.lean ====
/- The last step on the sample: the kernel's result and the plain statement's are equal. -/
module

public import proofs.«01_k».proof.Proof.FinalRun
public import proofs.«01_k».proof.Proof.FinalRef
public import proofs.«01_k».proof.Proof.Inputs
public import proofs.«01_k».proof.Defs
public import proofs.«01_k».proof.Proof.Gen.Kernel6
public import proofs.«01_k».proof.Proof.Gen.Kernel6.Frame
public import proofs.«01_k».proof.Proof.Gen.Reference6Ideal
public import Idealize.ShloMosaic.Adequacy
public import Idealize.ShloMosaic.Init

@[expose] public section

set_option maxRecDepth 16384

noncomputable section

namespace Cert.Final

open Idealize.ShloMosaic Idealize.ShloMosaic.TcCoe Idealize.SL.Sem

section
open Cert.Reference6Ideal Cert.Reference6Ideal.Gen

/-- The plain statement's normalised rows. -/
def rOut (ye : Vec Ideal S8x4608x512 .i32) (w : FVec Ideal S16896x8 .f32) (hs : FVec Ideal S512x1024 .f32)
    (md : FVec Ideal S32x6144 .f32) (g : FVec Ideal S1024 .f32) : FVec Ideal S32x16x1024 .f32 :=
  (mulf (mulf (rH ye w hs md) (broadcastInDim S32x16x1024 ![0, 1, 2] bcast_S32x16x1_S32x16x1024_0_1_2 (Host.rsqrt (addf (Host.divf (broadcastInDim S32x16x1 ![0, 1] bcast_S32x16_S32x16x1_0_1 (Host.reduceAdd (mulf (rH ye w hs md) (rH ye w hs md)) (constant S_ .f32 0x00000000#32) reducesTo_S32x16x1024_S32x16_d2 h_S_)) (broadcastInDim S32x16x1 ![] bcast_S_S32x16x1 (constant S_ .f32 0x44800000#32))) (broadcastInDim S32x16x1 ![] bcast_S_S32x16x1 (constant S_ .f32 0x358637BD#32)))))) (broadcastInDim S32x16x1024 ![0, 1, 2] bcast_S1x1x1024_S32x16x1024_0_1_2 (broadcastInDim S1x1x1024 ![2] bcast_S1024_S1x1x1024_2 g)))

theorem rOut_apply (ye : Vec Ideal S8x4608x512 .i32) (w : FVec Ideal S16896x8 .f32) (hs : FVec Ideal S512x1024 .f32)
    (md : FVec Ideal S32x6144 .f32) (g : FVec Ideal S1024 .f32) (b : Fin 32) (s : Fin 16) (d : Fin 1024) :
    rOut ye w hs md g (ix3 b s d) = out (refRow ye w hs md b s) (fun k => g (ix1 k)) d := by
  unfold rOut
  pointwise
  simp only [rH_apply ye w hs md]
  rfl

variable (m : (ℓ : Loc nD τ sig) → Buf (Elt Ideal) ℓ) (c : Dev nD)

/-- The plain statement's result, entry by entry. -/
theorem ref_out (r : Fin 512) (d : Fin 1024) : (Value.res_main_v39 m c : Vec Ideal S512x1024 .f32) (ix2 r d)
    = out (refRow (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) ⟨r.val / 16, by omega⟩ ⟨r.val % 16, by omega⟩) (fun k => ((m ((c.tc : Thread Cert.Reference6Ideal.nD Cert.Reference6Ideal.τ).loc Cert.Reference6Ideal.main_arg4)) : FVec Ideal S1024 .f32) (ix1 k)) d := by
  have e : Value.res_main_v39 m c = shapeCast S512x1024 (rOut (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) shapeCasts_S32x16x1024_S512x1024 := rfl
  rw [e]
  pointwise
  exact rOut_apply ..
end

section
variable {m : (ℓ : Loc Cert.Kernel6Ideal.nD Cert.Kernel6Ideal.τ Cert.Kernel6Ideal.sig) → Buf (Elt Ideal) ℓ}
  {m' : (ℓ : Loc Cert.Reference6Ideal.nD Cert.Reference6Ideal.τ Cert.Reference6Ideal.sig) → Buf (Elt Ideal) ℓ}
  {c : Dev Cert.Kernel6Ideal.nD}

/-- A row of equal arguments is the same. -/
theorem row_eq
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (r : Fin 512) :
    refRow (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) ⟨r.val / 16, by omega⟩ ⟨r.val % 16, by omega⟩ = arow m c r := by
  rw [h0, h1, h2, h3]
  have eb : (⟨r.val / 16, by omega⟩ : Fin 32) = Fin.ofNat 32 (r.val / 16) := Fin.ext (Nat.mod_eq_of_lt (by omega)).symm
  have en : r.val / 16 * 16 + r.val % 16 = r.val := by omega
  unfold refRow arow
  simp only [en]
  exact congrArg (fun b => (⟨_, _, _, fun k => amd m c b (Fin.ofNat 6144 (5120 + k.val))⟩ : Row)) eb
end

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- The kernel's result and the plain statement's are equal. -/
theorem algebraic : Cert.algebraic_Kernel6Ideal_Reference6Ideal := by
  intro m ρ m' ρ' _ hag
  refine ⟨fun c => (Cert.Kernel6Ideal.Gen.dats m 0 c).arrAt 5 Cert.Kernel6Ideal.cfg0.N,
    (θ_run Cert.Kernel6Ideal.defs _ _).mono (fun r h c => ?_) (Cert.Kernel6Ideal.Value.run_blocks m ρ),
    (θ_run Cert.Reference6Ideal.defs _ _).mono (fun r h c => ?_) (Cert.Reference6Ideal.Value.run (F := Ideal) m' ρ')⟩
  · exact h c
  · obtain ⟨h0, h1, h2, h3, h4⟩ := hag c
    obtain ⟨e, ha⟩ := h c
    refine ⟨e.trans (Retention.ext2 fun r d => ?_), ha⟩
    refine (ref_out m' c r d).trans (Eq.trans ?_ (arr5 m c r d).symm)
    rw [row_eq h0 h1 h2 h3 r, h4]
    rfl

end Cert.Final
-- ==== Proof.LastRow.lean ====
/- The last step's arithmetic on a block of the prompt, whose rows share one gate, row by row. -/
module

public import proofs.«01_k».proof.Proof.FinalRow
public import proofs.«01_k».proof.Proof.Gen.Kernel7Ideal.Skeleton

@[expose] public section

set_option maxRecDepth 16384

noncomputable section

namespace Cert.Final.Prompt

open Idealize.ShloMosaic Idealize.ShloMosaic.TcCoe Idealize.SL.Sem
open Cert.Kernel7Ideal Cert.Kernel7Ideal.Gen

variable (v0 : FVec Ideal S512x8 .f32) (P : Fin 8 → Vec Ideal S1x512x512 .i32) (x : FVec Ideal S512x1024 .f32)
  (m5 : FVec Ideal S1x1x1x1024 .f32) (g : FVec Ideal S1x1024 .f32) (i : Fin 512) (r : Row) (G : Fin 1024 → EReal)
  (hw : ∀ k, v0 (ix2 i k) = r.w k) (hP : ∀ k l, P k (ix3 0 i l) = r.ye k l) (hx : ∀ l, x (ix2 i l) = r.hs l)
  (hm : ∀ l, m5 (ix4 0 0 0 l) = r.sc l) (hg : ∀ l, g (ix2 0 l) = G l)

/-- The first six experts are added as on the sample. -/
theorem pay3_same : k0_pay3 v0 (k0_pay1 v0 (P 0) (P 1) (P 2)) (k0_pay2 v0) (P 3) (P 4) (P 5)
    = Cert.Kernel6Ideal.Gen.k0_pay3 v0 (Cert.Kernel6Ideal.Gen.k0_pay1 v0 (P 0) (P 1) (P 2)) (Cert.Kernel6Ideal.Gen.k0_pay2 v0) (P 3) (P 4) (P 5) := rfl

include hw hP hx hm hg in
/-- The row the block's arithmetic leaves. -/
theorem pay_out (d : Fin 1024) :
    k0_pay7 v0 (k0_pay3 v0 (k0_pay1 v0 (P 0) (P 1) (P 2)) (k0_pay2 v0) (P 3) (P 4) (P 5)) (k0_pay4 v0) (k0_pay5 (P 6))
      (k0_pay6 (P 6)) (P 7) x m5 g (ix2 i d) = out r G d := by
  have hA := pay3_apply v0 P i r hw hP
  rw [pay3_same]
  generalize Cert.Kernel6Ideal.Gen.k0_pay3 v0 (Cert.Kernel6Ideal.Gen.k0_pay1 v0 (P 0) (P 1) (P 2)) (Cert.Kernel6Ideal.Gen.k0_pay2 v0) (P 3) (P 4) (P 5) = A at hA ⊢
  have hr : ∀ d, hrow r d = x (ix2 i d) + m5 (ix4 0 0 0 d) * (A (ix2 i d) + v0 (ix2 i 6) * half (fun l => P 6 (ix3 0 i l)) d
      + v0 (ix2 i 7) * half (fun l => P 7 (ix3 0 i l)) d) := fun d => by
    rw [acc_apply v0 P i r hw hP A hA, hx, hm]
    rfl
  unfold out
  simp only [hr, ← hg, sum_halves, half_lower, half_upper]
  unfold k0_pay7 k0_pay6 k0_pay5 k0_pay4
  pointwise
  rfl

end Cert.Final.Prompt
-- ==== Proof.LastRun.lean ====
/- The last call of the last step on the prompt: its blocks as rows of the arguments, and its result, entry by entry. -/
module

public import proofs.«01_k».proof.Proof.LastRow
public import proofs.«01_k».proof.Proof.FinalRun
public import proofs.«01_k».proof.Proof.Gen.Kernel7Ideal.Value
public import Idealize.ShloMosaic.Lib.Pipeline.ValueKit
public import Idealize.ShloMosaic.Lib.StableHlo.RunRead

@[expose] public section

set_option maxRecDepth 16384

noncomputable section

namespace Cert.Final.Prompt

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

/-! ## The arguments -/

def aye (k : Fin 8) (n : Fin 4608) (l : Fin 512) : BitVec 32 :=
  (m ((c : Thread nD τ).loc main_arg0) : Vec Ideal S8x4608x512 .i32) (ix3 k n l)
def aw (n : Fin 16896) (k : Fin 8) : EReal := (m ((c : Thread nD τ).loc main_arg1) : Vec Ideal S16896x8 .f32) (ix2 n k)
def ahs (n : Fin 16384) (l : Fin 1024) : EReal := (m ((c : Thread nD τ).loc main_arg2) : Vec Ideal S16384x1024 .f32) (ix2 n l)
def amd (b : Fin 2) (k : Fin 6144) : EReal := (m ((c : Thread nD τ).loc main_arg3) : Vec Ideal S2x6144 .f32) (ix2 b k)
def ag (k : Fin 1024) : EReal := (m ((c : Thread nD τ).loc main_arg4) : Vec Ideal S1024 .f32) (ix1 k)

/-- The arguments' row `n` of the prompt's last 4096, which all belong to the second sequence. -/
def arow (n : Fin 4096) : Row :=
  ⟨fun k => aye m c k ⟨n.val, by omega⟩, aw m c ⟨12288 + n.val, by omega⟩, ahs m c ⟨12288 + n.val, by omega⟩,
    fun k => amd m c 1 (Fin.ofNat 6144 (5120 + k.val))⟩

/-! ## The arrays the kernel is called with -/

theorem V_md (k : Fin 1024) : V m c main_v0 (ix4 1 5 0 k) = amd m c 1 (Fin.ofNat 6144 (5120 + k.val)) := by
  entry_read
  pointwise
  exact congrArg (fun j => (m ((c : Thread nD τ).loc main_arg3) : Vec Ideal S2x6144 .f32) (ix2 1 j))
    (Fin.ext (Nat.mod_eq_of_lt (by omega)).symm)

theorem V_g (k : Fin 1024) : V m c main_v1 (ix2 0 k) = ag m c k := by
  entry_read
  pointwise
  rfl

/-! ## The input blocks -/

theorem pt_lt (t : Fin cfg0.N) : t.val < 8 := lt_of_lt_of_eq t.isLt (show cfg0.N = 8 from N_0)

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 2) = 24 + t.val ∧ win0_1.index t (1 : Fin 2) = 0 :=
  (by decide +kernel : ∀ t : Fin grid0.N, _)
theorem idx2 : ∀ t : Fin cfg0.N, win0_2.index t (0 : Fin 2) = 24 + t.val ∧ win0_2.index t (1 : Fin 2) = 0 :=
  (by decide +kernel : ∀ t : Fin grid0.N, _)
theorem idx3 : ∀ t : Fin cfg0.N, win0_3.index t (0 : Fin 4) = 1 ∧ win0_3.index t (1 : Fin 4) = 0
    ∧ win0_3.index t (2 : Fin 4) = 0 ∧ win0_3.index t (3 : Fin 4) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 24 + t.val ∧ win0_5.index t (1 : Fin 2) = 0 :=
  (by decide +kernel : ∀ t : Fin grid0.N, _)

/-- Row `i` of grid point `t`, among the last 4096. -/
def rowOf (t : Fin cfg0.N) (i : Fin 512) : Fin 4096 := ⟨512 * t.val + i.val, by have := pt_lt t; omega⟩

theorem blk0 (t : Fin cfg0.N) (k : Fin 8) (i : Fin 512) (l : Fin 512) :
    (iblk m c 0 t : Vec Ideal S8x512x512 .i32) (ix3 k i l) = (arow m c (rowOf t i)).ye k l := by
  have ht := pt_lt t
  have e : iblk m c 0 t (ix3 k i l) = V m c main_arg0 (ix3 k (⟨512 * t.val + i.val, by omega⟩ : Fin 4608) l) := by blk_point [iblk, idx0 t]
  exact e.trans (congrFun (V_main_arg0 m c) _)
theorem blk1 (t : Fin cfg0.N) (i : Fin 512) (k : Fin 8) : iblk m c 1 t (ix2 i k) = (arow m c (rowOf t i)).w k := by
  have ht := pt_lt t
  have e : iblk m c 1 t (ix2 i k) = V m c main_arg1 (ix2 (⟨12288 + (512 * t.val + i.val), by omega⟩ : Fin 16896) k) := by blk_point [iblk, idx1 t]
  exact e.trans (congrFun (V_main_arg1 m c) _)
theorem blk2 (t : Fin cfg0.N) (i : Fin 512) (l : Fin 1024) : iblk m c 2 t (ix2 i l) = (arow m c (rowOf t i)).hs l := by
  have ht := pt_lt t
  have e : iblk m c 2 t (ix2 i l) = V m c main_arg2 (ix2 (⟨12288 + (512 * t.val + i.val), by omega⟩ : Fin 16384) l) := by blk_point [iblk, idx2 t]
  exact e.trans (congrFun (V_main_arg2 m c) _)
theorem blk3 (t : Fin cfg0.N) (i : Fin 512) (l : Fin 1024) : iblk m c 3 t (ix4 0 5 0 l) = (arow m c (rowOf t i)).sc l := by
  have e : iblk m c 3 t (ix4 0 5 0 l) = V m c main_v0 (ix4 1 5 0 l) := by blk_point [iblk, idx3 t]
  exact e.trans (V_md m c l)
theorem blk4 (t : Fin cfg0.N) (l : Fin 1024) : iblk m c 4 t (ix2 0 l) = ag m c l := by
  have e : iblk m c 4 t (ix2 0 l) = V m c main_v1 (ix2 0 l) := by blk_point [iblk, idx4 t]
  exact e.trans (V_g m c l)

/-! ## What a grid point leaves -/

/-- The last part of a block's modulation. -/
theorem ld_md (x : Vec Ideal S1x6x1x1024 .f32) (l : Fin 1024) :
    View.ld x (Rect.unit (s := S1x6x1x1024) ![0, 5, 0, 0] S1x1x1x1024.size inb_S1x6x1x1024_S1x1x1x1024_0_5_0_0) (ix4 0 0 0 l) = x (ix4 0 5 0 l) := by
  refine View.ld_unit_apply_of x _ _ _ _ _ fun a => ?_
  fin_cases a <;> simp [ix4]

theorem out_eq (i : grid0.Coords) (arg1 : Memref sig .tc .vmem S8x512x512 .i32) (harg1 : arg1.IsWhole) (arg2 : Memref sig .tc .vmem S512x8 .f32) (harg2 : arg2.IsWhole)
    (arg3 : Memref sig .tc .vmem S512x1024 .f32) (harg3 : arg3.IsWhole) (arg4 : Memref sig .tc .vmem S1x6x1x1024 .f32) (harg4 : arg4.IsWhole)
    (arg5 : Memref sig .tc .vmem S1x1024 .f32) (harg5 : arg5.IsWhole) (arg7 : Memref sig .tc .vmem S512x1024 .f32) (harg7 : arg7.IsWhole)
    (x0 : Vec Ideal S8x512x512 .i32) (x1 : Vec Ideal S512x8 .f32) (x2 : Vec Ideal S512x1024 .f32)
    (x3 : Vec Ideal S1x6x1x1024 .f32) (x4 : Vec Ideal S1x1024 .f32) :
    out0_A_5 c i arg1 harg1 arg2 harg2 arg3 harg3 arg4 harg4 arg5 harg5 arg7 harg7 x0 x1 x2 x3 x4
      = k0_pay7 x1 (k0_pay3 x1 (k0_pay1 x1 (expert x0 0) (expert x0 1) (expert x0 2)) (k0_pay2 x1)
      (expert x0 3) (expert x0 4) (expert x0 5)) (k0_pay4 x1) (k0_pay5 (expert x0 6)) (k0_pay6 (expert x0 6)) (expert x0 7)
      x2 (View.ld x3 (Rect.unit (s := S1x6x1x1024) ![0, 5, 0, 0] S1x1x1x1024.size inb_S1x6x1x1024_S1x1x1x1024_0_5_0_0)) x4 := by
  unfold out0_A_5
  rw [View.read_writes_eq_canon _ _ _ (cover0_A_5 c i arg1 harg1 arg2 harg2 arg3 harg3 arg4 harg4 arg5 harg5 arg7 harg7 x0 x1 x2 x3 x4)]
  unfold kernelRun0_A
  dsimp only
  sl_unfold_words
  dsimp only
  rw [View.canon_unit_zero zero2]
  simp only [View.readAt_eq_ld, harg1.read_unread, harg2.read_unread, harg3.read_unread, harg4.read_unread, harg5.read_unread,
    View.ld_unit_zero (S := S512x8) zero2, View.ld_unit_zero (S := S512x1024) zero2, View.ld_unit_zero (S := S1x1024) zero2]
  rfl

/-! ## The result -/

/-- The prompt's last 4096 rows. -/
theorem arr5_new (n : Fin 4096) (d : Fin 1024) :
    (dats m 0 c).arrAt 5 cfg0.N (ix2 (⟨12288 + n.val, by omega⟩ : Fin 16384) d) = out (arow m c n) (ag m c) d := by
  let t : Fin cfg0.N := ⟨n.val / 512, by rw [show cfg0.N = 8 from N_0]; omega⟩
  let i : Fin 512 := ⟨n.val % 512, by omega⟩
  have er : rowOf t i = n := Fin.ext (by show 512 * (n.val / 512) + n.val % 512 = n.val; omega)
  have ev : 512 * t.val + i.val = n.val := congrArg Fin.val er
  have e : ((cfg0.win 5).blk t).view.read (Elt Ideal) ((dats m 0 c).arrAt 5 cfg0.N) (ix2 i d)
      = (dats m 0 c).arrAt 5 cfg0.N (ix2 (⟨12288 + n.val, by omega⟩ : Fin 16384) d) := by blk_point [idx5 t]
  refine e.symm.trans ((congrFun (Value.blocks5 m c t (flush0_5 t)) (ix2 i d)).trans ?_)
  refine (congrFun ((Value.flushed5_A m c t).trans (congrArg _ (out_eq ..))) (ix2 i d)).trans ?_
  rw [← er]
  exact pay_out _ (expert (iblk m c 0 t)) _ _ _ i _ _ (blk1 m c t i) (fun k l => (expert_apply _ k i l).trans (blk0 m c t k i l))
    (blk2 m c t i) (fun l => (ld_md _ l).trans (blk3 m c t i l)) (blk4 m c t) d

/-- The rows before them are the argument's. -/
theorem arr5_old (r : Fin 16384) (h : r.val < 12288) (d : Fin 1024) :
    (dats m 0 c).arrAt 5 cfg0.N (ix2 r d) = (m ((c : Thread nD τ).loc main_arg5) : Vec Ideal S16384x1024 .f32) (ix2 r d) := by
  refine (Value.entry5 m c (ix2 r d) fun t _ hm => ?_).trans ?_
  · have ht := pt_lt t
    mem_blk [idx5 t] at hm
    have h1 : (24 + t.val) * 512 ≤ r.val := hm.1.1
    omega
  · show V m c main_v2 (ix2 r d) = _
    entry_read
    rfl

end Cert.Final.Prompt
-- ==== Proof.LastRef.lean ====
/- The plain statement of the last step on the prompt's last rows: its result, entry by entry. -/
module

public import proofs.«01_k».proof.Proof.FinalMath
public import proofs.«01_k».proof.Proof.Gen.Reference7Ideal.Run
public import Idealize.ShloMosaic.Lib.Pointwise
public import Idealize.ShloMosaic.Lib.Tactic.CleanTypes

@[expose] public section

set_option maxRecDepth 16384

noncomputable section

namespace Cert.Final.Prompt

open Idealize.ShloMosaic Idealize.ShloMosaic.TcCoe Idealize.SL.Sem
open Cert.Reference7Ideal Cert.Reference7Ideal.Gen

variable (ye : Vec Ideal S8x4608x512 .i32) (w : FVec Ideal S16896x8 .f32) (hs : FVec Ideal S16384x1024 .f32)
  (md : FVec Ideal S2x6144 .f32) (g : FVec Ideal S1024 .f32) (prev : FVec Ideal S16384x1024 .f32)

/-- The arguments' row `n` of the prompt's last 4096. -/
def refRow (n : Fin 4096) : Row :=
  ⟨fun k l => ye (ix3 k (⟨n.val, by omega⟩ : Fin 4608) l), fun k => w (ix2 (⟨12288 + n.val, by omega⟩ : Fin 16896) k),
    fun l => hs (ix2 (⟨12288 + n.val, by omega⟩ : Fin 16384) l), fun l => md (ix2 1 (Fin.ofNat 6144 (5120 + l.val)))⟩

/-- The eight experts' rows, weighted and added. -/
def rY : FVec Ideal S4096x1024 .f32 :=
  (Host.reduceAdd (mulf (concatenate S8x4096x1024 2 [⟨S8x4096x512, (bitcastToFloat (F := Ideal) .f32 (Host.shli (extractStridedSlice S8x4096x512 ![0, 0, 0] ye slices_S8x4608x512_S8x4096x512_0_0_0) (broadcastInDim S8x4096x512 ![] bcast_S_S8x4096x512 (constantI S_ 32 16#32))))⟩, ⟨S8x4096x512, (bitcastToFloat (F := Ideal) .f32 (andi (extractStridedSlice S8x4096x512 ![0, 0, 0] ye slices_S8x4608x512_S8x4096x512_0_0_0) (broadcastInDim S8x4096x512 ![] bcast_S_S8x4096x512 (constantI S_ 32 4294901760#32))))⟩] concatenates_S8x4096x512_S8x4096x512_S8x4096x1024_d2) (broadcastInDim S8x4096x1024 ![0, 1, 2] bcast_S8x4096x1_S8x4096x1024_0_1_2 (broadcastInDim S8x4096x1 ![0, 1] bcast_S8x4096_S8x4096x1_0_1 (transpose S8x4096 [1, 0] (extractStridedSlice S4096x8 ![12288, 0] w slices_S16896x8_S4096x8_12288_0) transposes_S4096x8_S8x4096_1_0)))) (constant S_ .f32 0x00000000#32) reducesTo_S8x4096x1024_S4096x1024_d0 h_S_)

/-- The rows with the experts added. -/
def rH : FVec Ideal S4096x1024 .f32 :=
  (addf (extractStridedSlice S4096x1024 ![12288, 0] hs slices_S16384x1024_S4096x1024_12288_0) (mulf (broadcastInDim S4096x1024 ![0, 1] bcast_S1x1024_S4096x1024_0_1 (extractStridedSlice S1x1024 ![0, 5120] (extractStridedSlice S1x6144 ![1, 0] md slices_S2x6144_S1x6144_1_0) slices_S1x6144_S1x1024_0_5120)) (rY ye w)))

/-- The rows normalised. -/
def rOut : FVec Ideal S4096x1024 .f32 :=
  (mulf (mulf (rH ye w hs md) (broadcastInDim S4096x1024 ![0, 1] bcast_S4096x1_S4096x1024_0_1 (Host.rsqrt (addf (Host.divf (broadcastInDim S4096x1 ![0] bcast_S4096_S4096x1_0 (Host.reduceAdd (mulf (rH ye w hs md) (rH ye w hs md)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g)))

/-- The rows given, and the new ones after them. -/
def rAll : FVec Ideal S16384x1024 .f32 :=
  concatenate S16384x1024 0 [⟨S12288x1024, (extractStridedSlice S12288x1024 ![0, 0] prev slices_S16384x1024_S12288x1024_0_0)⟩, ⟨S4096x1024, (rOut ye w hs md g)⟩] concatenates_S12288x1024_S4096x1024_S16384x1024_d0

theorem rY_apply (n : Fin 4096) (d : Fin 1024) : rY ye w (ix2 n d)
    = ∑ k, w (ix2 (⟨12288 + n.val, by omega⟩ : Fin 16896) k) * half (fun l => ye (ix3 k (⟨n.val, by omega⟩ : Fin 4608) l)) d := by
  unfold rY
  pointwise
  refine Finset.sum_congr rfl fun k _ => ?_
  rw [mul_comm]
  rfl

theorem rH_apply (n : Fin 4096) (d : Fin 1024) : rH ye w hs md (ix2 n d) = hrow (refRow ye w hs md n) d := by
  unfold rH
  pointwise
  simp only [rY_apply ye w]
  exact congrArg (fun q => _ + md (ix2 1 q) * _) (Fin.ext (Nat.mod_eq_of_lt (by omega)).symm)

theorem rOut_apply (n : Fin 4096) (d : Fin 1024) :
    rOut ye w hs md g (ix2 n d) = out (refRow ye w hs md n) (fun k => g (ix1 k)) d := by
  unfold rOut
  pointwise
  simp only [rH_apply ye w hs md]
  rfl

theorem rAll_old (r : Fin 16384) (h : r.val < 12288) (d : Fin 1024) : rAll ye w hs md g prev (ix2 r d) = prev (ix2 r d) := by
  unfold rAll
  pointwise
  rw [dif_pos h]

theorem rAll_new (n : Fin 4096) (d : Fin 1024) : rAll ye w hs md g prev (ix2 (⟨12288 + n.val, by omega⟩ : Fin 16384) d)
    = out (refRow ye w hs md n) (fun k => g (ix1 k)) d := by
  unfold rAll
  pointwise
  exact rOut_apply ye w hs md g n d

end Cert.Final.Prompt
-- ==== Proof.LastAlg.lean ====
/- The last call of the last step on the prompt: the kernel's result and the plain statement's are equal. -/
module

public import proofs.«01_k».proof.Proof.LastRun
public import proofs.«01_k».proof.Proof.LastRef
public import proofs.«01_k».proof.Proof.Inputs
public import proofs.«01_k».proof.Defs
public import proofs.«01_k».proof.Proof.Gen.Kernel7
public import proofs.«01_k».proof.Proof.Gen.Kernel7.Frame
public import proofs.«01_k».proof.Proof.Gen.Reference7Ideal
public import Idealize.ShloMosaic.Adequacy
public import Idealize.ShloMosaic.Init

@[expose] public section

set_option maxRecDepth 16384

noncomputable section

namespace Cert.Final.Prompt

open Idealize.ShloMosaic Idealize.ShloMosaic.TcCoe Idealize.SL.Sem

section
variable {m : (ℓ : Loc Cert.Kernel7Ideal.nD Cert.Kernel7Ideal.τ Cert.Kernel7Ideal.sig) → Buf (Elt Ideal) ℓ}
  {m' : (ℓ : Loc Cert.Reference7Ideal.nD Cert.Reference7Ideal.τ Cert.Reference7Ideal.sig) → Buf (Elt Ideal) ℓ}
  {c : Dev Cert.Kernel7Ideal.nD}

/-- The plain statement's result as one array of its arguments. -/
theorem ref_eq : Cert.Reference7Ideal.Value.res_main_v39 m' c = rAll (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) := rfl

/-- A row of equal arguments is the same. -/
theorem row_eq
    (h0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))
    (h1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
    (h2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
    (h3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3))
    (n : Fin 4096) :
    refRow (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) n = arow m c n := by
  rw [h0, h1, h2, h3]
  rfl
end

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

/-- The kernel's result and the plain statement's are equal. -/
theorem algebraic : Cert.algebraic_Kernel7Ideal_Reference7Ideal := by
  intro m ρ m' ρ' _ hag
  refine ⟨fun c => (Cert.Kernel7Ideal.Gen.dats m 0 c).arrAt 5 Cert.Kernel7Ideal.cfg0.N,
    (θ_run Cert.Kernel7Ideal.defs _ _).mono (fun r h c => ?_) (Cert.Kernel7Ideal.Value.run_blocks m ρ),
    (θ_run Cert.Reference7Ideal.defs _ _).mono (fun r h c => ?_) (Cert.Reference7Ideal.Value.run (F := Ideal) m' ρ')⟩
  · exact h c
  · obtain ⟨h0, h1, h2, h3, h4, h5⟩ := hag c
    obtain ⟨e, ha⟩ := h c
    refine ⟨e.trans (Retention.ext2 fun r d => ?_), ha⟩
    rw [ref_eq]
    by_cases hr : r.val < 12288
    · exact (rAll_old _ _ _ _ _ _ r hr d).trans ((congrFun h5 _).trans (arr5_old m c r hr d).symm)
    · obtain ⟨n, hn⟩ : ∃ n : Fin 4096, (⟨12288 + n.val, by omega⟩ : Fin 16384) = r :=
        ⟨⟨r.val - 12288, by omega⟩, Fin.ext (by show 12288 + (r.val - 12288) = r.val; omega)⟩
      rw [← hn]
      refine (rAll_new _ _ _ _ _ _ n d).trans (Eq.trans ?_ (arr5_new m c n d).symm)
      rw [row_eq h0 h1 h2 h3 n, h4]
      rfl

end Cert.Final.Prompt
-- ==== Proof.ModMath.lean ====
/- The modulation: one entry as a function of a row of conditions and a column of weights. -/
module

public import Idealize.ShloMosaic.Lib.Pointwise

@[expose] public section

set_option maxRecDepth 16384

noncomputable section

namespace Cert.Modulation

open Idealize.ShloMosaic Idealize.ShloMosaic.TcCoe Idealize.SL.Sem

/-- The rows of conditions: the prompt's two, the sample's 32, and six rows of zeros. -/
def cond (cp : Fin 2 → Fin 1024 → EReal) (cs : Fin 32 → Fin 1024 → EReal) (n : Fin 40) (k : Fin 1024) : EReal :=
  if h : n.val < 2 then cp ⟨n.val, h⟩ k else if h' : n.val < 34 then cs ⟨n.val - 2, by omega⟩ k else 0

/-- A row's `silu`, times a column of weights, plus the offset. -/
def entry (x : Fin 1024 → EReal) (w : Fin 1024 → EReal) (b : EReal) : EReal := (∑ k, x k * Ideal.logistic (x k) * w k) + b

end Cert.Modulation
-- ==== Proof.ModRun.lean ====
/- The modulation's kernel: its blocks as parts of the arguments, and its result, entry by entry. -/
module

public import proofs.«01_k».proof.Proof.ModMath
public import proofs.«01_k».proof.Proof.Gen.Kernel8Ideal.Value
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.Modulation

open Idealize.ShloMosaic Idealize.ShloMosaic.TcCoe Idealize.SL.Sem
open Cert.Kernel8Ideal Cert.Kernel8Ideal.Gen

/-- One entry of a block. -/
theorem pay_apply (x : FVec Ideal S40x1024 .f32) (w : FVec Ideal S1024x1024 .f32) (b : FVec Ideal S1x1024 .f32) (n : Fin 40) (j : Fin 1024) :
    k0_pay1 (F := Ideal) x w b (ix2 n j) = entry (fun k => x (ix2 n k)) (fun k => w (ix2 k j)) (b (ix2 0 j)) := by
  unfold k0_pay1
  pointwise
  rfl

variable (m : (ℓ : Loc nD τ sig) → Buf (Elt Ideal) ℓ) (c : Dev nD)

/-! ## The arguments -/

def acp (n : Fin 2) (k : Fin 1024) : EReal := (m ((c : Thread nD τ).loc main_arg0) : Vec Ideal S2x1024 .f32) (ix2 n k)
def acs (n : Fin 32) (k : Fin 1024) : EReal := (m ((c : Thread nD τ).loc main_arg1) : Vec Ideal S32x1024 .f32) (ix2 n k)
def aw (k : Fin 1024) (j : Fin 6144) : EReal := (m ((c : Thread nD τ).loc main_arg2) : Vec Ideal S1024x6144 .f32) (ix2 k j)
def ab (j : Fin 6144) : EReal := (m ((c : Thread nD τ).loc main_arg3) : Vec Ideal S6144 .f32) (ix1 j)

/-! ## The arrays the kernel is called with -/

theorem V_cond : V m c main_v1 = pad S40x1024 ![0, 0] ![6, 0] ![0, 0] (concatenate S34x1024 0
    [⟨S2x1024, (m ((c : Thread nD τ).loc main_arg0) : Vec Ideal S2x1024 .f32)⟩, ⟨S32x1024, (m ((c : Thread nD τ).loc main_arg1) : Vec Ideal S32x1024 .f32)⟩]
    concatenates_S2x1024_S32x1024_S34x1024_d0) (sitofp (F := Ideal) .f32 (constantI S_ 32 0#32)) pads_S34x1024_S40x1024_060_000 h_S_ := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem V_offset : V m c main_v2 = shapeCast S1x6144 (m ((c : Thread nD τ).loc main_arg3) : Vec Ideal S6144 .f32) shapeCasts_S6144_S1x6144 := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem V_c (n : Fin 40) (k : Fin 1024) : V m c main_v1 (ix2 n k) = cond (acp m c) (acs m c) n k := by
  rw [V_cond]
  unfold cond
  pointwise
  have z : (FloatOps.sitofp .f32 (0#32) : Ideal .f32) = (0 : EReal) := by
    show ((((0#32 : BitVec 32).toInt : ℤ) : ℝ) : EReal) = 0
    simp
  by_cases h : n.val < 2
  · rw [dif_pos (by omega), dif_pos h, dif_pos h]
    rfl
  · by_cases h' : n.val < 34
    · rw [dif_pos h', dif_neg h, dif_neg h, dif_pos h']
      rfl
    · rw [dif_neg h', dif_neg h, dif_neg h', z]

set_option maxRecDepth 65536 in
theorem V_b (j : Fin 6144) : V m c main_v2 (ix2 0 j) = ab m c j := by
  rw [V_offset]
  pointwise
  rfl

/-! ## The input blocks -/

theorem pt_lt (t : Fin cfg0.N) : t.val < 6 := lt_of_lt_of_eq t.isLt (show cfg0.N = 6 from N_0)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- Column `j` of grid point `t`. -/
def colOf (t : Fin cfg0.N) (j : Fin 1024) : Fin 6144 := ⟨1024 * t.val + j.val, by have := pt_lt t; omega⟩

theorem blk0 (t : Fin cfg0.N) (n : Fin 40) (k : Fin 1024) : iblk m c 0 t (ix2 n k) = cond (acp m c) (acs m c) n k := by
  have e : iblk m c 0 t (ix2 n k) = V m c main_v1 (ix2 n k) := by blk_point [iblk, idx0 t]
  exact e.trans (V_c m c n k)
theorem blk1 (t : Fin cfg0.N) (k j : Fin 1024) : iblk m c 1 t (ix2 k j) = aw m c k (colOf t j) := by
  have ht := pt_lt t
  have e : iblk m c 1 t (ix2 k j) = V m c main_arg2 (ix2 k (⟨1024 * t.val + j.val, by omega⟩ : Fin 6144)) := by blk_point [iblk, idx1 t]
  exact e.trans (congrFun (V_main_arg2 m c) _)
theorem blk2 (t : Fin cfg0.N) (j : Fin 1024) : iblk m c 2 t (ix2 0 j) = ab m c (colOf t j) := by
  have ht := pt_lt t
  have e : iblk m c 2 t (ix2 0 j) = V m c main_v2 (ix2 0 (⟨1024 * t.val + j.val, by omega⟩ : Fin 6144)) := by blk_point [iblk, idx2 t]
  exact e.trans (V_b m c _)

/-! ## The result -/

theorem zero2 : (![0, 0] : Fin 2 → Nat) = fun _ => 0 := funext fun a => by fin_cases a <;> rfl

theorem out_eq (x0 : Vec Ideal S40x1024 .f32) (x1 : Vec Ideal S1024x1024 .f32) (x2 : Vec Ideal S1x1024 .f32) :
    out0_3 x0 x1 x2 = k0_pay1 x0 x1 x2 := by
  unfold out0_3
  rw [View.canon_unit_zero zero2]
  simp only [View.ld_unit_zero (S := S40x1024) zero2, View.ld_unit_zero (S := S1024x1024) zero2, View.ld_unit_zero (S := S1x1024) zero2]

theorem arr3 (n : Fin 40) (j : Fin 6144) : (dats m 0 c).arrAt 3 cfg0.N (ix2 n j)
    = entry (cond (acp m c) (acs m c) n) (fun k => aw m c k j) (ab m c j) := by
  let t : Fin cfg0.N := ⟨j.val / 1024, by rw [show cfg0.N = 6 from N_0]; omega⟩
  let i : Fin 1024 := ⟨j.val % 1024, by omega⟩
  have ev : 1024 * t.val + i.val = j.val := by show 1024 * (j.val / 1024) + j.val % 1024 = j.val; omega
  have er : colOf t i = j := Fin.ext ev
  have e : ((cfg0.win 3).blk t).view.read (Elt Ideal) ((dats m 0 c).arrAt 3 cfg0.N) (ix2 n i)
      = (dats m 0 c).arrAt 3 cfg0.N (ix2 n j) := by blk_point [idx3 t]
  refine e.symm.trans ((congrFun (Value.blocks3 m c t (flush0_3 t)) (ix2 n i)).trans ?_)
  refine (congrFun ((Value.flushed3 m c t).trans (congrArg _ (out_eq ..))) (ix2 n i)).trans ?_
  refine (pay_apply _ _ _ n i).trans ?_
  simp only [blk0 m c t, blk1 m c t, blk2 m c t, er]

end Cert.Modulation
-- ==== Proof.ModAlg.lean ====
/- The modulation: the kernel's result and the plain statement's are equal. -/
module

public import proofs.«01_k».proof.Proof.ModRun
public import proofs.«01_k».proof.Proof.Inputs
public import proofs.«01_k».proof.Defs
public import proofs.«01_k».proof.Proof.Gen.Kernel8
public import proofs.«01_k».proof.Proof.Gen.Kernel8.Frame
public import proofs.«01_k».proof.Proof.Gen.Reference8Ideal
public import proofs.«01_k».proof.Proof.Gen.Reference8Ideal.Run
public import Idealize.ShloMosaic.Adequacy
public import Idealize.ShloMosaic.Init

@[expose] public section

set_option maxRecDepth 16384

noncomputable section

namespace Cert.Modulation

open Idealize.ShloMosaic Idealize.ShloMosaic.TcCoe Idealize.SL.Sem

section
open Cert.Reference8Ideal Cert.Reference8Ideal.Gen

variable (cp : FVec Ideal S2x1024 .f32) (cs : FVec Ideal S32x1024 .f32) (w : FVec Ideal S1024x6144 .f32) (b : FVec Ideal S6144 .f32)

/-- The rows of conditions. -/
def rC : FVec Ideal S40x1024 .f32 :=
  concatenate S40x1024 0 [⟨S2x1024, cp⟩, ⟨S32x1024, cs⟩, ⟨S6x1024, broadcastInDim S6x1024 ![] bcast_S_S6x1024 (constant (F := Ideal) S_ .f32 0x00000000#32)⟩] concatenates_S2x1024_S32x1024_S6x1024_S40x1024_d0

/-- The plain statement's result. -/
def rMod : FVec Ideal S40x6144 .f32 :=
  addf (Host.dotGeneral dot_S40x1024_S1024x6144_S40x6144_1_0_0_1_n_n none (mulf (rC cp cs) (Host.divf (broadcastInDim S40x1024 ![] bcast_S_S40x1024 (constant S_ .f32 0x3F800000#32)) (addf (broadcastInDim S40x1024 ![] bcast_S_S40x1024 (constant S_ .f32 0x3F800000#32)) (Host.exp (Host.negf (rC cp cs)))))) w) (broadcastInDim S40x6144 ![0, 1] bcast_S1x6144_S40x6144_0_1 (broadcastInDim S1x6144 ![1] bcast_S6144_S1x6144_1 b))

theorem rC_apply (n : Fin 40) (k : Fin 1024) : rC cp cs (ix2 n k) = cond (fun n k => cp (ix2 n k)) (fun n k => cs (ix2 n k)) n k := by
  unfold rC cond
  pointwise
  by_cases h : n.val < 2
  · rw [dif_pos h, dif_pos h]
  · by_cases h' : n.val < 34
    · rw [dif_neg h, dif_neg h, dif_pos (by omega), dif_pos h']
    · rw [dif_neg h, dif_neg h, dif_neg (by omega), dif_neg h']

theorem rMod_apply (n : Fin 40) (j : Fin 6144) : rMod cp cs w b (ix2 n j)
    = entry (cond (fun n k => cp (ix2 n k)) (fun n k => cs (ix2 n k)) n) (fun k => w (ix2 k j)) (b (ix1 j)) := by
  unfold rMod
  pointwise
  simp only [rC_apply]
  rfl
end

/-- The plain statement runs to its end. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The ideal form is the kernel as printed. -/
theorem preserves : Cert.preserves_Kernel8_Kernel8Ideal := trivial

/-- The kernel's result and the plain statement's are equal. -/
theorem algebraic : Cert.algebraic_Kernel8Ideal_Reference8Ideal := by
  intro m ρ m' ρ' _ hag
  refine ⟨fun c => (Cert.Kernel8Ideal.Gen.dats m 0 c).arrAt 3 Cert.Kernel8Ideal.cfg0.N,
    (θ_run Cert.Kernel8Ideal.defs _ _).mono (fun r h c => ?_) (Cert.Kernel8Ideal.Value.run_blocks m ρ),
    (θ_run Cert.Reference8Ideal.defs _ _).mono (fun r h c => ?_) (Cert.Reference8Ideal.Value.run (F := Ideal) m' ρ')⟩
  · exact h c
  · obtain ⟨h0, h1, h2, h3⟩ := hag c
    obtain ⟨e, ha⟩ := h c
    have e' : r.2.mem ((c.tc : Thread Cert.Reference8Ideal.nD Cert.Reference8Ideal.τ).loc Cert.Reference8Ideal.main_v6)
        = rMod (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) := e
    refine ⟨e'.trans (Retention.ext2 fun n j => ?_), ha⟩
    refine (rMod_apply _ _ _ _ n j).trans (Eq.trans ?_ (arr3 m c n j).symm)
    rw [h0, h1, h2, h3]
    rfl

end Cert.Modulation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.KernelRun
public import proofs.«01_k».proof.Proof.RefRun
public import proofs.«01_k».proof.Proof.Finite
public import proofs.«01_k».proof.Proof.InAlg
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3.Frame
public import proofs.«01_k».proof.Proof.SampAlg
public import proofs.«01_k».proof.Proof.Gen.Kernel3
public import proofs.«01_k».proof.Proof.Gen.Kernel3Ideal
public import proofs.«01_k».proof.Proof.Gen.Kernel3Ideal.Frame
public import Idealize.ShloMosaic.Adequacy
public import Idealize.ShloMosaic.Init
public import proofs.«01_k».proof.Proof.PostAlg
public import proofs.«01_k».proof.Proof.SampPostAlg
public import proofs.«01_k».proof.Proof.FinalAlg
public import proofs.«01_k».proof.Proof.LastAlg
public import proofs.«01_k».proof.Proof.ModAlg
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run

@[expose] public section

noncomputable section

namespace Cert.Proof

open Idealize.ShloMosaic Idealize.ShloMosaic.TcCoe Idealize.SL.Sem
open Cert.Retention

/-- The reference runs and keeps its arguments: its run's equations, read at the arguments; the counters because it
    declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Each named constant is the value it is named with. -/
theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl⟩

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- The reference's outputs are the kernel's. -/
theorem y_eq (hr : RealInputs m c) (hr' : RealArgs m' c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.out_main_v38 (Cert.ReferenceIdeal.Value.STEP^[128] (StableHlo.entryContents Cert.ReferenceIdeal.Value.preI m' c))
      = Cert.KernelIdeal.Value.G5 m c := by
  have hQ : Qa m' c = Qr m c := by unfold Qa Qr; rw [h0]
  have hK : Ka m' c = Kr m c := by unfold Ka Kr; rw [h1]
  have hV : Va m' c = Vr m c := by unfold Va Vr; rw [h2]
  refine ext2 fun r d => ?_
  exact (ref_y hr' r d).trans ((by rw [hQ, hK, hV, h3] : _ = _).trans (G5_apply hr r d).symm)

/-- The reference's states are the kernel's. -/
theorem s_eq (hr : RealInputs m c) (hr' : RealArgs m' c)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.out_main_v39 (Cert.ReferenceIdeal.Value.STEP^[128] (StableHlo.entryContents Cert.ReferenceIdeal.Value.preI m' c))
      = Cert.KernelIdeal.Value.G6 m c := by
  have hK : Ka m' c = Kr m c := by unfold Ka Kr; rw [h1]
  have hV : Va m' c = Vr m c := by unfold Va Vr; rw [h2]
  refine ext4 fun b p d e => ?_
  exact (ref_s hr' b p d e).trans ((by rw [hK, hV] : _ = _).trans (G6_apply hr b p d e).symm)
end

/-- The kernel's results and the reference's are equal, of real queries, keys and values. -/
theorem algebraic : Cert.algebraic_KernelIdeal_ReferenceIdeal_pre_finite := by
  intro m ρ m' ρ' hpre hag
  have hr : ∀ c, RealInputs m c := fun c => by
    obtain ⟨hq, hk, hv⟩ := real_of_finite _ _ _ _ (hpre c)
    exact ⟨hq, hk, hv⟩
  have hr' : ∀ c : Dev Cert.KernelIdeal.nD, RealArgs m' c := fun c => by
    obtain ⟨h0, h1, h2, -⟩ := hag c
    refine ⟨?_, ?_, ?_⟩
    · rw [h0]; exact (hr c).q
    · rw [h1]; exact (hr c).k
    · rw [h2]; exact (hr c).v
  refine ⟨fun c => Cert.KernelIdeal.Value.G5 m c, fun c => Cert.KernelIdeal.Value.G6 m c, Cert.KernelIdeal.Value.run m ρ,
    (θ_run Cert.ReferenceIdeal.defs _ _).mono (fun r h c => ?_) (Cert.ReferenceIdeal.Value.run (F := Ideal) m' ρ')⟩
  obtain ⟨h0, h1, h2, h3⟩ := hag c
  obtain ⟨hy, hs, ha⟩ := h c
  exact ⟨hy.trans (y_eq (hr c) (hr' c) h0 h1 h2 h3), hs.trans (s_eq (hr c) (hr' c) h1 h2), ha⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, Cert.Projections.frame_reference2,
  fun m ρ _ => Cert.Kernel3.Gen.frame m ρ, fun m ρ _ => Cert.Kernel3Ideal.Gen.frame m ρ, Cert.Projections.Sample.frame_reference,
  fun m ρ _ => Cert.Kernel4.Gen.frame m ρ, fun m ρ _ => Cert.Kernel4Ideal.Gen.frame m ρ, Cert.AfterMixing.frame_reference,
  fun m ρ _ => Cert.Kernel5.Gen.frame m ρ, fun m ρ _ => Cert.Kernel5Ideal.Gen.frame m ρ, Cert.AfterMixing.Sample.frame_reference,
  fun m ρ _ => Cert.Kernel6.Gen.frame m ρ, fun m ρ _ => Cert.Kernel6Ideal.Gen.frame m ρ, Cert.Final.frame_reference,
  fun m ρ _ => Cert.Kernel7.Gen.frame m ρ, fun m ρ _ => Cert.Kernel7Ideal.Gen.frame m ρ, Cert.Final.Prompt.frame_reference,
  fun m ρ _ => Cert.Kernel8.Gen.frame m ρ, fun m ρ _ => Cert.Kernel8Ideal.Gen.frame m ρ, Cert.Modulation.frame_reference,
  preserves, algebraic, Cert.Projections.preserves2, Cert.Projections.algebraic2,
  Cert.Projections.Sample.preserves, Cert.Projections.Sample.algebraic,
  Cert.AfterMixing.preserves, Cert.AfterMixing.algebraic,
  Cert.AfterMixing.Sample.preserves, Cert.AfterMixing.Sample.algebraic,
  Cert.Final.preserves, Cert.Final.algebraic, Cert.Final.Prompt.preserves, Cert.Final.Prompt.algebraic,
  Cert.Modulation.preserves, Cert.Modulation.algebraic⟩

end Cert.Proof

end
